-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S1x16 : Shape := ⟨2, ![1, 16]⟩
abbrev S1x32 : Shape := ⟨2, ![1, 32]⟩
abbrev S4096x2048 : Shape := ⟨2, ![4096, 2048]⟩
abbrev S16x256x1024 : Shape := ⟨3, ![16, 256, 1024]⟩
abbrev S2x128x1024 : Shape := ⟨3, ![2, 128, 1024]⟩
abbrev S15x4 : Shape := ⟨2, ![15, 4]⟩
abbrev S2x4 : Shape := ⟨2, ![2, 4]⟩
abbrev S1x1x32 : Shape := ⟨3, ![1, 1, 32]⟩
abbrev S1 : Shape := ⟨1, ![1]⟩
abbrev S1x1x1 : Shape := ⟨3, ![1, 1, 1]⟩
abbrev S1x1x16 : Shape := ⟨3, ![1, 1, 16]⟩
abbrev S_ : Shape := ⟨0, ![]⟩
abbrev S256x128 : Shape := ⟨2, ![256, 128]⟩
abbrev S128x1024 : Shape := ⟨2, ![128, 1024]⟩
abbrev S256x1024 : Shape := ⟨2, ![256, 1024]⟩
abbrev S1x256x1024 : Shape := ⟨3, ![1, 256, 1024]⟩
abbrev S1x1 : Shape := ⟨2, ![1, 1]⟩
abbrev S1x256x256 : Shape := ⟨3, ![1, 256, 256]⟩
abbrev S256x256 : Shape := ⟨2, ![256, 256]⟩
abbrev S256x2048 : Shape := ⟨2, ![256, 2048]⟩
abbrev S1x128x256 : Shape := ⟨3, ![1, 128, 256]⟩
abbrev S128x256 : Shape := ⟨2, ![128, 256]⟩

abbrev nBuf : Space → Nat
  | .hbm => 6
  | .vmem => 11
  | .smem => 0
  | _ => 0

abbrev bufTy : (tb : Table) → Fin (tcTables nBuf tb) → BufTy
  | .hbm, ⟨0, _⟩ => ⟨S4096x128, .bf16⟩
  | .hbm, ⟨1, _⟩ => ⟨S128x2048, .bf16⟩
  | .hbm, ⟨2, _⟩ => ⟨S1x16, .i32⟩
  | .hbm, ⟨3, _⟩ => ⟨S1x16, .i32⟩
  | .hbm, ⟨4, _⟩ => ⟨S1x32, .i32⟩
  | .hbm, ⟨5, _⟩ => ⟨S128x2048, .f32⟩
  | .local _ .vmem, ⟨0, _⟩ => ⟨S4096x128, .bf16⟩
  | .local _ .vmem, ⟨1, _⟩ => ⟨S128x2048, .bf16⟩
  | .local _ .vmem, ⟨2, _⟩ => ⟨S1x16, .i32⟩
  | .local _ .vmem, ⟨3, _⟩ => ⟨S1x16, .i32⟩
  | .local _ .vmem, ⟨4, _⟩ => ⟨S1x32, .i32⟩
  | .local _ .vmem, ⟨5, _⟩ => ⟨S128x2048, .f32⟩
  | .local _ .vmem, ⟨6, _⟩ => ⟨S128x2048, .bf16⟩
  | .local _ .vmem, ⟨7, _⟩ => ⟨S4096x2048, .bf16⟩
  | .local _ .vmem, ⟨8, _⟩ => ⟨S16x256x1024, .bf16⟩
  | .local _ .vmem, ⟨9, _⟩ => ⟨S16x256x1024, .bf16⟩
  | .local _ .vmem, ⟨10, _⟩ => ⟨S2x128x1024, .bf16⟩
  | _, _ => ⟨S4096x128, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 262 → Bool
  | ⟨i, _⟩ => dmaSemScopedAt i

abbrev sig : RefSig :=
  (ofTc nBuf bufTy 1 262 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) (v59 : BitVec 32) (v68 : BitVec 32) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_31 : BitVec 32 := 1#32
  let v71 : BitVec 32 := Scalar.muli v69 c1_i32_31
  let v72 : BitVec 32 := Scalar.addi c0_i32_32 v71
  v72.toNat

def k0_dev2 (d0 : Dev nD) (v36 : BitVec 32) (v45 : BitVec 32) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_34 : BitVec 32 := 1#32
  let v73 : BitVec 32 := Scalar.muli v46 c1_i32_34
  let v74 : BitVec 32 := Scalar.addi c0_i32_35 v73
  v74.toNat

def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v21 : BitVec 32 := Scalar.addi v2 c1_i32_5
  let c2_i32_7 : BitVec 32 := 2#32
  let c2_i32_6 : BitVec 32 := 2#32
  let v22 : BitVec 32 := Scalar.remsi v2 c2_i32_6
  let v23 : BitVec 32 := Scalar.muli c2_i32_7 v22
  let v24 : BitVec 32 := Scalar.subi v21 v23
  let c1_i32_37 : BitVec 32 := 1#32
  let v75 : BitVec 32 := Scalar.muli v24 c1_i32_37
  let v76 : BitVec 32 := Scalar.addi c0_i32_38 v75
  v76.toNat
def k0_off1 (v93 : BitVec 32) : Fin 2 → Nat :=
  let c2_i32_50 : BitVec 32 := 2#32
  let v94 : BitVec 32 := Scalar.remsi v93 c2_i32_50
  let v95 : BitVec 32 := Scalar.subi v93 v94
  let c128_i32 : BitVec 32 := 128#32
  let v96 : BitVec 32 := Scalar.muli v95 c128_i32
  let v97 : Index := Scalar.indexCast v96
  let c0_51 : Index := 0#32
  ![v97.toNat, 0]

def k0_chk3 (v93 : BitVec 32) : Prop :=
  (∀ a, (k0_off1 v93) a + S256x128.size a ≤ S4096x128.size a)
theorem k0_off1_inb : ∀ (v93 : BitVec 32) (k0_hw3 : k0_chk3 v93), ∀ a, (k0_off1 v93) a + S256x128.size a ≤ S4096x128.size a := fun v93 k0_hw3 => k0_hw3

def k0_off2 (v110 : BitVec 32) : Fin 2 → Nat :=
  let c2_i32_58 : BitVec 32 := 2#32
  let v111 : BitVec 32 := Scalar.remsi v110 c2_i32_58
  let v112 : BitVec 32 := Scalar.subi v110 v111
  let c128_i32_59 : BitVec 32 := 128#32
  let v113 : BitVec 32 := Scalar.muli v112 c128_i32_59
  let v114 : Index := Scalar.indexCast v113
  let c0_60 : Index := 0#32
  ![v114.toNat, 0]

def k0_chk4 (v110 : BitVec 32) : Prop :=
  (∀ a, (k0_off2 v110) a + S256x128.size a ≤ S4096x128.size a)
theorem k0_off2_inb : ∀ (v110 : BitVec 32) (k0_hw4 : k0_chk4 v110), ∀ a, (k0_off2 v110) a + S256x128.size a ≤ S4096x128.size a := fun v110 k0_hw4 => k0_hw4

def k0_dev4 (d0 : Dev nD) (v36 : BitVec 32) (v45 : BitVec 32) : Nat :=
  let c0_i32_77 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_76 : BitVec 32 := 1#32
  let v129 : BitVec 32 := Scalar.muli v46 c1_i32_76
  let v130 : BitVec 32 := Scalar.addi c0_i32_77 v129
  v130.toNat
def k0_dev5 (d0 : Dev nD) (v59 : BitVec 32) (v68 : BitVec 32) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_88 : BitVec 32 := 1#32
  let v139 : BitVec 32 := Scalar.muli v69 c1_i32_88
  let v140 : BitVec 32 := Scalar.addi c0_i32_89 v139
  v140.toNat
def k0_dev6 (d0 : Dev nD) (v36 : BitVec 32) (v45 : BitVec 32) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_100 : BitVec 32 := 1#32
  let v149 : BitVec 32 := Scalar.muli v46 c1_i32_100
  let v150 : BitVec 32 := Scalar.addi c0_i32_101 v149
  v150.toNat
def k0_dev7 (d0 : Dev nD) (v59 : BitVec 32) (v68 : BitVec 32) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_111 : BitVec 32 := 1#32
  let v159 : BitVec 32 := Scalar.muli v69 c1_i32_111
  let v160 : BitVec 32 := Scalar.addi c0_i32_112 v159
  v160.toNat
def k0_dev8 (d0 : Dev nD) (v36 : BitVec 32) (v45 : BitVec 32) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_123 : BitVec 32 := 1#32
  let v169 : BitVec 32 := Scalar.muli v46 c1_i32_123
  let v170 : BitVec 32 := Scalar.addi c0_i32_124 v169
  v170.toNat
def k0_dev9 (d0 : Dev nD) (v59 : BitVec 32) (v68 : BitVec 32) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_134 : BitVec 32 := 1#32
  let v179 : BitVec 32 := Scalar.muli v69 c1_i32_134
  let v180 : BitVec 32 := Scalar.addi c0_i32_135 v179
  v180.toNat
def k0_dev10 (d0 : Dev nD) (v36 : BitVec 32) (v45 : BitVec 32) : Nat :=
  let c0_i32_147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_146 : BitVec 32 := 1#32
  let v189 : BitVec 32 := Scalar.muli v46 c1_i32_146
  let v190 : BitVec 32 := Scalar.addi c0_i32_147 v189
  v190.toNat
def k0_dev11 (d0 : Dev nD) (v59 : BitVec 32) (v68 : BitVec 32) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_157 : BitVec 32 := 1#32
  let v199 : BitVec 32 := Scalar.muli v69 c1_i32_157
  let v200 : BitVec 32 := Scalar.addi c0_i32_158 v199
  v200.toNat
def k0_off3 (v13 : BitVec 32) (c0_i32_266 : BitVec 32) : Fin 2 → Nat :=
  let v342 : BitVec 32 := Scalar.subi v13 c0_i32_266
  let c2_i32_267 : BitVec 32 := 2#32
  let v343 : BitVec 32 := Scalar.subi v342 c2_i32_267
  let c64_i32 : BitVec 32 := 64#32
  let v344 : BitVec 32 := Scalar.addi v343 c64_i32
  let c16_i32_268 : BitVec 32 := 16#32
  let v345 : BitVec 32 := Scalar.remsi v344 c16_i32_268
  let c256_i32_269 : BitVec 32 := 256#32
  let v346 : BitVec 32 := Scalar.muli v345 c256_i32_269
  let v347 : Index := Scalar.indexCast v346
  let c0_270 : Index := 0#32
  ![v347.toNat, 0]

def k0_off4 (v13 : BitVec 32) (c0_i32_271 : BitVec 32) : Fin 2 → Nat :=
  let v349 : BitVec 32 := Scalar.addi v13 c0_i32_271
  let c2_i32_272 : BitVec 32 := 2#32
  let v350 : BitVec 32 := Scalar.addi v349 c2_i32_272
  let c16_i32_273 : BitVec 32 := 16#32
  let v351 : BitVec 32 := Scalar.remsi v350 c16_i32_273
  let c256_i32_274 : BitVec 32 := 256#32
  let v352 : BitVec 32 := Scalar.muli v351 c256_i32_274
  let v353 : Index := Scalar.indexCast v352
  let c1024_275 : Index := 1024#32
  ![v353.toNat, 1024]

def k0_chk5 (v13 : BitVec 32) : Prop :=
  (∀ (r : Fin 15), ∀ a, (k0_off3 v13 (BitVec.ofNat 32 r.val)) a + S256x1024.size a ≤ S4096x2048.size a) ∧
  (∀ (r : Fin 15), ∀ a, (k0_off4 v13 (BitVec.ofNat 32 r.val)) a + S256x1024.size a ≤ S4096x2048.size a)
theorem k0_off3_inb : ∀ (v13 : BitVec 32) (k0_hw5 : k0_chk5 v13), ∀ (r : Fin 15), ∀ a, (k0_off3 v13 (BitVec.ofNat 32 r.val)) a + S256x1024.size a ≤ S4096x2048.size a := fun v13 k0_hw5 r => k0_hw5.1 r
theorem k0_off4_inb : ∀ (v13 : BitVec 32) (k0_hw5 : k0_chk5 v13), ∀ (r : Fin 15), ∀ a, (k0_off4 v13 (BitVec.ofNat 32 r.val)) a + S256x1024.size a ≤ S4096x2048.size a := fun v13 k0_hw5 r => k0_hw5.2 r

def k0_dev12 (d0 : Dev nD) (v36 : BitVec 32) (v45 : BitVec 32) : Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_300 : BitVec 32 := 1#32
  let v370 : BitVec 32 := Scalar.muli v46 c1_i32_300
  let v371 : BitVec 32 := Scalar.addi c0_i32_301 v370
  v371.toNat
def k0_dev13 (d0 : Dev nD) (v59 : BitVec 32) (v68 : BitVec 32) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_330 : BitVec 32 := 1#32
  let v395 : BitVec 32 := Scalar.muli v69 c1_i32_330
  let v396 : BitVec 32 := Scalar.addi c0_i32_331 v395
  v396.toNat
def k0_dev14 (d0 : Dev nD) (v36 : BitVec 32) (v45 : BitVec 32) : Nat :=
  let c0_i32_361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_360 : BitVec 32 := 1#32
  let v420 : BitVec 32 := Scalar.muli v46 c1_i32_360
  let v421 : BitVec 32 := Scalar.addi c0_i32_361 v420
  v421.toNat
def k0_dev15 (d0 : Dev nD) (v59 : BitVec 32) (v68 : BitVec 32) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_390 : BitVec 32 := 1#32
  let v445 : BitVec 32 := Scalar.muli v69 c1_i32_390
  let v446 : BitVec 32 := Scalar.addi c0_i32_391 v445
  v446.toNat
def k0_dev16 (d0 : Dev nD) (v36 : BitVec 32) (v45 : BitVec 32) : Nat :=
  let c0_i32_421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_420 : BitVec 32 := 1#32
  let v470 : BitVec 32 := Scalar.muli v46 c1_i32_420
  let v471 : BitVec 32 := Scalar.addi c0_i32_421 v470
  v471.toNat
def k0_dev17 (d0 : Dev nD) (v59 : BitVec 32) (v68 : BitVec 32) : Nat :=
  let c0_i32_451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_450 : BitVec 32 := 1#32
  let v495 : BitVec 32 := Scalar.muli v69 c1_i32_450
  let v496 : BitVec 32 := Scalar.addi c0_i32_451 v495
  v496.toNat
def k0_dev18 (d0 : Dev nD) (v36 : BitVec 32) (v45 : BitVec 32) : Nat :=
  let c0_i32_481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_480 : BitVec 32 := 1#32
  let v520 : BitVec 32 := Scalar.muli v46 c1_i32_480
  let v521 : BitVec 32 := Scalar.addi c0_i32_481 v520
  v521.toNat
def k0_dev19 (d0 : Dev nD) (v59 : BitVec 32) (v68 : BitVec 32) : Nat :=
  let c0_i32_511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_510 : BitVec 32 := 1#32
  let v545 : BitVec 32 := Scalar.muli v69 c1_i32_510
  let v546 : BitVec 32 := Scalar.addi c0_i32_511 v545
  v546.toNat
def k0_dev20 (d0 : Dev nD) (v36 : BitVec 32) (v45 : BitVec 32) : Nat :=
  let c0_i32_551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_550 : BitVec 32 := 1#32
  let v583 : BitVec 32 := Scalar.muli v46 c1_i32_550
  let v584 : BitVec 32 := Scalar.addi c0_i32_551 v583
  v584.toNat
def k0_dev21 (d0 : Dev nD) (v59 : BitVec 32) (v68 : BitVec 32) : Nat :=
  let c0_i32_581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_580 : BitVec 32 := 1#32
  let v608 : BitVec 32 := Scalar.muli v69 c1_i32_580
  let v609 : BitVec 32 := Scalar.addi c0_i32_581 v608
  v609.toNat
def k0_dev22 (d0 : Dev nD) (v36 : BitVec 32) (v45 : BitVec 32) : Nat :=
  let c0_i32_611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_610 : BitVec 32 := 1#32
  let v633 : BitVec 32 := Scalar.muli v46 c1_i32_610
  let v634 : BitVec 32 := Scalar.addi c0_i32_611 v633
  v634.toNat
def k0_dev23 (d0 : Dev nD) (v59 : BitVec 32) (v68 : BitVec 32) : Nat :=
  let c0_i32_641 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_640 : BitVec 32 := 1#32
  let v658 : BitVec 32 := Scalar.muli v69 c1_i32_640
  let v659 : BitVec 32 := Scalar.addi c0_i32_641 v658
  v659.toNat
def k0_dev24 (d0 : Dev nD) (v36 : BitVec 32) (v45 : BitVec 32) : Nat :=
  let c0_i32_671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_670 : BitVec 32 := 1#32
  let v683 : BitVec 32 := Scalar.muli v46 c1_i32_670
  let v684 : BitVec 32 := Scalar.addi c0_i32_671 v683
  v684.toNat
def k0_dev25 (d0 : Dev nD) (v59 : BitVec 32) (v68 : BitVec 32) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_700 : BitVec 32 := 1#32
  let v708 : BitVec 32 := Scalar.muli v69 c1_i32_700
  let v709 : BitVec 32 := Scalar.addi c0_i32_701 v708
  v709.toNat
def k0_dev26 (d0 : Dev nD) (v36 : BitVec 32) (v45 : BitVec 32) : Nat :=
  let c0_i32_731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_730 : BitVec 32 := 1#32
  let v733 : BitVec 32 := Scalar.muli v46 c1_i32_730
  let v734 : BitVec 32 := Scalar.addi c0_i32_731 v733
  v734.toNat
def k0_dev27 (d0 : Dev nD) (v59 : BitVec 32) (v68 : BitVec 32) : Nat :=
  let c0_i32_761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_760 : BitVec 32 := 1#32
  let v758 : BitVec 32 := Scalar.muli v69 c1_i32_760
  let v759 : BitVec 32 := Scalar.addi c0_i32_761 v758
  v759.toNat
def k0_dev28 (d0 : Dev nD) (v36 : BitVec 32) (v45 : BitVec 32) : Nat :=
  let c0_i32_801 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_800 : BitVec 32 := 1#32
  let v796 : BitVec 32 := Scalar.muli v46 c1_i32_800
  let v797 : BitVec 32 := Scalar.addi c0_i32_801 v796
  v797.toNat
def k0_dev29 (d0 : Dev nD) (v59 : BitVec 32) (v68 : BitVec 32) : Nat :=
  let c0_i32_831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_830 : BitVec 32 := 1#32
  let v821 : BitVec 32 := Scalar.muli v69 c1_i32_830
  let v822 : BitVec 32 := Scalar.addi c0_i32_831 v821
  v822.toNat
def k0_dev30 (d0 : Dev nD) (v36 : BitVec 32) (v45 : BitVec 32) : Nat :=
  let c0_i32_861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_860 : BitVec 32 := 1#32
  let v846 : BitVec 32 := Scalar.muli v46 c1_i32_860
  let v847 : BitVec 32 := Scalar.addi c0_i32_861 v846
  v847.toNat
def k0_dev31 (d0 : Dev nD) (v59 : BitVec 32) (v68 : BitVec 32) : Nat :=
  let c0_i32_891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_890 : BitVec 32 := 1#32
  let v871 : BitVec 32 := Scalar.muli v69 c1_i32_890
  let v872 : BitVec 32 := Scalar.addi c0_i32_891 v871
  v872.toNat
def k0_dev32 (d0 : Dev nD) (v36 : BitVec 32) (v45 : BitVec 32) : Nat :=
  let c0_i32_921 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_920 : BitVec 32 := 1#32
  let v896 : BitVec 32 := Scalar.muli v46 c1_i32_920
  let v897 : BitVec 32 := Scalar.addi c0_i32_921 v896
  v897.toNat
def k0_dev33 (d0 : Dev nD) (v59 : BitVec 32) (v68 : BitVec 32) : Nat :=
  let c0_i32_951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_950 : BitVec 32 := 1#32
  let v921 : BitVec 32 := Scalar.muli v69 c1_i32_950
  let v922 : BitVec 32 := Scalar.addi c0_i32_951 v921
  v922.toNat
def k0_dev34 (d0 : Dev nD) (v36 : BitVec 32) (v45 : BitVec 32) : Nat :=
  let c0_i32_981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_980 : BitVec 32 := 1#32
  let v946 : BitVec 32 := Scalar.muli v46 c1_i32_980
  let v947 : BitVec 32 := Scalar.addi c0_i32_981 v946
  v947.toNat
def k0_dev35 (d0 : Dev nD) (v59 : BitVec 32) (v68 : BitVec 32) : Nat :=
  let c0_i32_1011 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_1010 : BitVec 32 := 1#32
  let v971 : BitVec 32 := Scalar.muli v69 c1_i32_1010
  let v972 : BitVec 32 := Scalar.addi c0_i32_1011 v971
  v972.toNat
def k0_dev36 (d0 : Dev nD) (v36 : BitVec 32) (v45 : BitVec 32) : Nat :=
  let c0_i32_1050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_1049 : BitVec 32 := 1#32
  let v1009 : BitVec 32 := Scalar.muli v46 c1_i32_1049
  let v1010 : BitVec 32 := Scalar.addi c0_i32_1050 v1009
  v1010.toNat
def k0_dev37 (d0 : Dev nD) (v59 : BitVec 32) (v68 : BitVec 32) : Nat :=
  let c0_i32_1080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_1079 : BitVec 32 := 1#32
  let v1034 : BitVec 32 := Scalar.muli v69 c1_i32_1079
  let v1035 : BitVec 32 := Scalar.addi c0_i32_1080 v1034
  v1035.toNat
def k0_dev38 (d0 : Dev nD) (v36 : BitVec 32) (v45 : BitVec 32) : Nat :=
  let c0_i32_1110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_1109 : BitVec 32 := 1#32
  let v1059 : BitVec 32 := Scalar.muli v46 c1_i32_1109
  let v1060 : BitVec 32 := Scalar.addi c0_i32_1110 v1059
  v1060.toNat
def k0_dev39 (d0 : Dev nD) (v59 : BitVec 32) (v68 : BitVec 32) : Nat :=
  let c0_i32_1140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_1139 : BitVec 32 := 1#32
  let v1084 : BitVec 32 := Scalar.muli v69 c1_i32_1139
  let v1085 : BitVec 32 := Scalar.addi c0_i32_1140 v1084
  v1085.toNat
def k0_dev40 (d0 : Dev nD) (v36 : BitVec 32) (v45 : BitVec 32) : Nat :=
  let c0_i32_1170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_1169 : BitVec 32 := 1#32
  let v1109 : BitVec 32 := Scalar.muli v46 c1_i32_1169
  let v1110 : BitVec 32 := Scalar.addi c0_i32_1170 v1109
  v1110.toNat
def k0_dev41 (d0 : Dev nD) (v59 : BitVec 32) (v68 : BitVec 32) : Nat :=
  let c0_i32_1200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_1199 : BitVec 32 := 1#32
  let v1134 : BitVec 32 := Scalar.muli v69 c1_i32_1199
  let v1135 : BitVec 32 := Scalar.addi c0_i32_1200 v1134
  v1135.toNat
def k0_dev42 (d0 : Dev nD) (v36 : BitVec 32) (v45 : BitVec 32) : Nat :=
  let c0_i32_1230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_1229 : BitVec 32 := 1#32
  let v1159 : BitVec 32 := Scalar.muli v46 c1_i32_1229
  let v1160 : BitVec 32 := Scalar.addi c0_i32_1230 v1159
  v1160.toNat
def k0_dev43 (d0 : Dev nD) (v59 : BitVec 32) (v68 : BitVec 32) : Nat :=
  let c0_i32_1260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_1259 : BitVec 32 := 1#32
  let v1184 : BitVec 32 := Scalar.muli v69 c1_i32_1259
  let v1185 : BitVec 32 := Scalar.addi c0_i32_1260 v1184
  v1185.toNat
def k0_dev44 (d0 : Dev nD) (v36 : BitVec 32) (v45 : BitVec 32) : Nat :=
  let c0_i32_1299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_1298 : BitVec 32 := 1#32
  let v1222 : BitVec 32 := Scalar.muli v46 c1_i32_1298
  let v1223 : BitVec 32 := Scalar.addi c0_i32_1299 v1222
  v1223.toNat
def k0_dev45 (d0 : Dev nD) (v59 : BitVec 32) (v68 : BitVec 32) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_1328 : BitVec 32 := 1#32
  let v1247 : BitVec 32 := Scalar.muli v69 c1_i32_1328
  let v1248 : BitVec 32 := Scalar.addi c0_i32_1329 v1247
  v1248.toNat
def k0_dev46 (d0 : Dev nD) (v36 : BitVec 32) (v45 : BitVec 32) : Nat :=
  let c0_i32_1359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_1358 : BitVec 32 := 1#32
  let v1272 : BitVec 32 := Scalar.muli v46 c1_i32_1358
  let v1273 : BitVec 32 := Scalar.addi c0_i32_1359 v1272
  v1273.toNat
def k0_dev47 (d0 : Dev nD) (v59 : BitVec 32) (v68 : BitVec 32) : Nat :=
  let c0_i32_1389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_1388 : BitVec 32 := 1#32
  let v1297 : BitVec 32 := Scalar.muli v69 c1_i32_1388
  let v1298 : BitVec 32 := Scalar.addi c0_i32_1389 v1297
  v1298.toNat
def k0_dev48 (d0 : Dev nD) (v36 : BitVec 32) (v45 : BitVec 32) : Nat :=
  let c0_i32_1419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_1418 : BitVec 32 := 1#32
  let v1322 : BitVec 32 := Scalar.muli v46 c1_i32_1418
  let v1323 : BitVec 32 := Scalar.addi c0_i32_1419 v1322
  v1323.toNat
def k0_dev49 (d0 : Dev nD) (v59 : BitVec 32) (v68 : BitVec 32) : Nat :=
  let c0_i32_1449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_1448 : BitVec 32 := 1#32
  let v1347 : BitVec 32 := Scalar.muli v69 c1_i32_1448
  let v1348 : BitVec 32 := Scalar.addi c0_i32_1449 v1347
  v1348.toNat
def k0_dev50 (d0 : Dev nD) (v36 : BitVec 32) (v45 : BitVec 32) : Nat :=
  let c0_i32_1479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_1478 : BitVec 32 := 1#32
  let v1372 : BitVec 32 := Scalar.muli v46 c1_i32_1478
  let v1373 : BitVec 32 := Scalar.addi c0_i32_1479 v1372
  v1373.toNat
def k0_dev51 (d0 : Dev nD) (v59 : BitVec 32) (v68 : BitVec 32) : Nat :=
  let c0_i32_1509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_1508 : BitVec 32 := 1#32
  let v1397 : BitVec 32 := Scalar.muli v69 c1_i32_1508
  let v1398 : BitVec 32 := Scalar.addi c0_i32_1509 v1397
  v1398.toNat
def k0_dev52 (d0 : Dev nD) (v36 : BitVec 32) (v45 : BitVec 32) : Nat :=
  let c0_i32_1548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_1547 : BitVec 32 := 1#32
  let v1435 : BitVec 32 := Scalar.muli v46 c1_i32_1547
  let v1436 : BitVec 32 := Scalar.addi c0_i32_1548 v1435
  v1436.toNat
def k0_dev53 (d0 : Dev nD) (v59 : BitVec 32) (v68 : BitVec 32) : Nat :=
  let c0_i32_1578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_1577 : BitVec 32 := 1#32
  let v1460 : BitVec 32 := Scalar.muli v69 c1_i32_1577
  let v1461 : BitVec 32 := Scalar.addi c0_i32_1578 v1460
  v1461.toNat
def k0_dev54 (d0 : Dev nD) (v36 : BitVec 32) (v45 : BitVec 32) : Nat :=
  let c0_i32_1608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_1607 : BitVec 32 := 1#32
  let v1485 : BitVec 32 := Scalar.muli v46 c1_i32_1607
  let v1486 : BitVec 32 := Scalar.addi c0_i32_1608 v1485
  v1486.toNat
def k0_dev55 (d0 : Dev nD) (v59 : BitVec 32) (v68 : BitVec 32) : Nat :=
  let c0_i32_1638 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_1637 : BitVec 32 := 1#32
  let v1510 : BitVec 32 := Scalar.muli v69 c1_i32_1637
  let v1511 : BitVec 32 := Scalar.addi c0_i32_1638 v1510
  v1511.toNat
def k0_dev56 (d0 : Dev nD) (v36 : BitVec 32) (v45 : BitVec 32) : Nat :=
  let c0_i32_1668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_1667 : BitVec 32 := 1#32
  let v1535 : BitVec 32 := Scalar.muli v46 c1_i32_1667
  let v1536 : BitVec 32 := Scalar.addi c0_i32_1668 v1535
  v1536.toNat
def k0_dev57 (d0 : Dev nD) (v59 : BitVec 32) (v68 : BitVec 32) : Nat :=
  let c0_i32_1698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_1697 : BitVec 32 := 1#32
  let v1560 : BitVec 32 := Scalar.muli v69 c1_i32_1697
  let v1561 : BitVec 32 := Scalar.addi c0_i32_1698 v1560
  v1561.toNat
def k0_dev58 (d0 : Dev nD) (v36 : BitVec 32) (v45 : BitVec 32) : Nat :=
  let c0_i32_1728 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_1727 : BitVec 32 := 1#32
  let v1585 : BitVec 32 := Scalar.muli v46 c1_i32_1727
  let v1586 : BitVec 32 := Scalar.addi c0_i32_1728 v1585
  v1586.toNat
def k0_dev59 (d0 : Dev nD) (v59 : BitVec 32) (v68 : BitVec 32) : Nat :=
  let c0_i32_1758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_1757 : BitVec 32 := 1#32
  let v1610 : BitVec 32 := Scalar.muli v69 c1_i32_1757
  let v1611 : BitVec 32 := Scalar.addi c0_i32_1758 v1610
  v1611.toNat
def k0_dev60 (d0 : Dev nD) (v36 : BitVec 32) (v45 : BitVec 32) : Nat :=
  let c0_i32_1797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_1796 : BitVec 32 := 1#32
  let v1648 : BitVec 32 := Scalar.muli v46 c1_i32_1796
  let v1649 : BitVec 32 := Scalar.addi c0_i32_1797 v1648
  v1649.toNat
def k0_dev61 (d0 : Dev nD) (v59 : BitVec 32) (v68 : BitVec 32) : Nat :=
  let c0_i32_1827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_1826 : BitVec 32 := 1#32
  let v1673 : BitVec 32 := Scalar.muli v69 c1_i32_1826
  let v1674 : BitVec 32 := Scalar.addi c0_i32_1827 v1673
  v1674.toNat
def k0_dev62 (d0 : Dev nD) (v36 : BitVec 32) (v45 : BitVec 32) : Nat :=
  let c0_i32_1857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_1856 : BitVec 32 := 1#32
  let v1698 : BitVec 32 := Scalar.muli v46 c1_i32_1856
  let v1699 : BitVec 32 := Scalar.addi c0_i32_1857 v1698
  v1699.toNat
def k0_dev63 (d0 : Dev nD) (v59 : BitVec 32) (v68 : BitVec 32) : Nat :=
  let c0_i32_1887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_1886 : BitVec 32 := 1#32
  let v1723 : BitVec 32 := Scalar.muli v69 c1_i32_1886
  let v1724 : BitVec 32 := Scalar.addi c0_i32_1887 v1723
  v1724.toNat
def k0_dev64 (d0 : Dev nD) (v36 : BitVec 32) (v45 : BitVec 32) : Nat :=
  let c0_i32_1917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_1916 : BitVec 32 := 1#32
  let v1748 : BitVec 32 := Scalar.muli v46 c1_i32_1916
  let v1749 : BitVec 32 := Scalar.addi c0_i32_1917 v1748
  v1749.toNat
def k0_dev65 (d0 : Dev nD) (v59 : BitVec 32) (v68 : BitVec 32) : Nat :=
  let c0_i32_1947 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_1946 : BitVec 32 := 1#32
  let v1773 : BitVec 32 := Scalar.muli v69 c1_i32_1946
  let v1774 : BitVec 32 := Scalar.addi c0_i32_1947 v1773
  v1774.toNat
def k0_dev66 (d0 : Dev nD) (v36 : BitVec 32) (v45 : BitVec 32) : Nat :=
  let c0_i32_1977 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_1976 : BitVec 32 := 1#32
  let v1798 : BitVec 32 := Scalar.muli v46 c1_i32_1976
  let v1799 : BitVec 32 := Scalar.addi c0_i32_1977 v1798
  v1799.toNat
def k0_dev67 (d0 : Dev nD) (v59 : BitVec 32) (v68 : BitVec 32) : Nat :=
  let c0_i32_2007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_2006 : BitVec 32 := 1#32
  let v1823 : BitVec 32 := Scalar.muli v69 c1_i32_2006
  let v1824 : BitVec 32 := Scalar.addi c0_i32_2007 v1823
  v1824.toNat
def k0_dev68 (d0 : Dev nD) (v36 : BitVec 32) (v45 : BitVec 32) : Nat :=
  let c0_i32_2047 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_2046 : BitVec 32 := 1#32
  let v1861 : BitVec 32 := Scalar.muli v46 c1_i32_2046
  let v1862 : BitVec 32 := Scalar.addi c0_i32_2047 v1861
  v1862.toNat
def k0_dev69 (d0 : Dev nD) (v59 : BitVec 32) (v68 : BitVec 32) : Nat :=
  let c0_i32_2077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_2076 : BitVec 32 := 1#32
  let v1886 : BitVec 32 := Scalar.muli v69 c1_i32_2076
  let v1887 : BitVec 32 := Scalar.addi c0_i32_2077 v1886
  v1887.toNat
def k0_dev70 (d0 : Dev nD) (v36 : BitVec 32) (v45 : BitVec 32) : Nat :=
  let c0_i32_2107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_2106 : BitVec 32 := 1#32
  let v1911 : BitVec 32 := Scalar.muli v46 c1_i32_2106
  let v1912 : BitVec 32 := Scalar.addi c0_i32_2107 v1911
  v1912.toNat
def k0_dev71 (d0 : Dev nD) (v59 : BitVec 32) (v68 : BitVec 32) : Nat :=
  let c0_i32_2137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_2136 : BitVec 32 := 1#32
  let v1936 : BitVec 32 := Scalar.muli v69 c1_i32_2136
  let v1937 : BitVec 32 := Scalar.addi c0_i32_2137 v1936
  v1937.toNat
def k0_dev72 (d0 : Dev nD) (v36 : BitVec 32) (v45 : BitVec 32) : Nat :=
  let c0_i32_2167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_2166 : BitVec 32 := 1#32
  let v1961 : BitVec 32 := Scalar.muli v46 c1_i32_2166
  let v1962 : BitVec 32 := Scalar.addi c0_i32_2167 v1961
  v1962.toNat
def k0_dev73 (d0 : Dev nD) (v59 : BitVec 32) (v68 : BitVec 32) : Nat :=
  let c0_i32_2197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_2196 : BitVec 32 := 1#32
  let v1986 : BitVec 32 := Scalar.muli v69 c1_i32_2196
  let v1987 : BitVec 32 := Scalar.addi c0_i32_2197 v1986
  v1987.toNat
def k0_dev74 (d0 : Dev nD) (v36 : BitVec 32) (v45 : BitVec 32) : Nat :=
  let c0_i32_2227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_2226 : BitVec 32 := 1#32
  let v2011 : BitVec 32 := Scalar.muli v46 c1_i32_2226
  let v2012 : BitVec 32 := Scalar.addi c0_i32_2227 v2011
  v2012.toNat
def k0_dev75 (d0 : Dev nD) (v59 : BitVec 32) (v68 : BitVec 32) : Nat :=
  let c0_i32_2257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_2256 : BitVec 32 := 1#32
  let v2036 : BitVec 32 := Scalar.muli v69 c1_i32_2256
  let v2037 : BitVec 32 := Scalar.addi c0_i32_2257 v2036
  v2037.toNat
def k0_dev76 (d0 : Dev nD) (v36 : BitVec 32) (v45 : BitVec 32) : Nat :=
  let c0_i32_2296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_2295 : BitVec 32 := 1#32
  let v2074 : BitVec 32 := Scalar.muli v46 c1_i32_2295
  let v2075 : BitVec 32 := Scalar.addi c0_i32_2296 v2074
  v2075.toNat
def k0_dev77 (d0 : Dev nD) (v59 : BitVec 32) (v68 : BitVec 32) : Nat :=
  let c0_i32_2326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_2325 : BitVec 32 := 1#32
  let v2099 : BitVec 32 := Scalar.muli v69 c1_i32_2325
  let v2100 : BitVec 32 := Scalar.addi c0_i32_2326 v2099
  v2100.toNat
def k0_dev78 (d0 : Dev nD) (v36 : BitVec 32) (v45 : BitVec 32) : Nat :=
  let c0_i32_2356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_2355 : BitVec 32 := 1#32
  let v2124 : BitVec 32 := Scalar.muli v46 c1_i32_2355
  let v2125 : BitVec 32 := Scalar.addi c0_i32_2356 v2124
  v2125.toNat
def k0_dev79 (d0 : Dev nD) (v59 : BitVec 32) (v68 : BitVec 32) : Nat :=
  let c0_i32_2386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_2385 : BitVec 32 := 1#32
  let v2149 : BitVec 32 := Scalar.muli v69 c1_i32_2385
  let v2150 : BitVec 32 := Scalar.addi c0_i32_2386 v2149
  v2150.toNat
def k0_dev80 (d0 : Dev nD) (v36 : BitVec 32) (v45 : BitVec 32) : Nat :=
  let c0_i32_2416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_2415 : BitVec 32 := 1#32
  let v2174 : BitVec 32 := Scalar.muli v46 c1_i32_2415
  let v2175 : BitVec 32 := Scalar.addi c0_i32_2416 v2174
  v2175.toNat
def k0_dev81 (d0 : Dev nD) (v59 : BitVec 32) (v68 : BitVec 32) : Nat :=
  let c0_i32_2446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_2445 : BitVec 32 := 1#32
  let v2199 : BitVec 32 := Scalar.muli v69 c1_i32_2445
  let v2200 : BitVec 32 := Scalar.addi c0_i32_2446 v2199
  v2200.toNat
def k0_dev82 (d0 : Dev nD) (v36 : BitVec 32) (v45 : BitVec 32) : Nat :=
  let c0_i32_2476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_2475 : BitVec 32 := 1#32
  let v2224 : BitVec 32 := Scalar.muli v46 c1_i32_2475
  let v2225 : BitVec 32 := Scalar.addi c0_i32_2476 v2224
  v2225.toNat
def k0_dev83 (d0 : Dev nD) (v59 : BitVec 32) (v68 : BitVec 32) : Nat :=
  let c0_i32_2506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_2505 : BitVec 32 := 1#32
  let v2249 : BitVec 32 := Scalar.muli v69 c1_i32_2505
  let v2250 : BitVec 32 := Scalar.addi c0_i32_2506 v2249
  v2250.toNat
def k0_dev84 (d0 : Dev nD) (v36 : BitVec 32) (v45 : BitVec 32) : Nat :=
  let c0_i32_2545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_2544 : BitVec 32 := 1#32
  let v2287 : BitVec 32 := Scalar.muli v46 c1_i32_2544
  let v2288 : BitVec 32 := Scalar.addi c0_i32_2545 v2287
  v2288.toNat
def k0_dev85 (d0 : Dev nD) (v59 : BitVec 32) (v68 : BitVec 32) : Nat :=
  let c0_i32_2575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_2574 : BitVec 32 := 1#32
  let v2312 : BitVec 32 := Scalar.muli v69 c1_i32_2574
  let v2313 : BitVec 32 := Scalar.addi c0_i32_2575 v2312
  v2313.toNat
def k0_dev86 (d0 : Dev nD) (v36 : BitVec 32) (v45 : BitVec 32) : Nat :=
  let c0_i32_2605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_2604 : BitVec 32 := 1#32
  let v2337 : BitVec 32 := Scalar.muli v46 c1_i32_2604
  let v2338 : BitVec 32 := Scalar.addi c0_i32_2605 v2337
  v2338.toNat
def k0_dev87 (d0 : Dev nD) (v59 : BitVec 32) (v68 : BitVec 32) : Nat :=
  let c0_i32_2635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_2634 : BitVec 32 := 1#32
  let v2362 : BitVec 32 := Scalar.muli v69 c1_i32_2634
  let v2363 : BitVec 32 := Scalar.addi c0_i32_2635 v2362
  v2363.toNat
def k0_dev88 (d0 : Dev nD) (v36 : BitVec 32) (v45 : BitVec 32) : Nat :=
  let c0_i32_2665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_2664 : BitVec 32 := 1#32
  let v2387 : BitVec 32 := Scalar.muli v46 c1_i32_2664
  let v2388 : BitVec 32 := Scalar.addi c0_i32_2665 v2387
  v2388.toNat
def k0_dev89 (d0 : Dev nD) (v59 : BitVec 32) (v68 : BitVec 32) : Nat :=
  let c0_i32_2695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_2694 : BitVec 32 := 1#32
  let v2412 : BitVec 32 := Scalar.muli v69 c1_i32_2694
  let v2413 : BitVec 32 := Scalar.addi c0_i32_2695 v2412
  v2413.toNat
def k0_dev90 (d0 : Dev nD) (v36 : BitVec 32) (v45 : BitVec 32) : Nat :=
  let c0_i32_2725 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_2724 : BitVec 32 := 1#32
  let v2437 : BitVec 32 := Scalar.muli v46 c1_i32_2724
  let v2438 : BitVec 32 := Scalar.addi c0_i32_2725 v2437
  v2438.toNat
def k0_dev91 (d0 : Dev nD) (v59 : BitVec 32) (v68 : BitVec 32) : Nat :=
  let c0_i32_2755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_2754 : BitVec 32 := 1#32
  let v2462 : BitVec 32 := Scalar.muli v69 c1_i32_2754
  let v2463 : BitVec 32 := Scalar.addi c0_i32_2755 v2462
  v2463.toNat
def k0_dev92 (d0 : Dev nD) (v36 : BitVec 32) (v45 : BitVec 32) : Nat :=
  let c0_i32_2794 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_2793 : BitVec 32 := 1#32
  let v2500 : BitVec 32 := Scalar.muli v46 c1_i32_2793
  let v2501 : BitVec 32 := Scalar.addi c0_i32_2794 v2500
  v2501.toNat
def k0_dev93 (d0 : Dev nD) (v59 : BitVec 32) (v68 : BitVec 32) : Nat :=
  let c0_i32_2824 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_2823 : BitVec 32 := 1#32
  let v2525 : BitVec 32 := Scalar.muli v69 c1_i32_2823
  let v2526 : BitVec 32 := Scalar.addi c0_i32_2824 v2525
  v2526.toNat
def k0_dev94 (d0 : Dev nD) (v36 : BitVec 32) (v45 : BitVec 32) : Nat :=
  let c0_i32_2854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_2853 : BitVec 32 := 1#32
  let v2550 : BitVec 32 := Scalar.muli v46 c1_i32_2853
  let v2551 : BitVec 32 := Scalar.addi c0_i32_2854 v2550
  v2551.toNat
def k0_dev95 (d0 : Dev nD) (v59 : BitVec 32) (v68 : BitVec 32) : Nat :=
  let c0_i32_2884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_2883 : BitVec 32 := 1#32
  let v2575 : BitVec 32 := Scalar.muli v69 c1_i32_2883
  let v2576 : BitVec 32 := Scalar.addi c0_i32_2884 v2575
  v2576.toNat
def k0_dev96 (d0 : Dev nD) (v36 : BitVec 32) (v45 : BitVec 32) : Nat :=
  let c0_i32_2914 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_2913 : BitVec 32 := 1#32
  let v2600 : BitVec 32 := Scalar.muli v46 c1_i32_2913
  let v2601 : BitVec 32 := Scalar.addi c0_i32_2914 v2600
  v2601.toNat
def k0_dev97 (d0 : Dev nD) (v59 : BitVec 32) (v68 : BitVec 32) : Nat :=
  let c0_i32_2944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_2943 : BitVec 32 := 1#32
  let v2625 : BitVec 32 := Scalar.muli v69 c1_i32_2943
  let v2626 : BitVec 32 := Scalar.addi c0_i32_2944 v2625
  v2626.toNat
def k0_dev98 (d0 : Dev nD) (v36 : BitVec 32) (v45 : BitVec 32) : Nat :=
  let c0_i32_2974 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_2973 : BitVec 32 := 1#32
  let v2650 : BitVec 32 := Scalar.muli v46 c1_i32_2973
  let v2651 : BitVec 32 := Scalar.addi c0_i32_2974 v2650
  v2651.toNat
def k0_dev99 (d0 : Dev nD) (v59 : BitVec 32) (v68 : BitVec 32) : Nat :=
  let c0_i32_3004 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_3003 : BitVec 32 := 1#32
  let v2675 : BitVec 32 := Scalar.muli v69 c1_i32_3003
  let v2676 : BitVec 32 := Scalar.addi c0_i32_3004 v2675
  v2676.toNat
def k0_dev100 (d0 : Dev nD) (v36 : BitVec 32) (v45 : BitVec 32) : Nat :=
  let c0_i32_3043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_3042 : BitVec 32 := 1#32
  let v2713 : BitVec 32 := Scalar.muli v46 c1_i32_3042
  let v2714 : BitVec 32 := Scalar.addi c0_i32_3043 v2713
  v2714.toNat
def k0_dev101 (d0 : Dev nD) (v59 : BitVec 32) (v68 : BitVec 32) : Nat :=
  let c0_i32_3073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_3072 : BitVec 32 := 1#32
  let v2738 : BitVec 32 := Scalar.muli v69 c1_i32_3072
  let v2739 : BitVec 32 := Scalar.addi c0_i32_3073 v2738
  v2739.toNat
def k0_dev102 (d0 : Dev nD) (v36 : BitVec 32) (v45 : BitVec 32) : Nat :=
  let c0_i32_3103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_3102 : BitVec 32 := 1#32
  let v2763 : BitVec 32 := Scalar.muli v46 c1_i32_3102
  let v2764 : BitVec 32 := Scalar.addi c0_i32_3103 v2763
  v2764.toNat
def k0_dev103 (d0 : Dev nD) (v59 : BitVec 32) (v68 : BitVec 32) : Nat :=
  let c0_i32_3133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_3132 : BitVec 32 := 1#32
  let v2788 : BitVec 32 := Scalar.muli v69 c1_i32_3132
  let v2789 : BitVec 32 := Scalar.addi c0_i32_3133 v2788
  v2789.toNat
def k0_dev104 (d0 : Dev nD) (v36 : BitVec 32) (v45 : BitVec 32) : Nat :=
  let c0_i32_3163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_3162 : BitVec 32 := 1#32
  let v2813 : BitVec 32 := Scalar.muli v46 c1_i32_3162
  let v2814 : BitVec 32 := Scalar.addi c0_i32_3163 v2813
  v2814.toNat
def k0_dev105 (d0 : Dev nD) (v59 : BitVec 32) (v68 : BitVec 32) : Nat :=
  let c0_i32_3193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_3192 : BitVec 32 := 1#32
  let v2838 : BitVec 32 := Scalar.muli v69 c1_i32_3192
  let v2839 : BitVec 32 := Scalar.addi c0_i32_3193 v2838
  v2839.toNat
def k0_dev106 (d0 : Dev nD) (v36 : BitVec 32) (v45 : BitVec 32) : Nat :=
  let c0_i32_3223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_3222 : BitVec 32 := 1#32
  let v2863 : BitVec 32 := Scalar.muli v46 c1_i32_3222
  let v2864 : BitVec 32 := Scalar.addi c0_i32_3223 v2863
  v2864.toNat
def k0_dev107 (d0 : Dev nD) (v59 : BitVec 32) (v68 : BitVec 32) : Nat :=
  let c0_i32_3253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_3252 : BitVec 32 := 1#32
  let v2888 : BitVec 32 := Scalar.muli v69 c1_i32_3252
  let v2889 : BitVec 32 := Scalar.addi c0_i32_3253 v2888
  v2889.toNat
def k0_dev108 (d0 : Dev nD) (v36 : BitVec 32) (v45 : BitVec 32) : Nat :=
  let c0_i32_3292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_3291 : BitVec 32 := 1#32
  let v2926 : BitVec 32 := Scalar.muli v46 c1_i32_3291
  let v2927 : BitVec 32 := Scalar.addi c0_i32_3292 v2926
  v2927.toNat
def k0_dev109 (d0 : Dev nD) (v59 : BitVec 32) (v68 : BitVec 32) : Nat :=
  let c0_i32_3322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_3321 : BitVec 32 := 1#32
  let v2951 : BitVec 32 := Scalar.muli v69 c1_i32_3321
  let v2952 : BitVec 32 := Scalar.addi c0_i32_3322 v2951
  v2952.toNat
def k0_dev110 (d0 : Dev nD) (v36 : BitVec 32) (v45 : BitVec 32) : Nat :=
  let c0_i32_3352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_3351 : BitVec 32 := 1#32
  let v2976 : BitVec 32 := Scalar.muli v46 c1_i32_3351
  let v2977 : BitVec 32 := Scalar.addi c0_i32_3352 v2976
  v2977.toNat
def k0_dev111 (d0 : Dev nD) (v59 : BitVec 32) (v68 : BitVec 32) : Nat :=
  let c0_i32_3382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_3381 : BitVec 32 := 1#32
  let v3001 : BitVec 32 := Scalar.muli v69 c1_i32_3381
  let v3002 : BitVec 32 := Scalar.addi c0_i32_3382 v3001
  v3002.toNat
def k0_dev112 (d0 : Dev nD) (v36 : BitVec 32) (v45 : BitVec 32) : Nat :=
  let c0_i32_3412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_3411 : BitVec 32 := 1#32
  let v3026 : BitVec 32 := Scalar.muli v46 c1_i32_3411
  let v3027 : BitVec 32 := Scalar.addi c0_i32_3412 v3026
  v3027.toNat
def k0_dev113 (d0 : Dev nD) (v59 : BitVec 32) (v68 : BitVec 32) : Nat :=
  let c0_i32_3442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_3441 : BitVec 32 := 1#32
  let v3051 : BitVec 32 := Scalar.muli v69 c1_i32_3441
  let v3052 : BitVec 32 := Scalar.addi c0_i32_3442 v3051
  v3052.toNat
def k0_dev114 (d0 : Dev nD) (v36 : BitVec 32) (v45 : BitVec 32) : Nat :=
  let c0_i32_3472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_3471 : BitVec 32 := 1#32
  let v3076 : BitVec 32 := Scalar.muli v46 c1_i32_3471
  let v3077 : BitVec 32 := Scalar.addi c0_i32_3472 v3076
  v3077.toNat
def k0_dev115 (d0 : Dev nD) (v59 : BitVec 32) (v68 : BitVec 32) : Nat :=
  let c0_i32_3502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_3501 : BitVec 32 := 1#32
  let v3101 : BitVec 32 := Scalar.muli v69 c1_i32_3501
  let v3102 : BitVec 32 := Scalar.addi c0_i32_3502 v3101
  v3102.toNat
def k0_dev116 (d0 : Dev nD) (v36 : BitVec 32) (v45 : BitVec 32) : Nat :=
  let c0_i32_3541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_3540 : BitVec 32 := 1#32
  let v3139 : BitVec 32 := Scalar.muli v46 c1_i32_3540
  let v3140 : BitVec 32 := Scalar.addi c0_i32_3541 v3139
  v3140.toNat
def k0_dev117 (d0 : Dev nD) (v59 : BitVec 32) (v68 : BitVec 32) : Nat :=
  let c0_i32_3571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_3570 : BitVec 32 := 1#32
  let v3164 : BitVec 32 := Scalar.muli v69 c1_i32_3570
  let v3165 : BitVec 32 := Scalar.addi c0_i32_3571 v3164
  v3165.toNat
def k0_dev118 (d0 : Dev nD) (v36 : BitVec 32) (v45 : BitVec 32) : Nat :=
  let c0_i32_3601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_3600 : BitVec 32 := 1#32
  let v3189 : BitVec 32 := Scalar.muli v46 c1_i32_3600
  let v3190 : BitVec 32 := Scalar.addi c0_i32_3601 v3189
  v3190.toNat
def k0_dev119 (d0 : Dev nD) (v59 : BitVec 32) (v68 : BitVec 32) : Nat :=
  let c0_i32_3631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_3630 : BitVec 32 := 1#32
  let v3214 : BitVec 32 := Scalar.muli v69 c1_i32_3630
  let v3215 : BitVec 32 := Scalar.addi c0_i32_3631 v3214
  v3215.toNat
def k0_dev120 (d0 : Dev nD) (v36 : BitVec 32) (v45 : BitVec 32) : Nat :=
  let c0_i32_3661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_3660 : BitVec 32 := 1#32
  let v3239 : BitVec 32 := Scalar.muli v46 c1_i32_3660
  let v3240 : BitVec 32 := Scalar.addi c0_i32_3661 v3239
  v3240.toNat
def k0_dev121 (d0 : Dev nD) (v59 : BitVec 32) (v68 : BitVec 32) : Nat :=
  let c0_i32_3691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_3690 : BitVec 32 := 1#32
  let v3264 : BitVec 32 := Scalar.muli v69 c1_i32_3690
  let v3265 : BitVec 32 := Scalar.addi c0_i32_3691 v3264
  v3265.toNat
def k0_dev122 (d0 : Dev nD) (v36 : BitVec 32) (v45 : BitVec 32) : Nat :=
  let c0_i32_3721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_9 : BitVec 32 := 0#32
  let v27 : BitVec 1 := Scalar.cmpi .eq v20 c0_i32_9
  let v46 : BitVec 32 := Scalar.select v27 v36 v45
  let c1_i32_3720 : BitVec 32 := 1#32
  let v3289 : BitVec 32 := Scalar.muli v46 c1_i32_3720
  let v3290 : BitVec 32 := Scalar.addi c0_i32_3721 v3289
  v3290.toNat

def k0_chk2_0 (d0 : Dev nD) (v36 : BitVec 32) (v45 : BitVec 32) : Prop :=
  ((k0_dev2 d0 v36 v45) < nD) ∧
  ((k0_dev4 d0 v36 v45) < nD) ∧
  ((k0_dev6 d0 v36 v45) < nD) ∧
  ((k0_dev8 d0 v36 v45) < nD) ∧
  ((k0_dev10 d0 v36 v45) < nD) ∧
  ((k0_dev12 d0 v36 v45) < nD) ∧
  ((k0_dev14 d0 v36 v45) < nD) ∧
  ((k0_dev16 d0 v36 v45) < nD) ∧
  ((k0_dev18 d0 v36 v45) < nD) ∧
  ((k0_dev20 d0 v36 v45) < nD) ∧
  ((k0_dev22 d0 v36 v45) < nD) ∧
  ((k0_dev24 d0 v36 v45) < nD) ∧
  ((k0_dev26 d0 v36 v45) < nD) ∧
  ((k0_dev28 d0 v36 v45) < nD) ∧
  ((k0_dev30 d0 v36 v45) < nD) ∧
  ((k0_dev32 d0 v36 v45) < nD) ∧
  ((k0_dev34 d0 v36 v45) < nD) ∧
  ((k0_dev36 d0 v36 v45) < nD) ∧
  ((k0_dev38 d0 v36 v45) < nD) ∧
  ((k0_dev40 d0 v36 v45) < nD) ∧
  ((k0_dev42 d0 v36 v45) < nD) ∧
  ((k0_dev44 d0 v36 v45) < nD) ∧
  ((k0_dev46 d0 v36 v45) < nD) ∧
  ((k0_dev48 d0 v36 v45) < nD) ∧
  ((k0_dev50 d0 v36 v45) < nD) ∧
  ((k0_dev52 d0 v36 v45) < nD) ∧
  ((k0_dev54 d0 v36 v45) < nD) ∧
  ((k0_dev56 d0 v36 v45) < nD) ∧
  ((k0_dev58 d0 v36 v45) < nD) ∧
  ((k0_dev60 d0 v36 v45) < nD) ∧
  ((k0_dev62 d0 v36 v45) < nD) ∧
  ((k0_dev64 d0 v36 v45) < nD)
def k0_chk2_1 (d0 : Dev nD) (v36 : BitVec 32) (v45 : BitVec 32) : Prop :=
  ((k0_dev66 d0 v36 v45) < nD) ∧
  ((k0_dev68 d0 v36 v45) < nD) ∧
  ((k0_dev70 d0 v36 v45) < nD) ∧
  ((k0_dev72 d0 v36 v45) < nD) ∧
  ((k0_dev74 d0 v36 v45) < nD) ∧
  ((k0_dev76 d0 v36 v45) < nD) ∧
  ((k0_dev78 d0 v36 v45) < nD) ∧
  ((k0_dev80 d0 v36 v45) < nD) ∧
  ((k0_dev82 d0 v36 v45) < nD) ∧
  ((k0_dev84 d0 v36 v45) < nD) ∧
  ((k0_dev86 d0 v36 v45) < nD) ∧
  ((k0_dev88 d0 v36 v45) < nD) ∧
  ((k0_dev90 d0 v36 v45) < nD) ∧
  ((k0_dev92 d0 v36 v45) < nD) ∧
  ((k0_dev94 d0 v36 v45) < nD) ∧
  ((k0_dev96 d0 v36 v45) < nD) ∧
  ((k0_dev98 d0 v36 v45) < nD) ∧
  ((k0_dev100 d0 v36 v45) < nD) ∧
  ((k0_dev102 d0 v36 v45) < nD) ∧
  ((k0_dev104 d0 v36 v45) < nD) ∧
  ((k0_dev106 d0 v36 v45) < nD) ∧
  ((k0_dev108 d0 v36 v45) < nD) ∧
  ((k0_dev110 d0 v36 v45) < nD) ∧
  ((k0_dev112 d0 v36 v45) < nD) ∧
  ((k0_dev114 d0 v36 v45) < nD) ∧
  ((k0_dev116 d0 v36 v45) < nD) ∧
  ((k0_dev118 d0 v36 v45) < nD) ∧
  ((k0_dev120 d0 v36 v45) < nD) ∧
  ((k0_dev122 d0 v36 v45) < nD)
def k0_chk2 (d0 : Dev nD) (v36 : BitVec 32) (v45 : BitVec 32) : Prop :=
  k0_chk2_0 d0 v36 v45 ∧
  k0_chk2_1 d0 v36 v45
theorem k0_dev2_lt : ∀ (d0 : Dev nD) (v36 : BitVec 32) (v45 : BitVec 32) (k0_hw2 : k0_chk2 d0 v36 v45), (k0_dev2 d0 v36 v45) < nD := fun d0 v36 v45 k0_hw2 => k0_hw2.1.1
theorem k0_dev4_lt : ∀ (d0 : Dev nD) (v36 : BitVec 32) (v45 : BitVec 32) (k0_hw2 : k0_chk2 d0 v36 v45), (k0_dev4 d0 v36 v45) < nD := fun d0 v36 v45 k0_hw2 => k0_hw2.1.2.1
theorem k0_dev6_lt : ∀ (d0 : Dev nD) (v36 : BitVec 32) (v45 : BitVec 32) (k0_hw2 : k0_chk2 d0 v36 v45), (k0_dev6 d0 v36 v45) < nD := fun d0 v36 v45 k0_hw2 => k0_hw2.1.2.2.1
theorem k0_dev8_lt : ∀ (d0 : Dev nD) (v36 : BitVec 32) (v45 : BitVec 32) (k0_hw2 : k0_chk2 d0 v36 v45), (k0_dev8 d0 v36 v45) < nD := fun d0 v36 v45 k0_hw2 => k0_hw2.1.2.2.2.1
theorem k0_dev10_lt : ∀ (d0 : Dev nD) (v36 : BitVec 32) (v45 : BitVec 32) (k0_hw2 : k0_chk2 d0 v36 v45), (k0_dev10 d0 v36 v45) < nD := fun d0 v36 v45 k0_hw2 => k0_hw2.1.2.2.2.2.1
theorem k0_dev12_lt : ∀ (d0 : Dev nD) (v36 : BitVec 32) (v45 : BitVec 32) (k0_hw2 : k0_chk2 d0 v36 v45), (k0_dev12 d0 v36 v45) < nD := fun d0 v36 v45 k0_hw2 => k0_hw2.1.2.2.2.2.2.1
theorem k0_dev14_lt : ∀ (d0 : Dev nD) (v36 : BitVec 32) (v45 : BitVec 32) (k0_hw2 : k0_chk2 d0 v36 v45), (k0_dev14 d0 v36 v45) < nD := fun d0 v36 v45 k0_hw2 => k0_hw2.1.2.2.2.2.2.2.1
theorem k0_dev16_lt : ∀ (d0 : Dev nD) (v36 : BitVec 32) (v45 : BitVec 32) (k0_hw2 : k0_chk2 d0 v36 v45), (k0_dev16 d0 v36 v45) < nD := fun d0 v36 v45 k0_hw2 => k0_hw2.1.2.2.2.2.2.2.2.1
theorem k0_dev18_lt : ∀ (d0 : Dev nD) (v36 : BitVec 32) (v45 : BitVec 32) (k0_hw2 : k0_chk2 d0 v36 v45), (k0_dev18 d0 v36 v45) < nD := fun d0 v36 v45 k0_hw2 => k0_hw2.1.2.2.2.2.2.2.2.2.1
theorem k0_dev20_lt : ∀ (d0 : Dev nD) (v36 : BitVec 32) (v45 : BitVec 32) (k0_hw2 : k0_chk2 d0 v36 v45), (k0_dev20 d0 v36 v45) < nD := fun d0 v36 v45 k0_hw2 => k0_hw2.1.2.2.2.2.2.2.2.2.2.1
theorem k0_dev22_lt : ∀ (d0 : Dev nD) (v36 : BitVec 32) (v45 : BitVec 32) (k0_hw2 : k0_chk2 d0 v36 v45), (k0_dev22 d0 v36 v45) < nD := fun d0 v36 v45 k0_hw2 => k0_hw2.1.2.2.2.2.2.2.2.2.2.2.1
theorem k0_dev24_lt : ∀ (d0 : Dev nD) (v36 : BitVec 32) (v45 : BitVec 32) (k0_hw2 : k0_chk2 d0 v36 v45), (k0_dev24 d0 v36 v45) < nD := fun d0 v36 v45 k0_hw2 => k0_hw2.1.2.2.2.2.2.2.2.2.2.2.2.1
theorem k0_dev26_lt : ∀ (d0 : Dev nD) (v36 : BitVec 32) (v45 : BitVec 32) (k0_hw2 : k0_chk2 d0 v36 v45), (k0_dev26 d0 v36 v45) < nD := fun d0 v36 v45 k0_hw2 => k0_hw2.1.2.2.2.2.2.2.2.2.2.2.2.2.1
theorem k0_dev28_lt : ∀ (d0 : Dev nD) (v36 : BitVec 32) (v45 : BitVec 32) (k0_hw2 : k0_chk2 d0 v36 v45), (k0_dev28 d0 v36 v45) < nD := fun d0 v36 v45 k0_hw2 => k0_hw2.1.2.2.2.2.2.2.2.2.2.2.2.2.2.1
theorem k0_dev30_lt : ∀ (d0 : Dev nD) (v36 : BitVec 32) (v45 : BitVec 32) (k0_hw2 : k0_chk2 d0 v36 v45), (k0_dev30 d0 v36 v45) < nD := fun d0 v36 v45 k0_hw2 => k0_hw2.1.2.2.2.2.2.2.2.2.2.2.2.2.2.2.1
theorem k0_dev32_lt : ∀ (d0 : Dev nD) (v36 : BitVec 32) (v45 : BitVec 32) (k0_hw2 : k0_chk2 d0 v36 v45), (k0_dev32 d0 v36 v45) < nD := fun d0 v36 v45 k0_hw2 => k0_hw2.1.2.2.2.2.2.2.2.2.2.2.2.2.2.2.2.1
theorem k0_dev34_lt : ∀ (d0 : Dev nD) (v36 : BitVec 32) (v45 : BitVec 32) (k0_hw2 : k0_chk2 d0 v36 v45), (k0_dev34 d0 v36 v45) < nD := fun d0 v36 v45 k0_hw2 => k0_hw2.1.2.2.2.2.2.2.2.2.2.2.2.2.2.2.2.2.1
theorem k0_dev36_lt : ∀ (d0 : Dev nD) (v36 : BitVec 32) (v45 : BitVec 32) (k0_hw2 : k0_chk2 d0 v36 v45), (k0_dev36 d0 v36 v45) < nD := fun d0 v36 v45 k0_hw2 => k0_hw2.1.2.2.2.2.2.2.2.2.2.2.2.2.2.2.2.2.2.1
theorem k0_dev38_lt : ∀ (d0 : Dev nD) (v36 : BitVec 32) (v45 : BitVec 32) (k0_hw2 : k0_chk2 d0 v36 v45), (k0_dev38 d0 v36 v45) < nD := fun d0 v36 v45 k0_hw2 => k0_hw2.1.2.2.2.2.2.2.2.2.2.2.2.2.2.2.2.2.2.2.1
theorem k0_dev40_lt : ∀ (d0 : Dev nD) (v36 : BitVec 32) (v45 : BitVec 32) (k0_hw2 : k0_chk2 d0 v36 v45), (k0_dev40 d0 v36 v45) < nD := fun d0 v36 v45 k0_hw2 => k0_hw2.1.2.2.2.2.2.2.2.2.2.2.2.2.2.2.2.2.2.2.2.1
theorem k0_dev42_lt : ∀ (d0 : Dev nD) (v36 : BitVec 32) (v45 : BitVec 32) (k0_hw2 : k0_chk2 d0 v36 v45), (k0_dev42 d0 v36 v45) < nD := fun d0 v36 v45 k0_hw2 => k0_hw2.1.2.2.2.2.2.2.2.2.2.2.2.2.2.2.2.2.2.2.2.2.1
theorem k0_dev44_lt : ∀ (d0 : Dev nD) (v36 : BitVec 32) (v45 : BitVec 32) (k0_hw2 : k0_chk2 d0 v36 v45), (k0_dev44 d0 v36 v45) < nD := fun d0 v36 v45 k0_hw2 => k0_hw2.1.2.2.2.2.2.2.2.2.2.2.2.2.2.2.2.2.2.2.2.2.2.1
theorem k0_dev46_lt : ∀ (d0 : Dev nD) (v36 : BitVec 32) (v45 : BitVec 32) (k0_hw2 : k0_chk2 d0 v36 v45), (k0_dev46 d0 v36 v45) < nD := fun d0 v36 v45 k0_hw2 => k0_hw2.1.2.2.2.2.2.2.2.2.2.2.2.2.2.2.2.2.2.2.2.2.2.2.1
theorem k0_dev48_lt : ∀ (d0 : Dev nD) (v36 : BitVec 32) (v45 : BitVec 32) (k0_hw2 : k0_chk2 d0 v36 v45), (k0_dev48 d0 v36 v45) < nD := fun d0 v36 v45 k0_hw2 => k0_hw2.1.2.2.2.2.2.2.2.2.2.2.2.2.2.2.2.2.2.2.2.2.2.2.2.1
theorem k0_dev50_lt : ∀ (d0 : Dev nD) (v36 : BitVec 32) (v45 : BitVec 32) (k0_hw2 : k0_chk2 d0 v36 v45), (k0_dev50 d0 v36 v45) < nD := fun d0 v36 v45 k0_hw2 => k0_hw2.1.2.2.2.2.2.2.2.2.2.2.2.2.2.2.2.2.2.2.2.2.2.2.2.2.1
theorem k0_dev52_lt : ∀ (d0 : Dev nD) (v36 : BitVec 32) (v45 : BitVec 32) (k0_hw2 : k0_chk2 d0 v36 v45), (k0_dev52 d0 v36 v45) < nD := fun d0 v36 v45 k0_hw2 => k0_hw2.1.2.2.2.2.2.2.2.2.2.2.2.2.2.2.2.2.2.2.2.2.2.2.2.2.2.1
theorem k0_dev54_lt : ∀ (d0 : Dev nD) (v36 : BitVec 32) (v45 : BitVec 32) (k0_hw2 : k0_chk2 d0 v36 v45), (k0_dev54 d0 v36 v45) < nD := fun d0 v36 v45 k0_hw2 => k0_hw2.1.2.2.2.2.2.2.2.2.2.2.2.2.2.2.2.2.2.2.2.2.2.2.2.2.2.2.1
theorem k0_dev56_lt : ∀ (d0 : Dev nD) (v36 : BitVec 32) (v45 : BitVec 32) (k0_hw2 : k0_chk2 d0 v36 v45), (k0_dev56 d0 v36 v45) < nD := fun d0 v36 v45 k0_hw2 => k0_hw2.1.2.2.2.2.2.2.2.2.2.2.2.2.2.2.2.2.2.2.2.2.2.2.2.2.2.2.2.1
theorem k0_dev58_lt : ∀ (d0 : Dev nD) (v36 : BitVec 32) (v45 : BitVec 32) (k0_hw2 : k0_chk2 d0 v36 v45), (k0_dev58 d0 v36 v45) < nD := fun d0 v36 v45 k0_hw2 => k0_hw2.1.2.2.2.2.2.2.2.2.2.2.2.2.2.2.2.2.2.2.2.2.2.2.2.2.2.2.2.2.1
theorem k0_dev60_lt : ∀ (d0 : Dev nD) (v36 : BitVec 32) (v45 : BitVec 32) (k0_hw2 : k0_chk2 d0 v36 v45), (k0_dev60 d0 v36 v45) < nD := fun d0 v36 v45 k0_hw2 => k0_hw2.1.2.2.2.2.2.2.2.2.2.2.2.2.2.2.2.2.2.2.2.2.2.2.2.2.2.2.2.2.2.1
theorem k0_dev62_lt : ∀ (d0 : Dev nD) (v36 : BitVec 32) (v45 : BitVec 32) (k0_hw2 : k0_chk2 d0 v36 v45), (k0_dev62 d0 v36 v45) < nD := fun d0 v36 v45 k0_hw2 => k0_hw2.1.2.2.2.2.2.2.2.2.2.2.2.2.2.2.2.2.2.2.2.2.2.2.2.2.2.2.2.2.2.2.1
theorem k0_dev64_lt : ∀ (d0 : Dev nD) (v36 : BitVec 32) (v45 : BitVec 32) (k0_hw2 : k0_chk2 d0 v36 v45), (k0_dev64 d0 v36 v45) < nD := fun d0 v36 v45 k0_hw2 => k0_hw2.1.2.2.2.2.2.2.2.2.2.2.2.2.2.2.2.2.2.2.2.2.2.2.2.2.2.2.2.2.2.2.2
theorem k0_dev66_lt : ∀ (d0 : Dev nD) (v36 : BitVec 32) (v45 : BitVec 32) (k0_hw2 : k0_chk2 d0 v36 v45), (k0_dev66 d0 v36 v45) < nD := fun d0 v36 v45 k0_hw2 => k0_hw2.2.1
theorem k0_dev68_lt : ∀ (d0 : Dev nD) (v36 : BitVec 32) (v45 : BitVec 32) (k0_hw2 : k0_chk2 d0 v36 v45), (k0_dev68 d0 v36 v45) < nD := fun d0 v36 v45 k0_hw2 => k0_hw2.2.2.1
theorem k0_dev70_lt : ∀ (d0 : Dev nD) (v36 : BitVec 32) (v45 : BitVec 32) (k0_hw2 : k0_chk2 d0 v36 v45), (k0_dev70 d0 v36 v45) < nD := fun d0 v36 v45 k0_hw2 => k0_hw2.2.2.2.1
theorem k0_dev72_lt : ∀ (d0 : Dev nD) (v36 : BitVec 32) (v45 : BitVec 32) (k0_hw2 : k0_chk2 d0 v36 v45), (k0_dev72 d0 v36 v45) < nD := fun d0 v36 v45 k0_hw2 => k0_hw2.2.2.2.2.1
theorem k0_dev74_lt : ∀ (d0 : Dev nD) (v36 : BitVec 32) (v45 : BitVec 32) (k0_hw2 : k0_chk2 d0 v36 v45), (k0_dev74 d0 v36 v45) < nD := fun d0 v36 v45 k0_hw2 => k0_hw2.2.2.2.2.2.1
theorem k0_dev76_lt : ∀ (d0 : Dev nD) (v36 : BitVec 32) (v45 : BitVec 32) (k0_hw2 : k0_chk2 d0 v36 v45), (k0_dev76 d0 v36 v45) < nD := fun d0 v36 v45 k0_hw2 => k0_hw2.2.2.2.2.2.2.1
theorem k0_dev78_lt : ∀ (d0 : Dev nD) (v36 : BitVec 32) (v45 : BitVec 32) (k0_hw2 : k0_chk2 d0 v36 v45), (k0_dev78 d0 v36 v45) < nD := fun d0 v36 v45 k0_hw2 => k0_hw2.2.2.2.2.2.2.2.1
theorem k0_dev80_lt : ∀ (d0 : Dev nD) (v36 : BitVec 32) (v45 : BitVec 32) (k0_hw2 : k0_chk2 d0 v36 v45), (k0_dev80 d0 v36 v45) < nD := fun d0 v36 v45 k0_hw2 => k0_hw2.2.2.2.2.2.2.2.2.1
theorem k0_dev82_lt : ∀ (d0 : Dev nD) (v36 : BitVec 32) (v45 : BitVec 32) (k0_hw2 : k0_chk2 d0 v36 v45), (k0_dev82 d0 v36 v45) < nD := fun d0 v36 v45 k0_hw2 => k0_hw2.2.2.2.2.2.2.2.2.2.1
theorem k0_dev84_lt : ∀ (d0 : Dev nD) (v36 : BitVec 32) (v45 : BitVec 32) (k0_hw2 : k0_chk2 d0 v36 v45), (k0_dev84 d0 v36 v45) < nD := fun d0 v36 v45 k0_hw2 => k0_hw2.2.2.2.2.2.2.2.2.2.2.1
theorem k0_dev86_lt : ∀ (d0 : Dev nD) (v36 : BitVec 32) (v45 : BitVec 32) (k0_hw2 : k0_chk2 d0 v36 v45), (k0_dev86 d0 v36 v45) < nD := fun d0 v36 v45 k0_hw2 => k0_hw2.2.2.2.2.2.2.2.2.2.2.2.1
theorem k0_dev88_lt : ∀ (d0 : Dev nD) (v36 : BitVec 32) (v45 : BitVec 32) (k0_hw2 : k0_chk2 d0 v36 v45), (k0_dev88 d0 v36 v45) < nD := fun d0 v36 v45 k0_hw2 => k0_hw2.2.2.2.2.2.2.2.2.2.2.2.2.1
theorem k0_dev90_lt : ∀ (d0 : Dev nD) (v36 : BitVec 32) (v45 : BitVec 32) (k0_hw2 : k0_chk2 d0 v36 v45), (k0_dev90 d0 v36 v45) < nD := fun d0 v36 v45 k0_hw2 => k0_hw2.2.2.2.2.2.2.2.2.2.2.2.2.2.1
theorem k0_dev92_lt : ∀ (d0 : Dev nD) (v36 : BitVec 32) (v45 : BitVec 32) (k0_hw2 : k0_chk2 d0 v36 v45), (k0_dev92 d0 v36 v45) < nD := fun d0 v36 v45 k0_hw2 => k0_hw2.2.2.2.2.2.2.2.2.2.2.2.2.2.2.1
theorem k0_dev94_lt : ∀ (d0 : Dev nD) (v36 : BitVec 32) (v45 : BitVec 32) (k0_hw2 : k0_chk2 d0 v36 v45), (k0_dev94 d0 v36 v45) < nD := fun d0 v36 v45 k0_hw2 => k0_hw2.2.2.2.2.2.2.2.2.2.2.2.2.2.2.2.1
theorem k0_dev96_lt : ∀ (d0 : Dev nD) (v36 : BitVec 32) (v45 : BitVec 32) (k0_hw2 : k0_chk2 d0 v36 v45), (k0_dev96 d0 v36 v45) < nD := fun d0 v36 v45 k0_hw2 => k0_hw2.2.2.2.2.2.2.2.2.2.2.2.2.2.2.2.2.1
theorem k0_dev98_lt : ∀ (d0 : Dev nD) (v36 : BitVec 32) (v45 : BitVec 32) (k0_hw2 : k0_chk2 d0 v36 v45), (k0_dev98 d0 v36 v45) < nD := fun d0 v36 v45 k0_hw2 => k0_hw2.2.2.2.2.2.2.2.2.2.2.2.2.2.2.2.2.2.1
theorem k0_dev100_lt : ∀ (d0 : Dev nD) (v36 : BitVec 32) (v45 : BitVec 32) (k0_hw2 : k0_chk2 d0 v36 v45), (k0_dev100 d0 v36 v45) < nD := fun d0 v36 v45 k0_hw2 => k0_hw2.2.2.2.2.2.2.2.2.2.2.2.2.2.2.2.2.2.2.1
theorem k0_dev102_lt : ∀ (d0 : Dev nD) (v36 : BitVec 32) (v45 : BitVec 32) (k0_hw2 : k0_chk2 d0 v36 v45), (k0_dev102 d0 v36 v45) < nD := fun d0 v36 v45 k0_hw2 => k0_hw2.2.2.2.2.2.2.2.2.2.2.2.2.2.2.2.2.2.2.2.1
theorem k0_dev104_lt : ∀ (d0 : Dev nD) (v36 : BitVec 32) (v45 : BitVec 32) (k0_hw2 : k0_chk2 d0 v36 v45), (k0_dev104 d0 v36 v45) < nD := fun d0 v36 v45 k0_hw2 => k0_hw2.2.2.2.2.2.2.2.2.2.2.2.2.2.2.2.2.2.2.2.2.1
theorem k0_dev106_lt : ∀ (d0 : Dev nD) (v36 : BitVec 32) (v45 : BitVec 32) (k0_hw2 : k0_chk2 d0 v36 v45), (k0_dev106 d0 v36 v45) < nD := fun d0 v36 v45 k0_hw2 => k0_hw2.2.2.2.2.2.2.2.2.2.2.2.2.2.2.2.2.2.2.2.2.2.1
theorem k0_dev108_lt : ∀ (d0 : Dev nD) (v36 : BitVec 32) (v45 : BitVec 32) (k0_hw2 : k0_chk2 d0 v36 v45), (k0_dev108 d0 v36 v45) < nD := fun d0 v36 v45 k0_hw2 => k0_hw2.2.2.2.2.2.2.2.2.2.2.2.2.2.2.2.2.2.2.2.2.2.2.1
theorem k0_dev110_lt : ∀ (d0 : Dev nD) (v36 : BitVec 32) (v45 : BitVec 32) (k0_hw2 : k0_chk2 d0 v36 v45), (k0_dev110 d0 v36 v45) < nD := fun d0 v36 v45 k0_hw2 => k0_hw2.2.2.2.2.2.2.2.2.2.2.2.2.2.2.2.2.2.2.2.2.2.2.2.1
theorem k0_dev112_lt : ∀ (d0 : Dev nD) (v36 : BitVec 32) (v45 : BitVec 32) (k0_hw2 : k0_chk2 d0 v36 v45), (k0_dev112 d0 v36 v45) < nD := fun d0 v36 v45 k0_hw2 => k0_hw2.2.2.2.2.2.2.2.2.2.2.2.2.2.2.2.2.2.2.2.2.2.2.2.2.1
theorem k0_dev114_lt : ∀ (d0 : Dev nD) (v36 : BitVec 32) (v45 : BitVec 32) (k0_hw2 : k0_chk2 d0 v36 v45), (k0_dev114 d0 v36 v45) < nD := fun d0 v36 v45 k0_hw2 => k0_hw2.2.2.2.2.2.2.2.2.2.2.2.2.2.2.2.2.2.2.2.2.2.2.2.2.2.1
theorem k0_dev116_lt : ∀ (d0 : Dev nD) (v36 : BitVec 32) (v45 : BitVec 32) (k0_hw2 : k0_chk2 d0 v36 v45), (k0_dev116 d0 v36 v45) < nD := fun d0 v36 v45 k0_hw2 => k0_hw2.2.2.2.2.2.2.2.2.2.2.2.2.2.2.2.2.2.2.2.2.2.2.2.2.2.2.1
theorem k0_dev118_lt : ∀ (d0 : Dev nD) (v36 : BitVec 32) (v45 : BitVec 32) (k0_hw2 : k0_chk2 d0 v36 v45), (k0_dev118 d0 v36 v45) < nD := fun d0 v36 v45 k0_hw2 => k0_hw2.2.2.2.2.2.2.2.2.2.2.2.2.2.2.2.2.2.2.2.2.2.2.2.2.2.2.2.1
theorem k0_dev120_lt : ∀ (d0 : Dev nD) (v36 : BitVec 32) (v45 : BitVec 32) (k0_hw2 : k0_chk2 d0 v36 v45), (k0_dev120 d0 v36 v45) < nD := fun d0 v36 v45 k0_hw2 => k0_hw2.2.2.2.2.2.2.2.2.2.2.2.2.2.2.2.2.2.2.2.2.2.2.2.2.2.2.2.2.1
theorem k0_dev122_lt : ∀ (d0 : Dev nD) (v36 : BitVec 32) (v45 : BitVec 32) (k0_hw2 : k0_chk2 d0 v36 v45), (k0_dev122 d0 v36 v45) < nD := fun d0 v36 v45 k0_hw2 => k0_hw2.2.2.2.2.2.2.2.2.2.2.2.2.2.2.2.2.2.2.2.2.2.2.2.2.2.2.2.2.2

def k0_dev123 (d0 : Dev nD) (v59 : BitVec 32) (v68 : BitVec 32) : Nat :=
  let c0_i32_3751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v14 : BitVec 32 := Scalar.remsi v2 c8_i32
  let c2_i32 : BitVec 32 := 2#32
  let v15 : BitVec 32 := Scalar.divsi v14 c2_i32
  let c2_i32_1 : BitVec 32 := 2#32
  let v16 : BitVec 32 := Scalar.remsi v15 c2_i32_1
  let c0_i32_3 : BitVec 32 := 0#32
  let v18 : BitVec 1 := Scalar.cmpi .eq v16 c0_i32_3
  let c2_i32_2 : BitVec 32 := 2#32
  let v17 : BitVec 32 := Scalar.remsi v14 c2_i32_2
  let c1_i32_4 : BitVec 32 := 1#32
  let v19 : BitVec 32 := Scalar.subi c1_i32_4 v17
  let v20 : BitVec 32 := Scalar.select v18 v17 v19
  let c0_i32_21 : BitVec 32 := 0#32
  let v50 : BitVec 1 := Scalar.cmpi .eq v20 c0_i32_21
  let v69 : BitVec 32 := Scalar.select v50 v59 v68
  let c1_i32_3750 : BitVec 32 := 1#32
  let v3314 : BitVec 32 := Scalar.muli v69 c1_i32_3750
  let v3315 : BitVec 32 := Scalar.addi c0_i32_3751 v3314
  v3315.toNat

def k0_chk1_0 (d0 : Dev nD) (v59 : BitVec 32) (v68 : BitVec 32) : Prop :=
  ((k0_dev1 d0 v59 v68) < nD) ∧
  ((k0_dev5 d0 v59 v68) < nD) ∧
  ((k0_dev7 d0 v59 v68) < nD) ∧
  ((k0_dev9 d0 v59 v68) < nD) ∧
  ((k0_dev11 d0 v59 v68) < nD) ∧
  ((k0_dev13 d0 v59 v68) < nD) ∧
  ((k0_dev15 d0 v59 v68) < nD) ∧
  ((k0_dev17 d0 v59 v68) < nD) ∧
  ((k0_dev19 d0 v59 v68) < nD) ∧
  ((k0_dev21 d0 v59 v68) < nD) ∧
  ((k0_dev23 d0 v59 v68) < nD) ∧
  ((k0_dev25 d0 v59 v68) < nD) ∧
  ((k0_dev27 d0 v59 v68) < nD) ∧
  ((k0_dev29 d0 v59 v68) < nD) ∧
  ((k0_dev31 d0 v59 v68) < nD) ∧
  ((k0_dev33 d0 v59 v68) < nD) ∧
  ((k0_dev35 d0 v59 v68) < nD) ∧
  ((k0_dev37 d0 v59 v68) < nD) ∧
  ((k0_dev39 d0 v59 v68) < nD) ∧
  ((k0_dev41 d0 v59 v68) < nD) ∧
  ((k0_dev43 d0 v59 v68) < nD) ∧
  ((k0_dev45 d0 v59 v68) < nD) ∧
  ((k0_dev47 d0 v59 v68) < nD) ∧
  ((k0_dev49 d0 v59 v68) < nD) ∧
  ((k0_dev51 d0 v59 v68) < nD) ∧
  ((k0_dev53 d0 v59 v68) < nD) ∧
  ((k0_dev55 d0 v59 v68) < nD) ∧
  ((k0_dev57 d0 v59 v68) < nD) ∧
  ((k0_dev59 d0 v59 v68) < nD) ∧
  ((k0_dev61 d0 v59 v68) < nD) ∧
  ((k0_dev63 d0 v59 v68) < nD) ∧
  ((k0_dev65 d0 v59 v68) < nD)
def k0_chk1_1 (d0 : Dev nD) (v59 : BitVec 32) (v68 : BitVec 32) : Prop :=
  ((k0_dev67 d0 v59 v68) < nD) ∧
  ((k0_dev69 d0 v59 v68) < nD) ∧
  ((k0_dev71 d0 v59 v68) < nD) ∧
  ((k0_dev73 d0 v59 v68) < nD) ∧
  ((k0_dev75 d0 v59 v68) < nD) ∧
  ((k0_dev77 d0 v59 v68) < nD) ∧
  ((k0_dev79 d0 v59 v68) < nD) ∧
  ((k0_dev81 d0 v59 v68) < nD) ∧
  ((k0_dev83 d0 v59 v68) < nD) ∧
  ((k0_dev85 d0 v59 v68) < nD) ∧
  ((k0_dev87 d0 v59 v68) < nD) ∧
  ((k0_dev89 d0 v59 v68) < nD) ∧
  ((k0_dev91 d0 v59 v68) < nD) ∧
  ((k0_dev93 d0 v59 v68) < nD) ∧
  ((k0_dev95 d0 v59 v68) < nD) ∧
  ((k0_dev97 d0 v59 v68) < nD) ∧
  ((k0_dev99 d0 v59 v68) < nD) ∧
  ((k0_dev101 d0 v59 v68) < nD) ∧
  ((k0_dev103 d0 v59 v68) < nD) ∧
  ((k0_dev105 d0 v59 v68) < nD) ∧
  ((k0_dev107 d0 v59 v68) < nD) ∧
  ((k0_dev109 d0 v59 v68) < nD) ∧
  ((k0_dev111 d0 v59 v68) < nD) ∧
  ((k0_dev113 d0 v59 v68) < nD) ∧
  ((k0_dev115 d0 v59 v68) < nD) ∧
  ((k0_dev117 d0 v59 v68) < nD) ∧
  ((k0_dev119 d0 v59 v68) < nD) ∧
  ((k0_dev121 d0 v59 v68) < nD) ∧
  ((k0_dev123 d0 v59 v68) < nD)
def k0_chk1 (d0 : Dev nD) (v59 : BitVec 32) (v68 : BitVec 32) : Prop :=
  k0_chk1_0 d0 v59 v68 ∧
  k0_chk1_1 d0 v59 v68
theorem k0_dev1_lt : ∀ (d0 : Dev nD) (v59 : BitVec 32) (v68 : BitVec 32) (k0_hw1 : k0_chk1 d0 v59 v68), (k0_dev1 d0 v59 v68) < nD := fun d0 v59 v68 k0_hw1 => k0_hw1.1.1
theorem k0_dev5_lt : ∀ (d0 : Dev nD) (v59 : BitVec 32) (v68 : BitVec 32) (k0_hw1 : k0_chk1 d0 v59 v68), (k0_dev5 d0 v59 v68) < nD := fun d0 v59 v68 k0_hw1 => k0_hw1.1.2.1
theorem k0_dev7_lt : ∀ (d0 : Dev nD) (v59 : BitVec 32) (v68 : BitVec 32) (k0_hw1 : k0_chk1 d0 v59 v68), (k0_dev7 d0 v59 v68) < nD := fun d0 v59 v68 k0_hw1 => k0_hw1.1.2.2.1
theorem k0_dev9_lt : ∀ (d0 : Dev nD) (v59 : BitVec 32) (v68 : BitVec 32) (k0_hw1 : k0_chk1 d0 v59 v68), (k0_dev9 d0 v59 v68) < nD := fun d0 v59 v68 k0_hw1 => k0_hw1.1.2.2.2.1
theorem k0_dev11_lt : ∀ (d0 : Dev nD) (v59 : BitVec 32) (v68 : BitVec 32) (k0_hw1 : k0_chk1 d0 v59 v68), (k0_dev11 d0 v59 v68) < nD := fun d0 v59 v68 k0_hw1 => k0_hw1.1.2.2.2.2.1
theorem k0_dev13_lt : ∀ (d0 : Dev nD) (v59 : BitVec 32) (v68 : BitVec 32) (k0_hw1 : k0_chk1 d0 v59 v68), (k0_dev13 d0 v59 v68) < nD := fun d0 v59 v68 k0_hw1 => k0_hw1.1.2.2.2.2.2.1
theorem k0_dev15_lt : ∀ (d0 : Dev nD) (v59 : BitVec 32) (v68 : BitVec 32) (k0_hw1 : k0_chk1 d0 v59 v68), (k0_dev15 d0 v59 v68) < nD := fun d0 v59 v68 k0_hw1 => k0_hw1.1.2.2.2.2.2.2.1
theorem k0_dev17_lt : ∀ (d0 : Dev nD) (v59 : BitVec 32) (v68 : BitVec 32) (k0_hw1 : k0_chk1 d0 v59 v68), (k0_dev17 d0 v59 v68) < nD := fun d0 v59 v68 k0_hw1 => k0_hw1.1.2.2.2.2.2.2.2.1
theorem k0_dev19_lt : ∀ (d0 : Dev nD) (v59 : BitVec 32) (v68 : BitVec 32) (k0_hw1 : k0_chk1 d0 v59 v68), (k0_dev19 d0 v59 v68) < nD := fun d0 v59 v68 k0_hw1 => k0_hw1.1.2.2.2.2.2.2.2.2.1
theorem k0_dev21_lt : ∀ (d0 : Dev nD) (v59 : BitVec 32) (v68 : BitVec 32) (k0_hw1 : k0_chk1 d0 v59 v68), (k0_dev21 d0 v59 v68) < nD := fun d0 v59 v68 k0_hw1 => k0_hw1.1.2.2.2.2.2.2.2.2.2.1
theorem k0_dev23_lt : ∀ (d0 : Dev nD) (v59 : BitVec 32) (v68 : BitVec 32) (k0_hw1 : k0_chk1 d0 v59 v68), (k0_dev23 d0 v59 v68) < nD := fun d0 v59 v68 k0_hw1 => k0_hw1.1.2.2.2.2.2.2.2.2.2.2.1
theorem k0_dev25_lt : ∀ (d0 : Dev nD) (v59 : BitVec 32) (v68 : BitVec 32) (k0_hw1 : k0_chk1 d0 v59 v68), (k0_dev25 d0 v59 v68) < nD := fun d0 v59 v68 k0_hw1 => k0_hw1.1.2.2.2.2.2.2.2.2.2.2.2.1
theorem k0_dev27_lt : ∀ (d0 : Dev nD) (v59 : BitVec 32) (v68 : BitVec 32) (k0_hw1 : k0_chk1 d0 v59 v68), (k0_dev27 d0 v59 v68) < nD := fun d0 v59 v68 k0_hw1 => k0_hw1.1.2.2.2.2.2.2.2.2.2.2.2.2.1
theorem k0_dev29_lt : ∀ (d0 : Dev nD) (v59 : BitVec 32) (v68 : BitVec 32) (k0_hw1 : k0_chk1 d0 v59 v68), (k0_dev29 d0 v59 v68) < nD := fun d0 v59 v68 k0_hw1 => k0_hw1.1.2.2.2.2.2.2.2.2.2.2.2.2.2.1
theorem k0_dev31_lt : ∀ (d0 : Dev nD) (v59 : BitVec 32) (v68 : BitVec 32) (k0_hw1 : k0_chk1 d0 v59 v68), (k0_dev31 d0 v59 v68) < nD := fun d0 v59 v68 k0_hw1 => k0_hw1.1.2.2.2.2.2.2.2.2.2.2.2.2.2.2.1
theorem k0_dev33_lt : ∀ (d0 : Dev nD) (v59 : BitVec 32) (v68 : BitVec 32) (k0_hw1 : k0_chk1 d0 v59 v68), (k0_dev33 d0 v59 v68) < nD := fun d0 v59 v68 k0_hw1 => k0_hw1.1.2.2.2.2.2.2.2.2.2.2.2.2.2.2.2.1
theorem k0_dev35_lt : ∀ (d0 : Dev nD) (v59 : BitVec 32) (v68 : BitVec 32) (k0_hw1 : k0_chk1 d0 v59 v68), (k0_dev35 d0 v59 v68) < nD := fun d0 v59 v68 k0_hw1 => k0_hw1.1.2.2.2.2.2.2.2.2.2.2.2.2.2.2.2.2.1
theorem k0_dev37_lt : ∀ (d0 : Dev nD) (v59 : BitVec 32) (v68 : BitVec 32) (k0_hw1 : k0_chk1 d0 v59 v68), (k0_dev37 d0 v59 v68) < nD := fun d0 v59 v68 k0_hw1 => k0_hw1.1.2.2.2.2.2.2.2.2.2.2.2.2.2.2.2.2.2.1
theorem k0_dev39_lt : ∀ (d0 : Dev nD) (v59 : BitVec 32) (v68 : BitVec 32) (k0_hw1 : k0_chk1 d0 v59 v68), (k0_dev39 d0 v59 v68) < nD := fun d0 v59 v68 k0_hw1 => k0_hw1.1.2.2.2.2.2.2.2.2.2.2.2.2.2.2.2.2.2.2.1
theorem k0_dev41_lt : ∀ (d0 : Dev nD) (v59 : BitVec 32) (v68 : BitVec 32) (k0_hw1 : k0_chk1 d0 v59 v68), (k0_dev41 d0 v59 v68) < nD := fun d0 v59 v68 k0_hw1 => k0_hw1.1.2.2.2.2.2.2.2.2.2.2.2.2.2.2.2.2.2.2.2.1
theorem k0_dev43_lt : ∀ (d0 : Dev nD) (v59 : BitVec 32) (v68 : BitVec 32) (k0_hw1 : k0_chk1 d0 v59 v68), (k0_dev43 d0 v59 v68) < nD := fun d0 v59 v68 k0_hw1 => k0_hw1.1.2.2.2.2.2.2.2.2.2.2.2.2.2.2.2.2.2.2.2.2.1
theorem k0_dev45_lt : ∀ (d0 : Dev nD) (v59 : BitVec 32) (v68 : BitVec 32) (k0_hw1 : k0_chk1 d0 v59 v68), (k0_dev45 d0 v59 v68) < nD := fun d0 v59 v68 k0_hw1 => k0_hw1.1.2.2.2.2.2.2.2.2.2.2.2.2.2.2.2.2.2.2.2.2.2.1
theorem k0_dev47_lt : ∀ (d0 : Dev nD) (v59 : BitVec 32) (v68 : BitVec 32) (k0_hw1 : k0_chk1 d0 v59 v68), (k0_dev47 d0 v59 v68) < nD := fun d0 v59 v68 k0_hw1 => k0_hw1.1.2.2.2.2.2.2.2.2.2.2.2.2.2.2.2.2.2.2.2.2.2.2.1
theorem k0_dev49_lt : ∀ (d0 : Dev nD) (v59 : BitVec 32) (v68 : BitVec 32) (k0_hw1 : k0_chk1 d0 v59 v68), (k0_dev49 d0 v59 v68) < nD := fun d0 v59 v68 k0_hw1 => k0_hw1.1.2.2.2.2.2.2.2.2.2.2.2.2.2.2.2.2.2.2.2.2.2.2.2.1
theorem k0_dev51_lt : ∀ (d0 : Dev nD) (v59 : BitVec 32) (v68 : BitVec 32) (k0_hw1 : k0_chk1 d0 v59 v68), (k0_dev51 d0 v59 v68) < nD := fun d0 v59 v68 k0_hw1 => k0_hw1.1.2.2.2.2.2.2.2.2.2.2.2.2.2.2.2.2.2.2.2.2.2.2.2.2.1
theorem k0_dev53_lt : ∀ (d0 : Dev nD) (v59 : BitVec 32) (v68 : BitVec 32) (k0_hw1 : k0_chk1 d0 v59 v68), (k0_dev53 d0 v59 v68) < nD := fun d0 v59 v68 k0_hw1 => k0_hw1.1.2.2.2.2.2.2.2.2.2.2.2.2.2.2.2.2.2.2.2.2.2.2.2.2.2.1
theorem k0_dev55_lt : ∀ (d0 : Dev nD) (v59 : BitVec 32) (v68 : BitVec 32) (k0_hw1 : k0_chk1 d0 v59 v68), (k0_dev55 d0 v59 v68) < nD := fun d0 v59 v68 k0_hw1 => k0_hw1.1.2.2.2.2.2.2.2.2.2.2.2.2.2.2.2.2.2.2.2.2.2.2.2.2.2.2.1
theorem k0_dev57_lt : ∀ (d0 : Dev nD) (v59 : BitVec 32) (v68 : BitVec 32) (k0_hw1 : k0_chk1 d0 v59 v68), (k0_dev57 d0 v59 v68) < nD := fun d0 v59 v68 k0_hw1 => k0_hw1.1.2.2.2.2.2.2.2.2.2.2.2.2.2.2.2.2.2.2.2.2.2.2.2.2.2.2.2.1
theorem k0_dev59_lt : ∀ (d0 : Dev nD) (v59 : BitVec 32) (v68 : BitVec 32) (k0_hw1 : k0_chk1 d0 v59 v68), (k0_dev59 d0 v59 v68) < nD := fun d0 v59 v68 k0_hw1 => k0_hw1.1.2.2.2.2.2.2.2.2.2.2.2.2.2.2.2.2.2.2.2.2.2.2.2.2.2.2.2.2.1
theorem k0_dev61_lt : ∀ (d0 : Dev nD) (v59 : BitVec 32) (v68 : BitVec 32) (k0_hw1 : k0_chk1 d0 v59 v68), (k0_dev61 d0 v59 v68) < nD := fun d0 v59 v68 k0_hw1 => k0_hw1.1.2.2.2.2.2.2.2.2.2.2.2.2.2.2.2.2.2.2.2.2.2.2.2.2.2.2.2.2.2.1
theorem k0_dev63_lt : ∀ (d0 : Dev nD) (v59 : BitVec 32) (v68 : BitVec 32) (k0_hw1 : k0_chk1 d0 v59 v68), (k0_dev63 d0 v59 v68) < nD := fun d0 v59 v68 k0_hw1 => k0_hw1.1.2.2.2.2.2.2.2.2.2.2.2.2.2.2.2.2.2.2.2.2.2.2.2.2.2.2.2.2.2.2.1
theorem k0_dev65_lt : ∀ (d0 : Dev nD) (v59 : BitVec 32) (v68 : BitVec 32) (k0_hw1 : k0_chk1 d0 v59 v68), (k0_dev65 d0 v59 v68) < nD := fun d0 v59 v68 k0_hw1 => k0_hw1.1.2.2.2.2.2.2.2.2.2.2.2.2.2.2.2.2.2.2.2.2.2.2.2.2.2.2.2.2.2.2.2
theorem k0_dev67_lt : ∀ (d0 : Dev nD) (v59 : BitVec 32) (v68 : BitVec 32) (k0_hw1 : k0_chk1 d0 v59 v68), (k0_dev67 d0 v59 v68) < nD := fun d0 v59 v68 k0_hw1 => k0_hw1.2.1
theorem k0_dev69_lt : ∀ (d0 : Dev nD) (v59 : BitVec 32) (v68 : BitVec 32) (k0_hw1 : k0_chk1 d0 v59 v68), (k0_dev69 d0 v59 v68) < nD := fun d0 v59 v68 k0_hw1 => k0_hw1.2.2.1
theorem k0_dev71_lt : ∀ (d0 : Dev nD) (v59 : BitVec 32) (v68 : BitVec 32) (k0_hw1 : k0_chk1 d0 v59 v68), (k0_dev71 d0 v59 v68) < nD := fun d0 v59 v68 k0_hw1 => k0_hw1.2.2.2.1
theorem k0_dev73_lt : ∀ (d0 : Dev nD) (v59 : BitVec 32) (v68 : BitVec 32) (k0_hw1 : k0_chk1 d0 v59 v68), (k0_dev73 d0 v59 v68) < nD := fun d0 v59 v68 k0_hw1 => k0_hw1.2.2.2.2.1
theorem k0_dev75_lt : ∀ (d0 : Dev nD) (v59 : BitVec 32) (v68 : BitVec 32) (k0_hw1 : k0_chk1 d0 v59 v68), (k0_dev75 d0 v59 v68) < nD := fun d0 v59 v68 k0_hw1 => k0_hw1.2.2.2.2.2.1
theorem k0_dev77_lt : ∀ (d0 : Dev nD) (v59 : BitVec 32) (v68 : BitVec 32) (k0_hw1 : k0_chk1 d0 v59 v68), (k0_dev77 d0 v59 v68) < nD := fun d0 v59 v68 k0_hw1 => k0_hw1.2.2.2.2.2.2.1
theorem k0_dev79_lt : ∀ (d0 : Dev nD) (v59 : BitVec 32) (v68 : BitVec 32) (k0_hw1 : k0_chk1 d0 v59 v68), (k0_dev79 d0 v59 v68) < nD := fun d0 v59 v68 k0_hw1 => k0_hw1.2.2.2.2.2.2.2.1
theorem k0_dev81_lt : ∀ (d0 : Dev nD) (v59 : BitVec 32) (v68 : BitVec 32) (k0_hw1 : k0_chk1 d0 v59 v68), (k0_dev81 d0 v59 v68) < nD := fun d0 v59 v68 k0_hw1 => k0_hw1.2.2.2.2.2.2.2.2.1
theorem k0_dev83_lt : ∀ (d0 : Dev nD) (v59 : BitVec 32) (v68 : BitVec 32) (k0_hw1 : k0_chk1 d0 v59 v68), (k0_dev83 d0 v59 v68) < nD := fun d0 v59 v68 k0_hw1 => k0_hw1.2.2.2.2.2.2.2.2.2.1
theorem k0_dev85_lt : ∀ (d0 : Dev nD) (v59 : BitVec 32) (v68 : BitVec 32) (k0_hw1 : k0_chk1 d0 v59 v68), (k0_dev85 d0 v59 v68) < nD := fun d0 v59 v68 k0_hw1 => k0_hw1.2.2.2.2.2.2.2.2.2.2.1
theorem k0_dev87_lt : ∀ (d0 : Dev nD) (v59 : BitVec 32) (v68 : BitVec 32) (k0_hw1 : k0_chk1 d0 v59 v68), (k0_dev87 d0 v59 v68) < nD := fun d0 v59 v68 k0_hw1 => k0_hw1.2.2.2.2.2.2.2.2.2.2.2.1
theorem k0_dev89_lt : ∀ (d0 : Dev nD) (v59 : BitVec 32) (v68 : BitVec 32) (k0_hw1 : k0_chk1 d0 v59 v68), (k0_dev89 d0 v59 v68) < nD := fun d0 v59 v68 k0_hw1 => k0_hw1.2.2.2.2.2.2.2.2.2.2.2.2.1
theorem k0_dev91_lt : ∀ (d0 : Dev nD) (v59 : BitVec 32) (v68 : BitVec 32) (k0_hw1 : k0_chk1 d0 v59 v68), (k0_dev91 d0 v59 v68) < nD := fun d0 v59 v68 k0_hw1 => k0_hw1.2.2.2.2.2.2.2.2.2.2.2.2.2.1
theorem k0_dev93_lt : ∀ (d0 : Dev nD) (v59 : BitVec 32) (v68 : BitVec 32) (k0_hw1 : k0_chk1 d0 v59 v68), (k0_dev93 d0 v59 v68) < nD := fun d0 v59 v68 k0_hw1 => k0_hw1.2.2.2.2.2.2.2.2.2.2.2.2.2.2.1
theorem k0_dev95_lt : ∀ (d0 : Dev nD) (v59 : BitVec 32) (v68 : BitVec 32) (k0_hw1 : k0_chk1 d0 v59 v68), (k0_dev95 d0 v59 v68) < nD := fun d0 v59 v68 k0_hw1 => k0_hw1.2.2.2.2.2.2.2.2.2.2.2.2.2.2.2.1
theorem k0_dev97_lt : ∀ (d0 : Dev nD) (v59 : BitVec 32) (v68 : BitVec 32) (k0_hw1 : k0_chk1 d0 v59 v68), (k0_dev97 d0 v59 v68) < nD := fun d0 v59 v68 k0_hw1 => k0_hw1.2.2.2.2.2.2.2.2.2.2.2.2.2.2.2.2.1
theorem k0_dev99_lt : ∀ (d0 : Dev nD) (v59 : BitVec 32) (v68 : BitVec 32) (k0_hw1 : k0_chk1 d0 v59 v68), (k0_dev99 d0 v59 v68) < nD := fun d0 v59 v68 k0_hw1 => k0_hw1.2.2.2.2.2.2.2.2.2.2.2.2.2.2.2.2.2.1
theorem k0_dev101_lt : ∀ (d0 : Dev nD) (v59 : BitVec 32) (v68 : BitVec 32) (k0_hw1 : k0_chk1 d0 v59 v68), (k0_dev101 d0 v59 v68) < nD := fun d0 v59 v68 k0_hw1 => k0_hw1.2.2.2.2.2.2.2.2.2.2.2.2.2.2.2.2.2.2.1
theorem k0_dev103_lt : ∀ (d0 : Dev nD) (v59 : BitVec 32) (v68 : BitVec 32) (k0_hw1 : k0_chk1 d0 v59 v68), (k0_dev103 d0 v59 v68) < nD := fun d0 v59 v68 k0_hw1 => k0_hw1.2.2.2.2.2.2.2.2.2.2.2.2.2.2.2.2.2.2.2.1
theorem k0_dev105_lt : ∀ (d0 : Dev nD) (v59 : BitVec 32) (v68 : BitVec 32) (k0_hw1 : k0_chk1 d0 v59 v68), (k0_dev105 d0 v59 v68) < nD := fun d0 v59 v68 k0_hw1 => k0_hw1.2.2.2.2.2.2.2.2.2.2.2.2.2.2.2.2.2.2.2.2.1
theorem k0_dev107_lt : ∀ (d0 : Dev nD) (v59 : BitVec 32) (v68 : BitVec 32) (k0_hw1 : k0_chk1 d0 v59 v68), (k0_dev107 d0 v59 v68) < nD := fun d0 v59 v68 k0_hw1 => k0_hw1.2.2.2.2.2.2.2.2.2.2.2.2.2.2.2.2.2.2.2.2.2.1
theorem k0_dev109_lt : ∀ (d0 : Dev nD) (v59 : BitVec 32) (v68 : BitVec 32) (k0_hw1 : k0_chk1 d0 v59 v68), (k0_dev109 d0 v59 v68) < nD := fun d0 v59 v68 k0_hw1 => k0_hw1.2.2.2.2.2.2.2.2.2.2.2.2.2.2.2.2.2.2.2.2.2.2.1
theorem k0_dev111_lt : ∀ (d0 : Dev nD) (v59 : BitVec 32) (v68 : BitVec 32) (k0_hw1 : k0_chk1 d0 v59 v68), (k0_dev111 d0 v59 v68) < nD := fun d0 v59 v68 k0_hw1 => k0_hw1.2.2.2.2.2.2.2.2.2.2.2.2.2.2.2.2.2.2.2.2.2.2.2.1
theorem k0_dev113_lt : ∀ (d0 : Dev nD) (v59 : BitVec 32) (v68 : BitVec 32) (k0_hw1 : k0_chk1 d0 v59 v68), (k0_dev113 d0 v59 v68) < nD := fun d0 v59 v68 k0_hw1 => k0_hw1.2.2.2.2.2.2.2.2.2.2.2.2.2.2.2.2.2.2.2.2.2.2.2.2.1
theorem k0_dev115_lt : ∀ (d0 : Dev nD) (v59 : BitVec 32) (v68 : BitVec 32) (k0_hw1 : k0_chk1 d0 v59 v68), (k0_dev115 d0 v59 v68) < nD := fun d0 v59 v68 k0_hw1 => k0_hw1.2.2.2.2.2.2.2.2.2.2.2.2.2.2.2.2.2.2.2.2.2.2.2.2.2.1
theorem k0_dev117_lt : ∀ (d0 : Dev nD) (v59 : BitVec 32) (v68 : BitVec 32) (k0_hw1 : k0_chk1 d0 v59 v68), (k0_dev117 d0 v59 v68) < nD := fun d0 v59 v68 k0_hw1 => k0_hw1.2.2.2.2.2.2.2.2.2.2.2.2.2.2.2.2.2.2.2.2.2.2.2.2.2.2.1
theorem k0_dev119_lt : ∀ (d0 : Dev nD) (v59 : BitVec 32) (v68 : BitVec 32) (k0_hw1 : k0_chk1 d0 v59 v68), (k0_dev119 d0 v59 v68) < nD := fun d0 v59 v68 k0_hw1 => k0_hw1.2.2.2.2.2.2.2.2.2.2.2.2.2.2.2.2.2.2.2.2.2.2.2.2.2.2.2.1
theorem k0_dev121_lt : ∀ (d0 : Dev nD) (v59 : BitVec 32) (v68 : BitVec 32) (k0_hw1 : k0_chk1 d0 v59 v68), (k0_dev121 d0 v59 v68) < nD := fun d0 v59 v68 k0_hw1 => k0_hw1.2.2.2.2.2.2.2.2.2.2.2.2.2.2.2.2.2.2.2.2.2.2.2.2.2.2.2.2.1
theorem k0_dev123_lt : ∀ (d0 : Dev nD) (v59 : BitVec 32) (v68 : BitVec 32) (k0_hw1 : k0_chk1 d0 v59 v68), (k0_dev123 d0 v59 v68) < nD := fun d0 v59 v68 k0_hw1 => k0_hw1.2.2.2.2.2.2.2.2.2.2.2.2.2.2.2.2.2.2.2.2.2.2.2.2.2.2.2.2.2

def k0_off5 (d0 : Dev nD) : Fin 3 → Nat :=
  let c14_i32_3784 : BitVec 32 := 14#32
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_263 : BitVec 32 := 2#32
  let v339 : BitVec 32 := Scalar.remsi v2 c2_i32_263
  let v340 : BitVec 32 := Scalar.subi c1_i32_264 v339
  let c128_i32_265 : BitVec 32 := 128#32
  let v341 : BitVec 32 := Scalar.muli v340 c128_i32_265
  let c0_i32_3794 : BitVec 32 := 0#32
  ![14, v341.toNat, 0]
def k0_dev124 (d0 : Dev nD) : Nat :=
  let c0_i32_3791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v21 : BitVec 32 := Scalar.addi v2 c1_i32_5
  let c2_i32_7 : BitVec 32 := 2#32
  let c2_i32_6 : BitVec 32 := 2#32
  let v22 : BitVec 32 := Scalar.remsi v2 c2_i32_6
  let v23 : BitVec 32 := Scalar.muli c2_i32_7 v22
  let v24 : BitVec 32 := Scalar.subi v21 v23
  let c1_i32_3790 : BitVec 32 := 1#32
  let v3352 : BitVec 32 := Scalar.muli v24 c1_i32_3790
  let v3353 : BitVec 32 := Scalar.addi c0_i32_3791 v3352
  v3353.toNat
def k0_dev125 (d0 : Dev nD) : Nat :=
  let c0_i32_3820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v21 : BitVec 32 := Scalar.addi v2 c1_i32_5
  let c2_i32_7 : BitVec 32 := 2#32
  let c2_i32_6 : BitVec 32 := 2#32
  let v22 : BitVec 32 := Scalar.remsi v2 c2_i32_6
  let v23 : BitVec 32 := Scalar.muli c2_i32_7 v22
  let v24 : BitVec 32 := Scalar.subi v21 v23
  let c1_i32_3819 : BitVec 32 := 1#32
  let v3377 : BitVec 32 := Scalar.muli v24 c1_i32_3819
  let v3378 : BitVec 32 := Scalar.addi c0_i32_3820 v3377
  v3378.toNat
def k0_off6 (d0 : Dev nD) : Fin 3 → Nat :=
  let c14_i32_3842 : BitVec 32 := 14#32
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_263 : BitVec 32 := 2#32
  let v339 : BitVec 32 := Scalar.remsi v2 c2_i32_263
  let v340 : BitVec 32 := Scalar.subi c1_i32_264 v339
  let c128_i32_265 : BitVec 32 := 128#32
  let v341 : BitVec 32 := Scalar.muli v340 c128_i32_265
  let c256_i32_3852 : BitVec 32 := 256#32
  ![14, v341.toNat, 256]
def k0_dev126 (d0 : Dev nD) : Nat :=
  let c0_i32_3849 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v21 : BitVec 32 := Scalar.addi v2 c1_i32_5
  let c2_i32_7 : BitVec 32 := 2#32
  let c2_i32_6 : BitVec 32 := 2#32
  let v22 : BitVec 32 := Scalar.remsi v2 c2_i32_6
  let v23 : BitVec 32 := Scalar.muli c2_i32_7 v22
  let v24 : BitVec 32 := Scalar.subi v21 v23
  let c1_i32_3848 : BitVec 32 := 1#32
  let v3402 : BitVec 32 := Scalar.muli v24 c1_i32_3848
  let v3403 : BitVec 32 := Scalar.addi c0_i32_3849 v3402
  v3403.toNat
def k0_dev127 (d0 : Dev nD) : Nat :=
  let c0_i32_3878 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v21 : BitVec 32 := Scalar.addi v2 c1_i32_5
  let c2_i32_7 : BitVec 32 := 2#32
  let c2_i32_6 : BitVec 32 := 2#32
  let v22 : BitVec 32 := Scalar.remsi v2 c2_i32_6
  let v23 : BitVec 32 := Scalar.muli c2_i32_7 v22
  let v24 : BitVec 32 := Scalar.subi v21 v23
  let c1_i32_3877 : BitVec 32 := 1#32
  let v3427 : BitVec 32 := Scalar.muli v24 c1_i32_3877
  let v3428 : BitVec 32 := Scalar.addi c0_i32_3878 v3427
  v3428.toNat
def k0_off7 (d0 : Dev nD) : Fin 3 → Nat :=
  let c14_i32_3900 : BitVec 32 := 14#32
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_263 : BitVec 32 := 2#32
  let v339 : BitVec 32 := Scalar.remsi v2 c2_i32_263
  let v340 : BitVec 32 := Scalar.subi c1_i32_264 v339
  let c128_i32_265 : BitVec 32 := 128#32
  let v341 : BitVec 32 := Scalar.muli v340 c128_i32_265
  let c512_i32_3910 : BitVec 32 := 512#32
  ![14, v341.toNat, 512]
def k0_dev128 (d0 : Dev nD) : Nat :=
  let c0_i32_3907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v21 : BitVec 32 := Scalar.addi v2 c1_i32_5
  let c2_i32_7 : BitVec 32 := 2#32
  let c2_i32_6 : BitVec 32 := 2#32
  let v22 : BitVec 32 := Scalar.remsi v2 c2_i32_6
  let v23 : BitVec 32 := Scalar.muli c2_i32_7 v22
  let v24 : BitVec 32 := Scalar.subi v21 v23
  let c1_i32_3906 : BitVec 32 := 1#32
  let v3452 : BitVec 32 := Scalar.muli v24 c1_i32_3906
  let v3453 : BitVec 32 := Scalar.addi c0_i32_3907 v3452
  v3453.toNat
def k0_dev129 (d0 : Dev nD) : Nat :=
  let c0_i32_3936 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v21 : BitVec 32 := Scalar.addi v2 c1_i32_5
  let c2_i32_7 : BitVec 32 := 2#32
  let c2_i32_6 : BitVec 32 := 2#32
  let v22 : BitVec 32 := Scalar.remsi v2 c2_i32_6
  let v23 : BitVec 32 := Scalar.muli c2_i32_7 v22
  let v24 : BitVec 32 := Scalar.subi v21 v23
  let c1_i32_3935 : BitVec 32 := 1#32
  let v3477 : BitVec 32 := Scalar.muli v24 c1_i32_3935
  let v3478 : BitVec 32 := Scalar.addi c0_i32_3936 v3477
  v3478.toNat
def k0_off8 (d0 : Dev nD) : Fin 3 → Nat :=
  let c14_i32_3958 : BitVec 32 := 14#32
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_263 : BitVec 32 := 2#32
  let v339 : BitVec 32 := Scalar.remsi v2 c2_i32_263
  let v340 : BitVec 32 := Scalar.subi c1_i32_264 v339
  let c128_i32_265 : BitVec 32 := 128#32
  let v341 : BitVec 32 := Scalar.muli v340 c128_i32_265
  let c768_i32_3968 : BitVec 32 := 768#32
  ![14, v341.toNat, 768]
def k0_dev130 (d0 : Dev nD) : Nat :=
  let c0_i32_3965 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v21 : BitVec 32 := Scalar.addi v2 c1_i32_5
  let c2_i32_7 : BitVec 32 := 2#32
  let c2_i32_6 : BitVec 32 := 2#32
  let v22 : BitVec 32 := Scalar.remsi v2 c2_i32_6
  let v23 : BitVec 32 := Scalar.muli c2_i32_7 v22
  let v24 : BitVec 32 := Scalar.subi v21 v23
  let c1_i32_3964 : BitVec 32 := 1#32
  let v3502 : BitVec 32 := Scalar.muli v24 c1_i32_3964
  let v3503 : BitVec 32 := Scalar.addi c0_i32_3965 v3502
  v3503.toNat
def k0_dev131 (d0 : Dev nD) : Nat :=
  let c0_i32_3994 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v21 : BitVec 32 := Scalar.addi v2 c1_i32_5
  let c2_i32_7 : BitVec 32 := 2#32
  let c2_i32_6 : BitVec 32 := 2#32
  let v22 : BitVec 32 := Scalar.remsi v2 c2_i32_6
  let v23 : BitVec 32 := Scalar.muli c2_i32_7 v22
  let v24 : BitVec 32 := Scalar.subi v21 v23
  let c1_i32_3993 : BitVec 32 := 1#32
  let v3527 : BitVec 32 := Scalar.muli v24 c1_i32_3993
  let v3528 : BitVec 32 := Scalar.addi c0_i32_3994 v3527
  v3528.toNat
def k0_off9 (d0 : Dev nD) : Fin 3 → Nat :=
  let c14_4009 : Index := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_261 : BitVec 32 := 2#32
  let v337 : BitVec 32 := Scalar.remsi v2 c2_i32_261
  let c128_i32_262 : BitVec 32 := 128#32
  let v338 : BitVec 32 := Scalar.muli v337 c128_i32_262
  let v3545 : Index := Scalar.indexCast v338
  let c0_4010 : Index := 0#32
  ![14, v3545.toNat, 0]
def k0_off10 (d0 : Dev nD) : Fin 3 → Nat :=
  let c14_4045 : Index := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_261 : BitVec 32 := 2#32
  let v337 : BitVec 32 := Scalar.remsi v2 c2_i32_261
  let c128_i32_262 : BitVec 32 := 128#32
  let v338 : BitVec 32 := Scalar.muli v337 c128_i32_262
  let v3583 : Index := Scalar.indexCast v338
  let c256_4046 : Index := 256#32
  ![14, v3583.toNat, 256]
def k0_off11 (d0 : Dev nD) : Fin 3 → Nat :=
  let c14_4081 : Index := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_261 : BitVec 32 := 2#32
  let v337 : BitVec 32 := Scalar.remsi v2 c2_i32_261
  let c128_i32_262 : BitVec 32 := 128#32
  let v338 : BitVec 32 := Scalar.muli v337 c128_i32_262
  let v3621 : Index := Scalar.indexCast v338
  let c512_4082 : Index := 512#32
  ![14, v3621.toNat, 512]
def k0_off12 (d0 : Dev nD) : Fin 3 → Nat :=
  let c14_4117 : Index := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_261 : BitVec 32 := 2#32
  let v337 : BitVec 32 := Scalar.remsi v2 c2_i32_261
  let c128_i32_262 : BitVec 32 := 128#32
  let v338 : BitVec 32 := Scalar.muli v337 c128_i32_262
  let v3659 : Index := Scalar.indexCast v338
  let c768_4118 : Index := 768#32
  ![14, v3659.toNat, 768]
abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Steps.lean ====
module

public import proofs.«01_k».proof.Proof.Gen.KernelIdeal.Skeleton
public import proofs.«01_k».proof.Proof.Gen.KernelIdeal.Points
public import Idealize.ShloMosaic.Lib.Pipeline.Regions

/-! # The device's program, read as loops

The printed body is one long sequence of memory operations. Here the same sequence is written as what it
is — a barrier among neighbours, the partial products, fifteen hops of four column chunks in each of the
two directions, one exchange with the partner device, the activation, and the collection of the sends —
and the two are shown to be the same term. Every operation takes the rest of the program as an argument,
so that no sequencing has to be rearranged when they are compared. -/
@[expose] public section

noncomputable section

namespace Cert.Proof.Ring

open Idealize.ShloMosaic Idealize.SL.Sem Cert.KernelIdeal Cert.KernelIdeal.Gen

variable {F : FTy → Type} [FloatOps F]

/-- The body's programs over the float values `F`. -/
abbrev Pg (F : FTy → Type) [FloatOps F] := Prog (TpuEff nD τ sig (Elt F) Λ₀ .tc) PUnit

/-- One round of a step for each index of a list, each given the index and the rest of the program. -/
def repK {ι : Type} : List ι → (ι → Pg F → Pg F) → Pg F → Pg F
  | [], _, k => k
  | i :: l, f, k => f i (repK l f k)

/-- The indices of the loops, in order. -/
abbrev ix4 : List (Fin 4) := [0, 1, 2, 3]
abbrev ix14 : List (Fin 14) := [0, 1, 2, 3, 4, 5, 6, 7, 8, 9, 10, 11, 12, 13]
abbrev ix15 : List (Fin 15) := [0, 1, 2, 3, 4, 5, 6, 7, 8, 9, 10, 11, 12, 13, 14]
abbrev ix16 : List (Fin 16) := [0, 1, 2, 3, 4, 5, 6, 7, 8, 9, 10, 11, 12, 13, 14, 15]

/-! ## The places the operations name -/

/-- The ring buffer of direction `d`: clockwise, then counter-clockwise. -/
def buf (d : Fin 2) : Memref sig .tc .vmem S16x256x1024 .bf16 :=
  match d with | 0 => Memref.whole cc0_scratch2 | 1 => Memref.whole cc0_scratch3

theorem hbuf (d : Fin 2) : (buf d).IsWhole :=
  match d with | 0 => Memref.isWhole_whole _ | 1 => Memref.isWhole_whole _

/-- The buffer of the partner's partial rows. -/
abbrev pbuf : Memref sig .tc .vmem S2x128x1024 .bf16 := Memref.whole cc0_scratch4
theorem hpbuf : pbuf.IsWhole := Memref.isWhole_whole _

/-- The copy of the weights and the buffer of products. -/
abbrev wbuf : Memref sig .tc .vmem S128x2048 .bf16 := Memref.whole cc0_scratch0
theorem hwbuf : wbuf.IsWhole := Memref.isWhole_whole _
abbrev qbuf : Memref sig .tc .vmem S4096x2048 .bf16 := Memref.whole cc0_scratch1
theorem hqbuf : qbuf.IsWhole := Memref.isWhole_whole _

theorem inbB : ∀ (h : Fin 16) (s : Fin 4), ∀ a, (![h.val, 0, 256 * s.val] : Fin 3 → ℕ) a + S1x256x256.size a ≤ S16x256x1024.size a := by
  decide

theorem wordsB : ∀ (h : Fin 16) (s : Fin 4),
    (Rect.unit (s := S16x256x1024) ![h.val, 0, 256 * s.val] S1x256x256.size (inbB h s)).WholeWords (EltTy.packing .bf16) := by
  decide

theorem packedB : ∀ (h : Fin 16) (s : Fin 4),
    (Rect.unit (s := S16x256x1024) ![h.val, 0, 256 * s.val] S1x256x256.size (inbB h s)).PackedRows (EltTy.packing .bf16) := by
  decide

theorem inbP : ∀ (d : Fin 2) (s : Fin 4), ∀ a, (![d.val, 0, 256 * s.val] : Fin 3 → ℕ) a + S1x128x256.size a ≤ S2x128x1024.size a := by
  decide

theorem wordsP : ∀ (d : Fin 2) (s : Fin 4),
    (Rect.unit (s := S2x128x1024) ![d.val, 0, 256 * s.val] S1x128x256.size (inbP d s)).WholeWords (EltTy.packing .bf16) := by
  decide

theorem inbH : ∀ (h : Fin 15) (s : Fin 4), ∀ a, (![h.val, s.val] : Fin 2 → ℕ) a + S1x1.size a ≤ S15x4.size a := by
  decide

theorem inbX : ∀ (d : Fin 2) (s : Fin 4), ∀ a, (![d.val, s.val] : Fin 2 → ℕ) a + S1x1.size a ≤ S2x4.size a := by
  decide

theorem inbO : ∀ (d : Fin 2) (s : Fin 4), ∀ a, (![0, 1024 * d.val + 256 * s.val] : Fin 2 → ℕ) a + S128x256.size a ≤ S128x2048.size a := by
  decide

theorem slicesA : ∀ s : Fin 4, S256x1024.Slices ![0, 256 * s.val] S256x256 := by
  decide

/-- Chunk `s` of slot `h` of a ring buffer. -/
abbrev rB (h : Fin 16) (s : Fin 4) : Rect S16x256x1024 :=
  Rect.unit (s := S16x256x1024) ![h.val, 0, 256 * s.val] S1x256x256.size (inbB h s)

/-- It as the two-dimensional memref the copies and waits name. -/
abbrev mB (d : Fin 2) (h : Fin 16) (s : Fin 4) : Memref sig .tc .vmem S256x256 .bf16 :=
  ((buf d).slice (rB h s) (fun _ => rfl)).squeeze S256x256 squeezes_S1x256x256_S256x256

/-- Chunk `s` of direction `d` of the partner buffer. -/
abbrev rP (d : Fin 2) (s : Fin 4) : Rect S2x128x1024 :=
  Rect.unit (s := S2x128x1024) ![d.val, 0, 256 * s.val] S1x128x256.size (inbP d s)

abbrev mP (d : Fin 2) (s : Fin 4) : Memref sig .tc .vmem S128x256 .bf16 :=
  (pbuf.slice (rP d s) (fun _ => rfl)).squeeze S128x256 squeezes_S1x128x256_S128x256

/-- The partner's half of chunk `s` of the last slot. -/
def offO (s : Fin 4) (d0 : Dev nD) : Fin 3 → ℕ :=
  match s with | 0 => k0_off5 d0 | 1 => k0_off6 d0 | 2 => k0_off7 d0 | 3 => k0_off8 d0

theorem inbOff (s : Fin 4) (d0 : Dev nD) : ∀ a, offO s d0 a + S1x128x256.size a ≤ S16x256x1024.size a :=
  match s with | 0 => k0_off5_inb d0 | 1 => k0_off6_inb d0 | 2 => k0_off7_inb d0 | 3 => k0_off8_inb d0

theorem wordsOff (s : Fin 4) (d0 : Dev nD) :
    (Rect.unit (s := S16x256x1024) (offO s d0) S1x128x256.size (inbOff s d0)).WholeWords (EltTy.packing .bf16) :=
  match s with | 0 => k0_off5_wordsbf16 d0 | 1 => k0_off6_wordsbf16 d0 | 2 => k0_off7_wordsbf16 d0 | 3 => k0_off8_wordsbf16 d0

/-- The device's own half of chunk `s` of the last slot. -/
def offM (s : Fin 4) (d0 : Dev nD) : Fin 3 → ℕ :=
  match s with | 0 => k0_off9 d0 | 1 => k0_off10 d0 | 2 => k0_off11 d0 | 3 => k0_off12 d0

theorem inbMine (s : Fin 4) (d0 : Dev nD) : ∀ a, offM s d0 a + S1x128x256.size a ≤ S16x256x1024.size a :=
  match s with | 0 => k0_off9_inb d0 | 1 => k0_off10_inb d0 | 2 => k0_off11_inb d0 | 3 => k0_off12_inb d0

abbrev rO (s : Fin 4) (d0 : Dev nD) : Rect S16x256x1024 :=
  Rect.unit (s := S16x256x1024) (offO s d0) S1x128x256.size (inbOff s d0)

abbrev rM (s : Fin 4) (d0 : Dev nD) : Rect S16x256x1024 :=
  Rect.unit (s := S16x256x1024) (offM s d0) S1x128x256.size (inbMine s d0)

abbrev mO (d : Fin 2) (s : Fin 4) (d0 : Dev nD) : Memref sig .tc .vmem S128x256 .bf16 :=
  ((buf d).slice (rO s d0) (fun _ => rfl)).squeeze S128x256 squeezes_S1x128x256_S128x256

/-- The semaphores: of the sends and of the arrivals of a hop, and of the exchange with the partner. -/
def semS (d : Fin 2) (h : Fin 15) (s : Fin 4) : DmaSem sig :=
  match d with
  | 0 => ((cc0_scratch5.slice (Rect.unit (s := S15x4) ![h.val, s.val] S1x1.size (inbH h s))).squeeze S_ squeezes_S1x1_S_).sem
  | 1 => ((cc0_scratch7.slice (Rect.unit (s := S15x4) ![h.val, s.val] S1x1.size (inbH h s))).squeeze S_ squeezes_S1x1_S_).sem

def semR (d : Fin 2) (h : Fin 15) (s : Fin 4) : DmaSem sig :=
  match d with
  | 0 => ((cc0_scratch6.slice (Rect.unit (s := S15x4) ![h.val, s.val] S1x1.size (inbH h s))).squeeze S_ squeezes_S1x1_S_).sem
  | 1 => ((cc0_scratch8.slice (Rect.unit (s := S15x4) ![h.val, s.val] S1x1.size (inbH h s))).squeeze S_ squeezes_S1x1_S_).sem

def semXS (d : Fin 2) (s : Fin 4) : DmaSem sig :=
  ((cc0_scratch9.slice (Rect.unit (s := S2x4) ![d.val, s.val] S1x1.size (inbX d s))).squeeze S_ squeezes_S1x1_S_).sem

def semXR (d : Fin 2) (s : Fin 4) : DmaSem sig :=
  ((cc0_scratch10.slice (Rect.unit (s := S2x4) ![d.val, s.val] S1x1.size (inbX d s))).squeeze S_ squeezes_S1x1_S_).sem

/-- The barrier's semaphore. -/
abbrev barS : Sem sig := (SemArray.scalar (sig.barrier 0 rfl) : Sems sig S_).sem

/-- The slot a hop adds into, and the one it was sent from. -/
def cur (h : Fin 15) : Fin 16 := ⟨h.val, Nat.lt_succ_of_lt h.isLt⟩
def prv (h : Fin 15) : Fin 16 := ⟨(h.val + 15) % 16, Nat.mod_lt _ (by decide)⟩

/-- The rows of the activations whose products are the block of ring position `q`. -/
def epair (q : Fin 16) : ℕ :=
  (![0, 256, 512, 768, 1792, 2816, 3840, 3584, 2560, 1536, 1280, 2304, 3328, 3072, 2048, 1024] : Fin 16 → ℕ) q

theorem inbA : ∀ q : Fin 16, ∀ a, (![epair q, 0] : Fin 2 → ℕ) a + S256x128.size a ≤ S4096x128.size a := by
  decide

theorem inbQ : ∀ q : Fin 16, ∀ a, (![256 * q.val, 0] : Fin 2 → ℕ) a + S256x2048.size a ≤ S4096x2048.size a := by
  decide

theorem packedQ : ∀ q : Fin 16,
    (Rect.unit (s := S4096x2048) ![256 * q.val, 0] S256x2048.size (inbQ q)).PackedRows (EltTy.packing .bf16) := by
  decide

/-! ## The values the operations store -/

/-- A table of sixteen words read at the word `i`, as the program reads it: a masked sum. -/
def look16 (i : BitVec 32) (v : IVec S1x16 32) : BitVec 32 :=
  extractAt ![0, 0, 0] (shapeCast S1x1x1 (multiReductionI .add [1, 2] S1 (shapeCast S1x1x16
    (select (cmpi .eq (iota .tc S1x16 32 [1] iota_S1x16_d1_w32) (broadcast S1x16 i)) v (broadcast S1x16 0#32))
    shapeCasts_S1x16_S1x1x16) 0#32 reduces_S1x1x16_S1 rfl) shapeCasts_S1_S1x1x1) inpos_S1x1x1_p0_0_0

/-- The table of the thirty-two ring positions, read at the device. -/
def look32 (i : BitVec 32) (v : IVec S1x32 32) : BitVec 32 :=
  extractAt ![0, 0, 0] (shapeCast S1x1x1 (multiReductionI .add [1, 2] S1 (shapeCast S1x1x32
    (select (cmpi .eq (iota .tc S1x32 32 [1] iota_S1x32_d1_w32) (broadcast S1x32 i)) v (broadcast S1x32 0#32))
    shapeCasts_S1x32_S1x1x32) 0#32 reduces_S1x1x32_S1 rfl) shapeCasts_S1_S1x1x1) inpos_S1x1x1_p0_0_0

/-- The device's number as the program's word. -/
def wordOf (d0 : Dev nD) : BitVec 32 := Scalar.remsi (Scalar.divsi (Dev.word d0) 1#32) 32#32
/-- The next and the previous ring position. -/
def nextW (v : BitVec 32) : BitVec 32 := Scalar.remsi (Scalar.addi v 1#32) 16#32
def prevW (v : BitVec 32) : BitVec 32 := Scalar.remsi (Scalar.addi (Scalar.subi v 1#32) 16#32) 16#32

/-- A product of 256 rows of activations and 1024 columns of weights. -/
def firstV (a : Vec F S256x128 .bf16) (w : Vec F S128x1024 .bf16) : FVec F S1x256x1024 .bf16 :=
  shapeCast S1x256x1024 (truncf .bf16 (matmul dot_S256x128_S128x1024_S256x1024_1_0_0_1_n_n none
    (shapeCast S256x128 a shapeCasts_S256x128_S256x128) w (constant S256x1024 .f32 0x00000000#32)) bitsLt_bf16_f32)
    shapeCasts_S256x1024_S1x256x1024

/-- A product of 256 rows of activations and all the weights. -/
def prodV (a : Vec F S256x128 .bf16) (w : Vec F S128x2048 .bf16) : FVec F S256x2048 .bf16 :=
  shapeCast S256x2048 (truncf .bf16 (matmul dot_S256x128_S128x2048_S256x2048_1_0_0_1_n_n none
    (shapeCast S256x128 a shapeCasts_S256x128_S256x128) w (constant S256x2048 .f32 0x00000000#32)) bitsLt_bf16_f32)
    shapeCasts_S256x2048_S256x2048

/-- An arrived chunk plus the device's own product. -/
def addV (s : Fin 4) (p : Vec F S256x1024 .bf16) (x : Vec F S1x256x256 .bf16) : FVec F S1x256x256 .bf16 :=
  shapeCast S1x256x256 (addf (shapeCast S256x256 x shapeCasts_S1x256x256_S256x256)
    (extractStridedSlice S256x256 ![0, 256 * s.val] p (slicesA s))) shapeCasts_S256x256_S1x256x256

/-- The two half sums added in the wide format and passed through the activation. -/
def outV (x y : Vec F S1x128x256 .bf16) : FVec F S128x256 .f32 :=
  mulf (addf (extf .f32 (shapeCast S128x256 x shapeCasts_S1x128x256_S128x256) bitsLt_bf16_f32)
      (extf .f32 (shapeCast S128x256 y shapeCasts_S1x128x256_S128x256) bitsLt_bf16_f32))
    (logistic (addf (extf .f32 (shapeCast S128x256 x shapeCasts_S1x128x256_S128x256) bitsLt_bf16_f32)
      (extf .f32 (shapeCast S128x256 y shapeCasts_S1x128x256_S128x256) bitsLt_bf16_f32)))

/-! ## The steps -/

section
variable (a0 : Memref sig .tc .vmem S4096x128 .bf16) (a1 : Memref sig .tc .vmem S128x2048 .bf16)
  (a2 : Memref sig .tc .vmem S1x16 .i32) (a3 : Memref sig .tc .vmem S1x16 .i32) (a4 : Memref sig .tc .vmem S1x32 .i32)
  (a5 : Memref sig .tc .vmem S128x2048 .f32)

/-- Chunk `s` of a slot sent one device on. -/
def sendB (d : Fin 2) (src dst : Fin 16) (h : Fin 15) (s : Fin 4) (tgt : Dev nD) (k : Pg F) : Pg F :=
  .op (.enqueueDma (mB d src s) (.remote (Dev.tc tgt) (mB d dst s) (.dma (semS d h s))) (.dma (semR d h s))
    (((hbuf d).wordExact_slice rfl _ (wordsB src s)).reshape _ _) (((hbuf d).wordExact_slice rfl _ (wordsB dst s)).reshape _ _)
    ⟨⟨rfl, Or.inl rfl⟩, trivial⟩) fun _ => k

/-- Chunk `s` of hop `h` awaited, and the device's product added to it. -/
def recvB (d : Fin 2) (h : Fin 15) (s : Fin 4) (p : Vec F S256x1024 .bf16) (k : Pg F) : Pg F :=
  .op (.waitDma2 (semR d h s) (mB d (prv h) s) (mB d (cur h) s)
    (((hbuf d).wordExact_slice rfl _ (wordsB (prv h) s)).reshape _ _) (((hbuf d).wordExact_slice rfl _ (wordsB (cur h) s)).reshape _ _)) fun _ =>
  .op (.load (buf d) (rB (cur h) s).toLoadRect (View.loadsAt_vmem h_S1x256x256)) fun x =>
  .op (.load (buf d) (rB (cur h) s).toLoadRect (View.loadsAt_vmem h_S1x256x256)) fun _ =>
  .op (.store (buf d) (rB (cur h) s) (addV s p x) Finset.univ
    (View.stores_vmem h_S1x256x256 ((hbuf d).storeExact_slice rfl _ (packedB (cur h) s)) (fun _ => rfl)) (.inl rfl)) fun _ => k

/-- The send of chunk `s` of hop `h` collected. -/
def backB (d : Fin 2) (h : Fin 15) (s : Fin 4) (k : Pg F) : Pg F :=
  .op (.waitDma2 (semS d h s) (mB d (cur h) s) (mB d (prv h) s)
    (((hbuf d).wordExact_slice rfl _ (wordsB (cur h) s)).reshape _ _) (((hbuf d).wordExact_slice rfl _ (wordsB (prv h) s)).reshape _ _)) fun _ => k

/-- The partner's half of chunk `s` of the last slot sent to the partner. -/
def sendX (d : Fin 2) (s : Fin 4) (d0 tgt : Dev nD) (k : Pg F) : Pg F :=
  .op (.enqueueDma (mO d s d0) (.remote (Dev.tc tgt) (mP d s) (.dma (semXS d s))) (.dma (semXR d s))
    (((hbuf d).wordExact_slice rfl _ (wordsOff s d0)).reshape _ _) ((hpbuf.wordExact_slice rfl _ (wordsP d s)).reshape _ _)
    ⟨⟨rfl, Or.inl rfl⟩, trivial⟩) fun _ => k

/-- The partner's half awaited, added to the device's own, and the activation stored. -/
def finX (d : Fin 2) (s : Fin 4) (d0 : Dev nD) (k : Pg F) : Pg F :=
  .op (.waitDma2 (semXR d s) (mO d s d0) (mP d s)
    (((hbuf d).wordExact_slice rfl _ (wordsOff s d0)).reshape _ _) ((hpbuf.wordExact_slice rfl _ (wordsP d s)).reshape _ _)) fun _ =>
  .op (.load (buf d) (rM s d0).toLoadRect (View.loadsAt_vmem h_S1x128x256)) fun x =>
  .op (.load pbuf (rP d s).toLoadRect (View.loadsAt_vmem h_S1x128x256)) fun y =>
  .op (.load a5 (Rect.unit (s := S128x2048) ![0, 1024 * d.val + 256 * s.val] S128x256.size (inbO d s)).toLoadRect (View.loadsAt_vmem h_S128x256)) fun _ =>
  .op (.store a5 (Rect.unit (s := S128x2048) ![0, 1024 * d.val + 256 * s.val] S128x256.size (inbO d s)) (outV x y) Finset.univ
    (View.stores_vmem_bits_univ h_S128x256 rfl) (.inl rfl)) fun _ => k

/-- The send of the partner's half collected. -/
def backX (d : Fin 2) (s : Fin 4) (d0 : Dev nD) (k : Pg F) : Pg F :=
  .op (.waitDma2 (semXS d s) (mP d s) (mO d s d0)
    ((hpbuf.wordExact_slice rfl _ (wordsP d s)).reshape _ _) (((hbuf d).wordExact_slice rfl _ (wordsOff s d0)).reshape _ _)) fun _ => k

/-- The block of products of ring position `q`. -/
def prodB (q : Fin 16) (k : Pg F) : Pg F :=
  .op (.load a0 (Rect.unit (s := S4096x128) ![epair q, 0] S256x128.size (inbA q)).toLoadRect (View.loadsAt_vmem h_S256x128)) fun x =>
  .op (.load wbuf (Rect.unit (s := S128x2048) ![0, 0] S128x2048.size inb_S128x2048_S128x2048_0_0).toLoadRect (View.loadsAt_vmem h_S128x2048)) fun w =>
  .op (.load qbuf (Rect.unit (s := S4096x2048) ![256 * q.val, 0] S256x2048.size (inbQ q)).toLoadRect (View.loadsAt_vmem h_S256x2048)) fun _ =>
  .op (.store qbuf (Rect.unit (s := S4096x2048) ![256 * q.val, 0] S256x2048.size (inbQ q)) (prodV x w) Finset.univ
    (View.stores_vmem h_S256x2048 (hqbuf.storeExact_slice rfl _ (packedQ q)) (fun _ => rfl)) (.inl rfl)) fun _ => k

/-- A signal of one unit to the barrier of a device. -/
def tellB (tgt : Dev nD) (k : Pg F) : Pg F := .op (.semSignal (tgt, .tc) barS (1#32 : BitVec 32).toInt) fun _ => k

/-- One read of the table of ring neighbours. -/
def readT (a : Memref sig .tc .vmem S1x16 .i32) (k : IVec S1x16 32 → Pg F) : Pg F :=
  .op (.load a (Rect.unit (s := S1x16) ![0, 0] S1x16.size inb_S1x16_S1x16_0_0).toLoadRect (View.loadsAt_vmem h_S1x16)) fun (v : Vec F S1x16 .i32) => k v

/-- The weights copied, and the two first products of the ring stored. -/
def firstB (p : BitVec 32) (k : Pg F) : Pg F :=
  .op (.load a1 (Rect.unit (s := S128x2048) ![0, 0] S128x2048.size inb_S128x2048_S128x2048_0_0).toLoadRect (View.loadsAt_vmem h_S128x2048)) fun w =>
  .op (.load wbuf (Rect.unit (s := S128x2048) ![0, 0] S128x2048.size inb_S128x2048_S128x2048_0_0).toLoadRect (View.loadsAt_vmem h_S128x2048)) fun _ =>
  .op (.store wbuf (Rect.unit (s := S128x2048) ![0, 0] S128x2048.size inb_S128x2048_S128x2048_0_0)
    (shapeCast S128x2048 (shapeCast S128x2048 w shapeCasts_S128x2048_S128x2048) shapeCasts_S128x2048_S128x2048 : FVec F S128x2048 .bf16) Finset.univ
    (View.stores_vmem h_S128x2048 (hwbuf.storeExact_slice rfl _ packedbf16_S128x2048_S128x2048_0_0) (fun _ => rfl)) (.inl rfl)) fun _ =>
  readT a2 fun t1 =>
  .op (.assume (k0_chk3 (look16 (prevW p) t1)) (k0_chk3.dec (look16 (prevW p) t1))) fun h1 =>
  .op (.load a0 (Rect.unit (s := S4096x128) (k0_off1 (look16 (prevW p) t1)) S256x128.size (k0_off1_inb _ h1.down)).toLoadRect (View.loadsAt_vmem h_S256x128)) fun x1 =>
  readT a2 fun t2 =>
  .op (.assume (k0_chk4 (look16 (nextW p) t2)) (k0_chk4.dec (look16 (nextW p) t2))) fun h2 =>
  .op (.load a0 (Rect.unit (s := S4096x128) (k0_off2 (look16 (nextW p) t2)) S256x128.size (k0_off2_inb _ h2.down)).toLoadRect (View.loadsAt_vmem h_S256x128)) fun x2 =>
  .op (.load wbuf (Rect.unit (s := S128x2048) ![0, 0] S128x1024.size inb_S128x2048_S128x1024_0_0).toLoadRect (View.loadsAt_vmem h_S128x1024)) fun w1 =>
  .op (.load (buf 0) (Rect.unit (s := S16x256x1024) ![15, 0, 0] S1x256x1024.size inb_S16x256x1024_S1x256x1024_15_0_0).toLoadRect (View.loadsAt_vmem h_S1x256x1024)) fun _ =>
  .op (.store (buf 0) (Rect.unit (s := S16x256x1024) ![15, 0, 0] S1x256x1024.size inb_S16x256x1024_S1x256x1024_15_0_0) (firstV x1 w1) Finset.univ
    (View.stores_vmem h_S1x256x1024 ((hbuf 0).storeExact_slice rfl _ packedbf16_S16x256x1024_S1x256x1024_15_0_0) (fun _ => rfl)) (.inl rfl)) fun _ =>
  .op (.load wbuf (Rect.unit (s := S128x2048) ![0, 1024] S128x1024.size inb_S128x2048_S128x1024_0_1024).toLoadRect (View.loadsAt_vmem h_S128x1024)) fun w2 =>
  .op (.load (buf 1) (Rect.unit (s := S16x256x1024) ![15, 0, 0] S1x256x1024.size inb_S16x256x1024_S1x256x1024_15_0_0).toLoadRect (View.loadsAt_vmem h_S1x256x1024)) fun _ =>
  .op (.store (buf 1) (Rect.unit (s := S16x256x1024) ![15, 0, 0] S1x256x1024.size inb_S16x256x1024_S1x256x1024_15_0_0) (firstV x2 w2) Finset.univ
    (View.stores_vmem h_S1x256x1024 ((hbuf 1).storeExact_slice rfl _ packedbf16_S16x256x1024_S1x256x1024_15_0_0) (fun _ => rfl)) (.inl rfl)) fun _ => k

/-- The two products a hop adds, loaded. -/
def loadQ (p : BitVec 32) (hp : k0_chk5 p) (h : Fin 15) (k : Vec F S256x1024 .bf16 → Vec F S256x1024 .bf16 → Pg F) : Pg F :=
  .op (.load qbuf (Rect.unit (s := S4096x2048) (k0_off3 p (BitVec.ofNat 32 h.val)) S256x1024.size (k0_off3_inb p hp h)).toLoadRect (View.loadsAt_vmem h_S256x1024)) fun x =>
  .op (.load qbuf (Rect.unit (s := S4096x2048) (k0_off4 p (BitVec.ofNat 32 h.val)) S256x1024.size (k0_off4_inb p hp h)).toLoadRect (View.loadsAt_vmem h_S256x1024)) fun y => k x y

/-- One chunk of a hop before the last, in both directions: awaited, added to, and passed on. -/
def hopS (r l : Dev nD) (h : Fin 14) (x y : Vec F S256x1024 .bf16) (s : Fin 4) (k : Pg F) : Pg F :=
  recvB 0 h.castSucc s x <| sendB 0 (cur h.castSucc) (cur h.succ) h.succ s r <|
  recvB 1 h.castSucc s y <| sendB 1 (cur h.castSucc) (cur h.succ) h.succ s l <| k

/-- A hop before the last. -/
def hopB (p : BitVec 32) (hp : k0_chk5 p) (r l : Dev nD) (h : Fin 14) (k : Pg F) : Pg F :=
  loadQ p hp h.castSucc fun x y => repK ix4 (hopS r l h x y) k

/-- The last hop: each chunk awaited and added to, and its other half sent to the partner. -/
def hopL (p : BitVec 32) (hp : k0_chk5 p) (d0 q : Dev nD) (k : Pg F) : Pg F :=
  loadQ p hp 14 fun x y =>
  repK ix4 (fun s k => recvB 0 14 s x <| sendX 0 s d0 q <| recvB 1 14 s y <| sendX 1 s d0 q <| k) k

/-- The rest of the body once the neighbours are known and the barrier passed. -/
def mainB (p : BitVec 32) (hp : k0_chk5 p) (d0 r l q : Dev nD) : Pg F :=
  firstB a0 a1 a2 p <|
  repK ix4 (fun s k => sendB 0 15 0 0 s r <| sendB 1 15 0 0 s l k) <|
  repK ix16 (prodB a0) <|
  repK ix14 (hopB p hp r l) <|
  hopL p hp d0 q <|
  repK ix4 (fun s k => finX a5 0 s d0 <| finX a5 1 s d0 k) <|
  repK ix15 (fun h k => repK ix4 (fun s k => backB 0 h s <| backB 1 h s k) k) <|
  repK ix4 (fun s k => backX 0 s d0 <| backX 1 s d0 k) <|
  .ret ⟨⟩

/-- The table reads, their checks, and the barrier. -/
def headB (k : (d0 : Dev nD) → (p : BitVec 32) → k0_chk5 p → (r0 r1 : BitVec 32) → k0_chk2 d0 r0 r1 → (l0 l1 : BitVec 32) → k0_chk1 d0 l0 l1 → Pg F) : Pg F :=
  .op .deviceId fun d0 =>
  .op (.load a4 (Rect.unit (s := S1x32) ![0, 0] S1x32.size inb_S1x32_S1x32_0_0).toLoadRect (View.loadsAt_vmem h_S1x32)) fun (v5 : Vec F S1x32 .i32) =>
  .op (.assume (k0_chk5 (look32 (wordOf d0) v5)) (k0_chk5.dec (look32 (wordOf d0) v5))) fun hp =>
  readT a2 fun t1 => readT a3 fun t2 =>
  .op (.assume (k0_chk2 d0 (look16 (nextW (look32 (wordOf d0) v5)) t1) (look16 (nextW (look32 (wordOf d0) v5)) t2)) (k0_chk2.dec _ _ _)) fun h2 =>
  readT a2 fun t3 => readT a3 fun t4 =>
  .op (.assume (k0_chk1 d0 (look16 (prevW (look32 (wordOf d0) v5)) t3) (look16 (prevW (look32 (wordOf d0) v5)) t4)) (k0_chk1.dec _ _ _)) fun h1 =>
  tellB ⟨k0_dev1 d0 (look16 (prevW (look32 (wordOf d0) v5)) t3) (look16 (prevW (look32 (wordOf d0) v5)) t4), k0_dev1_lt _ _ _ h1.down⟩ <|
  tellB ⟨k0_dev2 d0 (look16 (nextW (look32 (wordOf d0) v5)) t1) (look16 (nextW (look32 (wordOf d0) v5)) t2), k0_dev2_lt _ _ _ h2.down⟩ <|
  tellB ⟨k0_dev3 d0, k0_dev3_lt d0⟩ <|
  .op (.semWait barS (3#32 : BitVec 32).toInt) fun _ =>
  k d0 (look32 (wordOf d0) v5) hp.down (look16 (nextW (look32 (wordOf d0) v5)) t1) (look16 (nextW (look32 (wordOf d0) v5)) t2) h2.down
    (look16 (prevW (look32 (wordOf d0) v5)) t3) (look16 (prevW (look32 (wordOf d0) v5)) t4) h1.down

/-- The devices the body sends to: right, left, partner. -/
abbrev devR (d0 : Dev nD) (r0 r1 : BitVec 32) (h : k0_chk2 d0 r0 r1) : Dev nD := ⟨k0_dev2 d0 r0 r1, k0_dev2_lt _ _ _ h⟩
abbrev devL (d0 : Dev nD) (l0 l1 : BitVec 32) (h : k0_chk1 d0 l0 l1) : Dev nD := ⟨k0_dev1 d0 l0 l1, k0_dev1_lt _ _ _ h⟩
abbrev devQ (d0 : Dev nD) : Dev nD := ⟨k0_dev3 d0, k0_dev3_lt d0⟩

/-- The body. -/
def body : Pg F :=
  headB a2 a3 a4 fun d0 p hp r0 r1 h2 l0 l1 h1 =>
  mainB a0 a1 a2 a5 p hp d0 (devR d0 r0 r1 h2) (devL d0 l0 l1 h1) (devQ d0)

end

/-! ## The printed body -/

section
variable (a0 : Memref sig .tc .vmem S4096x128 .bf16) (h0 : a0.IsWhole) (a1 : Memref sig .tc .vmem S128x2048 .bf16) (h1 : a1.IsWhole)
  (a2 : Memref sig .tc .vmem S1x16 .i32) (h2 : a2.IsWhole) (a3 : Memref sig .tc .vmem S1x16 .i32) (h3 : a3.IsWhole)
  (a4 : Memref sig .tc .vmem S1x32 .i32) (h4 : a4.IsWhole) (a5 : Memref sig .tc .vmem S128x2048 .f32) (h5 : a5.IsWhole)

/-- The printed body is the one above. -/
theorem body_eq : cc0_body (F := F) a0 h0 a1 h1 a2 h2 a3 h3 a4 h4 a5 h5 (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 cc0_scratch6 cc0_scratch7 cc0_scratch8 cc0_scratch9 cc0_scratch10 = body a0 a1 a2 a3 a4 a5 := by
  chain_rfl

end

end Cert.Proof.Ring
-- ==== Proof.Ring.lean ====
module

public import proofs.«01_k».proof.Proof.Steps

/-! # The two rings

The devices stand in two rings of sixteen; a device's partner stands at the same place of the other ring.
The tables the program reads give each device its place; here what is read is evaluated on every device. -/
@[expose] public section

noncomputable section

namespace Cert.Proof.Ring

open Idealize.ShloMosaic Idealize.SL.Sem Cert.KernelIdeal Cert.KernelIdeal.Gen

/-- A device's place in its ring. -/
def rpos (c : Dev nD) : Fin 16 :=
  (![0, 0, 1, 1, 2, 2, 3, 3, 15, 15, 10, 10, 9, 9, 4, 4, 14, 14, 11, 11, 8, 8, 5, 5, 13, 13, 12, 12, 7, 7, 6, 6] : Fin 32 → Fin 16) c

/-- The next device of the ring, the one before, and the partner. -/
def rt (c : Dev nD) : Dev nD :=
  (![3, 2, 5, 4, 7, 6, 14, 15, 0, 1, 18, 19, 11, 10, 22, 23, 8, 9, 26, 27, 12, 13, 30, 31, 16, 17, 25, 24, 20, 21, 29, 28] : Fin 32 → Fin 32) c
def lf (c : Dev nD) : Dev nD :=
  (![8, 9, 1, 0, 3, 2, 5, 4, 16, 17, 13, 12, 20, 21, 6, 7, 24, 25, 10, 11, 28, 29, 14, 15, 27, 26, 18, 19, 31, 30, 22, 23] : Fin 32 → Fin 32) c
def pt (c : Dev nD) : Dev nD := ⟨c.val + 1 - 2 * (c.val % 2), by have := c.isLt; have : nD = 32 := rfl; omega⟩

theorem lf_rt : ∀ c, lf (rt c) = c := by decide
theorem rt_lf : ∀ c, rt (lf c) = c := by decide
theorem pt_pt : ∀ c, pt (pt c) = c := by decide
theorem rpos_lf : ∀ c, rpos (lf c) = rpos c + 15 := by decide
theorem rpos_rt : ∀ c, rpos (rt c) = rpos c + 1 := by decide
theorem rpos_pt : ∀ c, rpos (pt c) = rpos c := by decide
theorem epair_rpos : ∀ c : Dev nD, epair (rpos c) + 128 * (c.val % 2) = 128 * c.val := by decide

/-- The tables. -/
abbrev tab0 : IVec S1x16 32 := fun i => lit0 (S1x16.rowMajor i)
abbrev tab1 : IVec S1x16 32 := fun i => lit1 (S1x16.rowMajor i)
abbrev tab2 : IVec S1x32 32 := fun i => lit2 (S1x32.rowMajor i)

/-- The device's place as the program reads it. -/
def pw (c : Dev nD) : BitVec 32 := BitVec.ofNat 32 (rpos c).val

theorem look_pos : ∀ c : Dev nD, look32 (wordOf c) tab2 = pw c := by decide +kernel

theorem chk5_pw : ∀ c : Dev nD, k0_chk5 (pw c) := by decide +kernel
theorem chk2_pw : ∀ c : Dev nD, k0_chk2 c (look16 (nextW (pw c)) tab0) (look16 (nextW (pw c)) tab1) := by decide +kernel
theorem chk1_pw : ∀ c : Dev nD, k0_chk1 c (look16 (prevW (pw c)) tab0) (look16 (prevW (pw c)) tab1) := by decide +kernel
theorem chk3_pw : ∀ c : Dev nD, k0_chk3 (look16 (prevW (pw c)) tab0) := by decide +kernel
theorem chk4_pw : ∀ c : Dev nD, k0_chk4 (look16 (nextW (pw c)) tab0) := by decide +kernel

theorem dev2_pw : ∀ c : Dev nD, k0_dev2 c (look16 (nextW (pw c)) tab0) (look16 (nextW (pw c)) tab1) = (rt c).val := by decide +kernel
theorem dev1_pw : ∀ c : Dev nD, k0_dev1 c (look16 (prevW (pw c)) tab0) (look16 (prevW (pw c)) tab1) = (lf c).val := by decide +kernel
theorem dev3_pw : ∀ c : Dev nD, k0_dev3 c = (pt c).val := by decide +kernel

theorem off1_pw : ∀ c : Dev nD, k0_off1 (look16 (prevW (pw c)) tab0) = ![epair (rpos c + 15), 0] := by decide +kernel
theorem off2_pw : ∀ c : Dev nD, k0_off2 (look16 (nextW (pw c)) tab0) = ![epair (rpos c + 1), 0] := by decide +kernel

theorem off3_pw : ∀ (c : Dev nD) (h : Fin 15), k0_off3 (pw c) (BitVec.ofNat 32 h.val) = ![256 * ((rpos c).val + 30 - h.val) % 4096, 0] := by
  decide +kernel
theorem off4_pw : ∀ (c : Dev nD) (h : Fin 15), k0_off4 (pw c) (BitVec.ofNat 32 h.val) = ![256 * ((rpos c).val + h.val + 2) % 4096, 1024] := by
  decide +kernel

theorem offO_eq : ∀ (s : Fin 4) (c : Dev nD), offO s c = ![14, 128 - 128 * (c.val % 2), 256 * s.val] := by decide +kernel
theorem offM_eq : ∀ (s : Fin 4) (c : Dev nD), offM s c = ![14, 128 * (c.val % 2), 256 * s.val] := by decide +kernel

/-! ## The semaphores of the copies, numbered -/

/-- A copy: its direction, its hop (the fifteenth being the exchange with the partner) and its chunk. -/
abbrev J := Fin 2 × Fin 16 × Fin 4

/-- The semaphore of a copy's departure (`0`) and of its arrival (`1`). -/
def csem (k : Fin 2) (j : J) : DmaSem sig :=
  if h : j.2.1.val < 15 then (if k = 0 then semS j.1 ⟨j.2.1.val, h⟩ j.2.2 else semR j.1 ⟨j.2.1.val, h⟩ j.2.2)
  else (if k = 0 then semXS j.1 j.2.2 else semXR j.1 j.2.2)

/-- Which copy a semaphore is of. -/
def copyOf (v : ℕ) : Option (Fin 2 × J) :=
  if v < 6 then none
  else if v < 246 then
    some (⟨((v - 6) / 60) % 2, Nat.mod_lt _ (by decide)⟩, ⟨(v - 6) / 120 % 2, Nat.mod_lt _ (by decide)⟩,
      ⟨(v - 6) % 60 / 4 % 16, Nat.mod_lt _ (by decide)⟩, ⟨(v - 6) % 4, Nat.mod_lt _ (by decide)⟩)
  else some (⟨(v - 246) / 8 % 2, Nat.mod_lt _ (by decide)⟩, ⟨(v - 246) / 4 % 2, Nat.mod_lt _ (by decide)⟩, 15, ⟨(v - 246) % 4, Nat.mod_lt _ (by decide)⟩)

theorem copyOf_csem : ∀ (k : Fin 2) (j : J), copyOf (csem k j).val = some (k, j) := by decide +kernel
theorem csem_scoped : ∀ (k : Fin 2) (j : J), 6 ≤ (csem k j).val := by decide +kernel

/-- The place of a copy in the order the device issues them. -/
def num (j : J) : ℕ := 8 * j.2.1.val + 2 * j.2.2.val + j.1.val
theorem num_lt (j : J) : num j < 128 := by
  have := j.1.isLt; have := j.2.1.isLt; have := j.2.2.isLt; unfold num; omega
theorem num_inj {j j' : J} (h : num j = num j') : j = j' := by
  obtain ⟨d, h₁, s⟩ := j; obtain ⟨d', h₁', s'⟩ := j'
  have := d.isLt; have := d'.isLt; have := s.isLt; have := s'.isLt
  simp only [num] at h
  have e1 : h₁ = h₁' := Fin.ext (by omega)
  have e2 : s = s' := Fin.ext (by omega)
  have e3 : d = d' := Fin.ext (by omega)
  rw [e1, e2, e3]

/-- Where a copy goes, and where it comes from. -/
def tg (j : J) (c : Dev nD) : Dev nD := if j.2.1.val < 15 then (if j.1 = 0 then rt c else lf c) else pt c
def sg (j : J) (c : Dev nD) : Dev nD := if j.2.1.val < 15 then (if j.1 = 0 then lf c else rt c) else pt c

theorem sg_tg (j : J) (c : Dev nD) : sg j (tg j c) = c := by
  unfold sg tg; split
  · split
    · exact lf_rt c
    · exact rt_lf c
  · exact pt_pt c
theorem tg_sg (j : J) (c : Dev nD) : tg j (sg j c) = c := by
  unfold sg tg; split
  · split
    · exact rt_lf c
    · exact lf_rt c
  · exact pt_pt c

end Cert.Proof.Ring
-- ==== Proof.Vals.lean ====
module

public import proofs.«01_k».proof.Proof.Ring
public import Idealize.ShloMosaic.Lib.Pipeline.Value

/-! # What the devices compute

The contents of the buffers as functions of every device's rows of activations and weights: the partial
products, the running sums that travel the rings, the halves exchanged by partners, and the result. -/
@[expose] public section

noncomputable section

namespace Cert.Proof.Ring

open Idealize.ShloMosaic Idealize.SL.Sem Cert.KernelIdeal Cert.KernelIdeal.Gen

attribute [local irreducible] look16 look32 nextW prevW wordOf

variable {F : FTy → Type} [FloatOps F]

/-- A window of a two-dimensional array. -/
abbrev sub2 {α : Type} {s : Shape} (f : s.Idx → α) (off size : Fin s.rank → ℕ) (inb : ∀ a, off a + size a ≤ s.size a) :
    (⟨s.rank, size⟩ : Shape).Idx → α := fun i => f ((Rect.unit (s := s) off size inb).emb i)

theorem sub2_congr {α : Type} {s : Shape} (f : s.Idx → α) {off off' : Fin s.rank → ℕ} (size : Fin s.rank → ℕ)
    (h : off = off') (inb : ∀ a, off a + size a ≤ s.size a) (inb' : ∀ a, off' a + size a ≤ s.size a) :
    sub2 f off size inb = sub2 f off' size inb' := by subst h; rfl

/-- A first product, as the two-dimensional block it is. -/
def first2 (a : Vec F S256x128 .bf16) (w : Vec F S128x1024 .bf16) : FVec F S256x1024 .bf16 :=
  truncf .bf16 (matmul dot_S256x128_S128x1024_S256x1024_1_0_0_1_n_n none
    (shapeCast S256x128 a shapeCasts_S256x128_S256x128) w (constant S256x1024 .f32 0x00000000#32)) bitsLt_bf16_f32

theorem inbH2 : ∀ d : Fin 2, ∀ a, (![0, 1024 * d.val] : Fin 2 → ℕ) a + S128x1024.size a ≤ S128x2048.size a := by decide
theorem inbQ2 : ∀ (q : Fin 16) (d : Fin 2), ∀ a, (![256 * q.val, 1024 * d.val] : Fin 2 → ℕ) a + S256x1024.size a ≤ S4096x2048.size a := by decide
theorem slicesH : ∀ o : Fin 2, S256x256.Slices ![128 * o.val, 0] S128x256 := by decide

/-- The block of ring position a device's product belongs to, at a hop. -/
def qAt (d : Fin 2) (h : ℕ) (c : Dev nD) : Fin 16 :=
  ⟨(if d = 0 then (rpos c).val + 30 - h else (rpos c).val + h + 2) % 16, Nat.mod_lt _ (by decide)⟩
/-- and before the first hop. -/
def qFirst (d : Fin 2) (c : Dev nD) : Fin 16 := if d = 0 then rpos c + 15 else rpos c + 1

theorem off3_q : ∀ (c : Dev nD) (h : Fin 15), k0_off3 (pw c) (BitVec.ofNat 32 h.val) = ![256 * (qAt 0 h.val c).val, 1024 * (0 : Fin 2).val] := by
  decide +kernel
theorem off4_q : ∀ (c : Dev nD) (h : Fin 15), k0_off4 (pw c) (BitVec.ofNat 32 h.val) = ![256 * (qAt 1 h.val c).val, 1024 * (1 : Fin 2).val] := by
  decide +kernel

section
variable (X : Dev nD → Vec F S4096x128 .bf16) (W : Dev nD → Vec F S128x2048 .bf16)

/-- The rows of a device's activations for a block, and a half of its columns of weights. -/
def rowsX (c : Dev nD) (q : Fin 16) : Vec F S256x128 .bf16 := sub2 (X c) ![epair q, 0] S256x128.size (inbA q)
def colsW (c : Dev nD) (d : Fin 2) : Vec F S128x1024 .bf16 := sub2 (W c) ![0, 1024 * d.val] S128x1024.size (inbH2 d)

/-- All of a device's products, block after block. -/
def prods (c : Dev nD) : S4096x2048.Idx → Elt F .bf16 := fun i =>
  prodV (rowsX X c ⟨(i 0).val / 256, by have : (i 0).val < 4096 := (i 0).isLt; omega⟩) (W c)
    fun a => match a with | 0 => ⟨(i 0).val % 256, Nat.mod_lt _ (by decide)⟩ | 1 => ⟨(i 1).val, (i 1).isLt⟩

/-- The product a device adds at a hop. -/
def prodQ (d : Fin 2) (h : ℕ) (c : Dev nD) : Vec F S256x1024 .bf16 :=
  sub2 (prods X W c) ![256 * (qAt d h c).val, 1024 * d.val] S256x1024.size (inbQ2 _ d)

/-- A chunk of 256 columns. -/
def chunkV (s : Fin 4) (p : Vec F S256x1024 .bf16) : Vec F S256x256 .bf16 := extractStridedSlice S256x256 ![0, 256 * s.val] p (slicesA s)

/-- The device a direction's chunks come from. -/
def from_ (d : Fin 2) (c : Dev nD) : Dev nD := if d = 0 then lf c else rt c

/-- The running sum of a direction after `n` hops, at a device. -/
def val (d : Fin 2) : ℕ → Dev nD → Fin 4 → Vec F S256x256 .bf16
  | 0, c, s => chunkV s (first2 (rowsX X c (qFirst d c)) (colsW W c d))
  | n + 1, c, s => addf (val d n (from_ d c) s : FVec F S256x256 .bf16) (chunkV s (prodQ X W d n c))

/-- Half the rows of a chunk. -/
def halfV (o : Fin 2) (v : Vec F S256x256 .bf16) : Vec F S128x256 .bf16 := extractStridedSlice S128x256 ![128 * o.val, 0] v (slicesH o)

/-- Which half of a block is the device's own. -/
def own2 (c : Dev nD) : Fin 2 := ⟨c.val % 2, Nat.mod_lt _ (by decide)⟩

/-- The device's own half of its ring's sum, and its partner's half of the other's. -/
def mineV (d : Fin 2) (c : Dev nD) (s : Fin 4) : Vec F S128x256 .bf16 := halfV (own2 c) (val X W d 15 c s)
def pairV (d : Fin 2) (c : Dev nD) (s : Fin 4) : Vec F S128x256 .bf16 := halfV (own2 c) (val X W d 15 (pt c) s)

/-- The activation of the two added. -/
def act2 (x y : Vec F S128x256 .bf16) : FVec F S128x256 .f32 :=
  mulf (addf (extf .f32 x bitsLt_bf16_f32) (extf .f32 y bitsLt_bf16_f32))
    (logistic (addf (extf .f32 x bitsLt_bf16_f32) (extf .f32 y bitsLt_bf16_f32)))

/-- A device's result. -/
def outB (c : Dev nD) : S128x2048.Idx → Elt F .f32 := fun i =>
  act2 (mineV X W ⟨(i 1).val / 1024, by have : (i 1).val < 2048 := (i 1).isLt; omega⟩ c ⟨(i 1).val % 1024 / 256, by omega⟩)
      (pairV X W ⟨(i 1).val / 1024, by have : (i 1).val < 2048 := (i 1).isLt; omega⟩ c ⟨(i 1).val % 1024 / 256, by omega⟩)
    fun a => match a with | 0 => ⟨(i 0).val, (i 0).isLt⟩ | 1 => ⟨(i 1).val % 256, Nat.mod_lt _ (by decide)⟩

end

theorem firstV_eq (a : Vec F S256x128 .bf16) (w : Vec F S128x1024 .bf16) :
    firstV a w = shapeCast S1x256x1024 (first2 a w) shapeCasts_S256x1024_S1x256x1024 := rfl

theorem addV_eq (s : Fin 4) (p : Vec F S256x1024 .bf16) (x : Vec F S256x256 .bf16) :
    addV s p (shapeCast S1x256x256 x shapeCasts_S256x256_S1x256x256)
      = shapeCast S1x256x256 (addf (x : FVec F S256x256 .bf16) (chunkV s p)) shapeCasts_S256x256_S1x256x256 := by
  unfold addV chunkV
  rw [shapeCast_shapeCast]

theorem outV_eq (x y : Vec F S128x256 .bf16) (h : S128x256.ShapeCasts S1x128x256) :
    outV (shapeCast S1x128x256 x h) (shapeCast S1x128x256 y h) = act2 x y := by
  unfold outV act2
  rw [shapeCast_shapeCast, shapeCast_shapeCast]

end Cert.Proof.Ring
-- ==== Proof.Sched.lean ====
module

public import proofs.«01_k».proof.Proof.Vals
public import Idealize.ShloMosaic.Lib.Pipeline.Kit
public import Idealize.ShloMosaic.Lib.Rounds
public import Idealize.ShloMosaic.Lib.StableHlo
public import Idealize.ShloMosaic.Lib.Tactic
public import Idealize.ShloMosaic.Lib.Memref
public import Idealize.ShloMosaic.Lib.Pipeline.RegionTalk

/-! # The schedule of the semaphores

Every barrier is raised three times, once by each neighbour and once by the partner; each raise hands over the
landing places of the copies the raised device will issue towards the raiser. Every copy raises two semaphores
once: the departure's, which returns the source, and the arrival's, which hands over the landed contents.
The devices owe these raises from the start, and a wait is allowed while everything still owed lies higher:
the barrier lowest, then the arrivals hop by hop. -/
@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

attribute [local irreducible] look16 look32 nextW prevW wordOf

variable {F : FTy → Type} [FloatOps F]

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

variable (X : Dev nD → Vec F S4096x128 .bf16) (W : Dev nD → Vec F S128x2048 .bf16)

/-! ## The cells -/

abbrev barCell (c : Dev nD) : GSem nD τ sig := ((c : Thread nD τ), .reg barS)
abbrev ccell (k : Fin 2) (c : Dev nD) (j : J) : GSem nD τ sig := ((c : Thread nD τ), .dma (csem k j))

/-- The copy a semaphore counts, if it counts one. -/
def slotOf : SemLoc sig → Option (Fin 2 × J)
  | .reg _ => none
  | .dma v => copyOf v.val

theorem slotOf_csem (k : Fin 2) (j : J) : slotOf (.dma (csem k j)) = some (k, j) := copyOf_csem k j
theorem slotOf_bar : slotOf (.reg barS) = none := rfl

/-- What a copy counts: a chunk's worth, or half a chunk's. -/
def amt (j : J) : ℕ := if j.2.1.val < 15 then (mB 0 0 0).view.dmaCredit else (mP 0 0).view.dmaCredit

theorem credit_mB (d : Fin 2) (h : Fin 16) (s : Fin 4) : (mB d h s).view.dmaCredit = (mB 0 0 0).view.dmaCredit := by
  fin_cases d <;> rfl
theorem credit_mP (d : Fin 2) (s : Fin 4) : (mP d s).view.dmaCredit = (mP 0 0).view.dmaCredit := rfl
theorem credit_mO (d : Fin 2) (s : Fin 4) (c : Dev nD) : (mO d s c).view.dmaCredit = (mP 0 0).view.dmaCredit := by
  fin_cases d <;> rfl

theorem amt_pos (j : J) : 0 < amt j := by
  unfold amt; split <;> exact View.dmaCredit_pos _ (by decide)

/-! ## What the raises hand over -/

/-- The slot a hop is sent from. -/
def prv16 (h : Fin 16) : Fin 16 := ⟨(h.val + 15) % 16, Nat.mod_lt _ (by decide)⟩

/-- The place a copy leaves from, and the place it lands at, at contents not chosen. -/
def srcAny (c : Dev nD) (j : J) : sProp 𝕄 :=
  if j.2.1.val < 15 then iprop(∃ V, owns (c : Thread nD τ) (mB j.1 (prv16 j.2.1) j.2.2) fullShare V)
  else iprop(∃ V, owns (c : Thread nD τ) (mO j.1 j.2.2 c) fullShare V)
def dstAny (c : Dev nD) (j : J) : sProp 𝕄 :=
  if j.2.1.val < 15 then iprop(∃ V, owns (c : Thread nD τ) (mB j.1 j.2.1 j.2.2) fullShare V)
  else iprop(∃ V, owns (c : Thread nD τ) (mP j.1 j.2.2) fullShare V)
/-- The place a copy landed at, at what it brought. -/
def landed (c : Dev nD) (j : J) : sProp 𝕄 :=
  if j.2.1.val < 15 then owns (c : Thread nD τ) (mB j.1 j.2.1 j.2.2) fullShare (val X W j.1 j.2.1.val (from_ j.1 c) j.2.2)
  else owns (c : Thread nD τ) (mP j.1 j.2.2) fullShare (pairV X W j.1 c j.2.2)

/-- A landing place, with the right to raise its semaphore. -/
def give1 (e : Dev nD) (j : J) : sProp 𝕄 := iprop(dstAny (F := F) e j ∗ reached ER (ccell 1 e j) 0)

/-- The landing places a device hands to the one before it, the one after it, and its partner. -/
def give (e : Dev nD) (k : Fin 3) : sProp 𝕄 :=
  match k with
  | 0 => bigSep Finset.univ fun hs : Fin 15 × Fin 4 => give1 e (0, cur hs.1, hs.2)
  | 1 => bigSep Finset.univ fun hs : Fin 15 × Fin 4 => give1 e (1, cur hs.1, hs.2)
  | 2 => bigSep Finset.univ fun ds : Fin 2 × Fin 4 => give1 e (ds.1, 15, ds.2)

/-- Who raises a device's barrier. -/
def nb (k : Fin 3) (c : Dev nD) : Dev nD := match k with | 0 => rt c | 1 => lf c | 2 => pt c
/-- Whose barrier a device raises. -/
def bn (k : Fin 3) (c : Dev nD) : Dev nD := match k with | 0 => lf c | 1 => rt c | 2 => pt c
theorem nb_bn (k : Fin 3) (c : Dev nD) : nb k (bn k c) = c := by
  fin_cases k
  · exact rt_lf c
  · exact lf_rt c
  · exact pt_pt c
theorem bn_nb (k : Fin 3) (c : Dev nD) : bn k (nb k c) = c := by
  fin_cases k
  · exact lf_rt c
  · exact rt_lf c
  · exact pt_pt c

def barPay (c : Dev nD) (k : Fin 3) : sProp 𝕄 := give (nb k c) k

instance srcAny_storable (c : Dev nD) (j : J) : BI.Storable (upEmb : UEmb _ 𝕄) (srcAny (F := F) c j) := by
  unfold srcAny; split <;> infer_instance
instance dstAny_storable (c : Dev nD) (j : J) : BI.Storable (upEmb : UEmb _ 𝕄) (dstAny (F := F) c j) := by
  unfold dstAny; split <;> infer_instance
instance landed_storable (c : Dev nD) (j : J) : BI.Storable (upEmb : UEmb _ 𝕄) (landed X W c j) := by
  unfold landed; split <;> infer_instance
instance give1_storable (c : Dev nD) (j : J) : BI.Storable (upEmb : UEmb _ 𝕄) (give1 (F := F) c j) := by
  unfold give1; infer_instance
instance give_storable (c : Dev nD) (k : Fin 3) : BI.Storable (upEmb : UEmb _ 𝕄) (give (F := F) c k) := by
  unfold give; split <;> infer_instance
instance barPay_storable (c : Dev nD) (k : Fin 3) : BI.Storable (upEmb : UEmb _ 𝕄) (barPay (F := F) c k) := by
  unfold barPay; infer_instance

/-- The payload of a cell's duty. -/
def payOf (g : GSem nD τ sig) (d : Fin 3) : sProp 𝕄 :=
  match slotOf g.2 with
  | some (k, j) => if k = 0 then srcAny g.1.1 j else landed X W g.1.1 j
  | none => barPay g.1.1 d

instance payOf_storable (g : GSem nD τ sig) (d : Fin 3) : BI.Storable (upEmb : UEmb _ 𝕄) (payOf X W g d) := by
  unfold payOf; split
  · split <;> infer_instance
  · infer_instance

def dutiesOf (g : GSem nD τ sig) (r : ℕ) : Finset (Fin 3) :=
  if r = 0 ∧ g.1.2 = .tc then (match slotOf g.2 with | some _ => {0} | none => if g.2 = .reg barS then Finset.univ else ∅) else ∅

def amountOf (g : GSem nD τ sig) : ℕ := match slotOf g.2 with | some (_, j) => amt j | none => 1

def Rd : Rounds.Schedule (GSem nD τ sig) (Fin 3) 𝕄 where
  duties g r := dutiesOf g r
  unitless _ := False
  amount g _ _ := amountOf g
  payload g _ d := payOf X W g d
  amount_pos g _ _ _ := by
    unfold amountOf; split
    · exact amt_pos _
    · exact Nat.one_pos

instance Rd_storable (g : GSem nD τ sig) (r : ℕ) (d : Fin 3) : BI.Storable (upEmb : UEmb _ 𝕄) ((Rd X W).payload g r d) := by
  show BI.Storable upEmb (payOf X W g d); infer_instance

section Sched
variable (c : Dev nD) (k : Fin 2) (j : J)

theorem duties_bar : (Rd X W).duties (barCell c) 0 = Finset.univ := by
  show dutiesOf (barCell c) 0 = _; unfold dutiesOf; rw [if_pos ⟨rfl, rfl⟩]; simp only [slotOf_bar]; rfl
theorem duties_copy : (Rd X W).duties (ccell k c j) 0 = {0} := by
  show dutiesOf (ccell k c j) 0 = _; unfold dutiesOf; rw [if_pos ⟨rfl, rfl⟩]; simp only [slotOf_csem]
theorem duties_later (g : GSem nD τ sig) : ∀ r, 1 ≤ r → (Rd X W).duties g r = ∅ := fun r hr => by
  show dutiesOf g r = _; unfold dutiesOf; rw [if_neg (fun h => by omega)]
theorem amount_bar (d : Fin 3) : (Rd X W).amount (barCell c) 0 d = 1 := rfl
theorem amount_copy (d : Fin 3) : (Rd X W).amount (ccell k c j) 0 d = amt j := by
  show amountOf _ = _; unfold amountOf; simp only [slotOf_csem]
theorem expect_bar : (Rd X W).expect (barCell c) 0 = 3 := by
  unfold Schedule.expect Schedule.amountOf; rw [duties_bar]; rfl
theorem expect_copy : (Rd X W).expect (ccell k c j) 0 = amt j := by
  unfold Schedule.expect Schedule.amountOf; rw [duties_copy, Finset.sum_singleton, amount_copy]
theorem payload_bar (d : Fin 3) : (Rd X W).payload (barCell c) 0 d = barPay c d := rfl
theorem payload_src (d : Fin 3) : (Rd X W).payload (ccell 0 c j) 0 d = srcAny c j := by
  show payOf _ _ _ _ = _; unfold payOf; simp only [slotOf_csem]; exact if_pos trivial
theorem payload_dst (d : Fin 3) : (Rd X W).payload (ccell 1 c j) 0 d = landed X W c j := by
  show payOf _ _ _ _ = _; unfold payOf; simp only [slotOf_csem]; exact if_neg (by decide)
theorem rest_bar : bigSep ((Rd X W).duties (barCell c) 0 \ ∅) (fun u => (Rd X W).payload (barCell c) 0 u)
    = iprop(give (F := F) (rt c) 0 ∗ give (lf c) 1 ∗ give (pt c) 2) := by
  rw [Finset.sdiff_empty, duties_bar]
  rw [show (Finset.univ : Finset (Fin 3)) = {0, 1, 2} from by decide, bigSep_insert (by decide), bigSep_insert (by decide), bigSep_singleton]
  rfl
theorem rest_src : bigSep ((Rd X W).duties (ccell 0 c j) 0 \ ∅) (fun u => (Rd X W).payload (ccell 0 c j) 0 u) = srcAny c j := by
  rw [Finset.sdiff_empty, duties_copy, bigSep_singleton, payload_src]
theorem rest_dst : bigSep ((Rd X W).duties (ccell 1 c j) 0 \ ∅) (fun u => (Rd X W).payload (ccell 1 c j) 0 u) = landed X W c j := by
  rw [Finset.sdiff_empty, duties_copy, bigSep_singleton, payload_dst]
end Sched

/-! ## What is owed, and the levels -/

/-- What a device owes for the copies from the `n`-th on. -/
def dO (c : Dev nD) (n : ℕ) : CellTallies nD τ sig Unit :=
  ∑ j ∈ Finset.univ.filter (fun j : J => n ≤ num j), tallyAt (ccell 1 (tg j c) j) () (amt j)

/-- What a device owes at the start. -/
def O₀ (c : Dev nD) : CellTallies nD τ sig Unit :=
  dO c 0 + tallyAt (barCell (pt c)) () 1 + tallyAt (barCell (rt c)) () 1 + tallyAt (barCell (lf c)) () 1

theorem dO_step (c : Dev nD) (j : J) : dO c (num j) = dO c (num j + 1) + tallyAt (ccell 1 (tg j c) j) () (amt j) := by
  unfold dO
  rw [show Finset.univ.filter (fun j' : J => num j ≤ num j') = insert j (Finset.univ.filter (fun j' : J => num j + 1 ≤ num j')) from by
    ext j'
    simp only [Finset.mem_filter, Finset.mem_univ, true_and, Finset.mem_insert]
    constructor
    · intro h
      rcases Nat.eq_or_lt_of_le h with h | h
      · exact .inl (num_inj h.symm)
      · exact .inr h
    · rintro (rfl | h)
      · exact le_refl _
      · omega]
  rw [Finset.sum_insert (by simp only [Finset.mem_filter, Finset.mem_univ, true_and]; omega), add_comm]

theorem dO_end (c : Dev nD) (n : ℕ) (h : 128 ≤ n) : dO c n = 0 := by
  unfold dO
  rw [Finset.filter_false_of_mem fun j _ => by have := num_lt j; omega, Finset.sum_empty]

def L (g : GSem nD τ sig) : Finset Unit := if g.1.2 = .tc then {()} else ∅
/-- The barriers at one, the arrivals of hop `h` at `h + 2`, the rest at zero. -/
def lvOf : SemLoc sig → ℕ := fun sm => match slotOf sm with
  | some (k, j) => if k = 0 then 0 else j.2.1.val + 2
  | none => if sm = .reg barS then 1 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_src (c : Dev nD) (j : J) (u : Unit) : lv (ccell 0 c j) u = 0 := by
  unfold lv lvOf; simp only [slotOf_csem]; exact if_pos trivial
theorem lv_dst (c : Dev nD) (j : J) (u : Unit) : lv (ccell 1 c j) u = j.2.1.val + 2 := by
  unfold lv lvOf; simp only [slotOf_csem]; exact if_neg (by decide)

theorem dO_pos {c : Dev nD} {n : ℕ} {g : GSem nD τ sig} {u : Unit} (h : 0 < dO c n g u) :
    ∃ j : J, n ≤ num j ∧ g = ccell 1 (tg j c) j := by
  unfold dO at h
  rw [Finset.sum_apply, Finsupp.finset_sum_apply] at h
  obtain ⟨j, hj, h⟩ := Finset.exists_ne_zero_of_sum_ne_zero h.ne'
  rw [tallyAt_apply] at h
  split at h
  · next hg => exact ⟨j, (Finset.mem_filter.mp hj).2, hg.1⟩
  · exact absurd rfl h

/-- A wait below every copy still owed. -/
theorem mayWait_dO (c : Dev nD) (n : ℕ) (sm : SemLoc sig) (h : ∀ j : J, n ≤ num j → lvOf sm < j.2.1.val + 2) :
    (levAts L lv : sProp 𝕄) ⊢ MayWait (c : Thread nD τ) sm () (dO c n) := by
  refine MayOwe.of_levAts (L := L) (lev := lv) (fun p hp => by rw [Finset.mem_singleton.mp hp, L_tc]; exact Finset.mem_singleton_self _)
    (fun g u hg => ?_) (fun g u hg p hp => ?_)
  · obtain ⟨j, -, rfl⟩ := dO_pos hg
    rw [L_tc]; exact Finset.mem_singleton_self _
  · obtain ⟨j, hj, rfl⟩ := dO_pos hg
    rw [Finset.mem_singleton.mp hp, lv_dst]
    exact h j hj

theorem mayWait_bar (c : Dev nD) : (levAts L lv : sProp 𝕄) ⊢ MayWait (c : Thread nD τ) (.reg barS) () (dO c 0) :=
  mayWait_dO c 0 _ fun j _ => by show (1 : ℕ) < _; omega
theorem mayWait_hop (c : Dev nD) (j : J) (n : ℕ) (h : ∀ j' : J, n ≤ num j' → j.2.1.val < j'.2.1.val) :
    (levAts L lv : sProp 𝕄) ⊢ MayWait (c : Thread nD τ) (.dma (csem 1 j)) () (dO c n) :=
  mayWait_dO c n _ fun j' hj => by
    have := lv_dst c j (); unfold lv at this; rw [this]; have := h j' hj; omega

/-! ## The cells together -/

abbrev KK := Fin 2 × J
abbrev osem : KK → SemLoc sig := fun kj => .dma (csem kj.1 kj.2)
theorem osem_inj : Function.Injective osem := fun a b h => by
  have := congrArg slotOf h
  rw [slotOf_csem, slotOf_csem] at this
  exact Option.some.inj this
theorem osem_ne_bar : ∀ k : KK, osem k ≠ .reg barS := fun k h => by cases h

def barEmb : Dev nD ↪ GSem nD τ sig := ⟨fun c => barCell c, fun _ _ h => congrArg (fun g : GSem nD τ sig => g.1.1) h⟩
def scEmb : Dev nD × KK ↪ GSem nD τ sig :=
  ⟨fun ck => ((ck.1 : Thread nD τ), osem ck.2), fun _ _ h =>
    Prod.ext (congrArg (fun g : GSem nD τ sig => g.1.1) h) (osem_inj (congrArg Prod.snd h))⟩

def barCells : Finset (GSem nD τ sig) := Finset.univ.map barEmb
def scCells : Finset (GSem nD τ sig) := Finset.univ.map scEmb

theorem bar_mem' (c : Dev nD) : barCell c ∈ barCells := Finset.mem_map_of_mem barEmb (Finset.mem_univ c)
theorem copy_mem' (k : Fin 2) (c : Dev nD) (j : J) : ccell k c j ∈ scCells := Finset.mem_map_of_mem scEmb (Finset.mem_univ (c, (k, j)))
theorem bar_mem (c : Dev nD) : barCell c ∈ (barCells ∪ scCells : Finset (GSem nD τ sig)) :=
  Finset.mem_union_left _ (bar_mem' c)
theorem copy_mem (k : Fin 2) (c : Dev nD) (j : J) : ccell k c j ∈ (barCells ∪ scCells : Finset (GSem nD τ sig)) :=
  Finset.mem_union_right _ (copy_mem' k c j)

/-- What every device may consult: the cells' invariants, and that the barriers' first round is open. -/
def records (κ : GSem nD τ sig → ℕ) : sProp 𝕄 :=
  iprop((bigSep (barCells ∪ scCells) fun g => cellInv ER (Rd X W) (κ g) g) ∗ bigSep barCells fun g => reached ER g 0)

instance records_persistent (κ : GSem nD τ sig → ℕ) : BI.Persistent (records X W κ) := by unfold records; infer_instance

theorem inv_bar (κ : GSem nD τ sig → ℕ) (c : Dev nD) : records X W κ ⊢ cellInv ER (Rd X W) (κ (barCell c)) (barCell c) :=
  (sep_elim_left (PROP := sProp 𝕄)).trans (bigSep_elim (Φ := fun g => (cellInv ER (Rd X W) (κ g) g : sProp 𝕄)) (bar_mem c))
theorem inv_copy (κ : GSem nD τ sig → ℕ) (k : Fin 2) (c : Dev nD) (j : J) :
    records X W κ ⊢ cellInv ER (Rd X W) (κ (ccell k c j)) (ccell k c j) :=
  (sep_elim_left (PROP := sProp 𝕄)).trans (bigSep_elim (Φ := fun g => (cellInv ER (Rd X W) (κ g) g : sProp 𝕄)) (copy_mem k c j))
theorem reached_bar (κ : GSem nD τ sig → ℕ) (c : Dev nD) : records X W κ ⊢ reached ER (barCell c) 0 :=
  (sep_elim_right (PROP := sProp 𝕄)).trans (bigSep_elim (Φ := fun g => (reached ER g 0 : sProp 𝕄)) (bar_mem' c))

theorem close (κ : ℕ) (g : GSem nD τ sig) :
    iprop(cellInv ER (Rd X W) κ g ∗ atPos ER g (0 + 1) ∅ 0) ⊢ (|={Set.univ}=> semVal g 0 : sProp 𝕄) :=
  Rounds.cell_close ER (Rd X W) (Set.mem_univ κ) id (duties_later X W g)

abbrev 𝒱₀ : Variants := Variants.none

end Cert.Proof.Ring
-- ==== Proof.Split.lean ====
module

public import proofs.«01_k».proof.Proof.Sched

/-! # The ring buffers in chunks

A ring buffer is the disjoint union of its sixteen slots' four chunks. Contents are read chunk by chunk as
two-dimensional blocks; the last slot's chunks are read in row halves as well. -/
@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

attribute [local irreducible] look16 look32 nextW prevW wordOf

variable {F : FTy → Type} [FloatOps F]

local notation "𝕄" => MT nD τ sig Unit (Elt F) ℕ UU ℕ

/-! ## The index sets -/

/-- An index of a ring buffer. -/
abbrev at3 (a : Fin 16) (b : Fin 256) (k : Fin 1024) : S16x256x1024.Idx := fun i => match i with | 0 => a | 1 => b | 2 => k

theorem ext3 {x y : S16x256x1024.Idx} (h0 : (x 0).val = (y 0).val) (h1 : (x 1).val = (y 1).val) (h2 : (x 2).val = (y 2).val) : x = y :=
  funext fun a => Fin.ext <| match a with | ⟨0, _⟩ => h0 | ⟨1, _⟩ => h1 | ⟨2, _⟩ => h2

theorem mem_unit3 {off size : Fin 3 → ℕ} {inb : ∀ a, off a + size a ≤ S16x256x1024.size a} {x : S16x256x1024.Idx} :
    x ∈ (Rect.unit (s := S16x256x1024) off size inb).set ↔
      (off 0 ≤ (x 0).val ∧ (x 0).val < off 0 + size 0) ∧ (off 1 ≤ (x 1).val ∧ (x 1).val < off 1 + size 1)
        ∧ (off 2 ≤ (x 2).val ∧ (x 2).val < off 2 + size 2) := by
  rw [Rect.mem_set_unit]
  constructor
  · intro h; exact ⟨h 0, h 1, h 2⟩
  · rintro ⟨h0, h1, h2⟩ a
    match a with
    | ⟨0, _⟩ => exact h0
    | ⟨1, _⟩ => exact h1
    | ⟨2, _⟩ => exact h2

theorem mem_rB {h : Fin 16} {s : Fin 4} {x : S16x256x1024.Idx} :
    x ∈ (rB h s).set ↔ (x 0).val = h.val ∧ 256 * s.val ≤ (x 2).val ∧ (x 2).val < 256 * s.val + 256 := by
  rw [mem_unit3]
  have h1 : (x 1).val < 256 := (x 1).isLt
  show (h.val ≤ (x 0).val ∧ (x 0).val < h.val + 1) ∧ (0 ≤ (x 1).val ∧ (x 1).val < 0 + 256) ∧ (256 * s.val ≤ (x 2).val ∧ (x 2).val < 256 * s.val + 256) ↔ _
  omega

theorem mem_rO {s : Fin 4} {c : Dev nD} {x : S16x256x1024.Idx} :
    x ∈ (rO s c).set ↔ (x 0).val = 14 ∧ (128 - 128 * (c.val % 2) ≤ (x 1).val ∧ (x 1).val < 128 - 128 * (c.val % 2) + 128)
      ∧ 256 * s.val ≤ (x 2).val ∧ (x 2).val < 256 * s.val + 256 := by
  rw [mem_unit3, offO_eq]
  show (14 ≤ (x 0).val ∧ (x 0).val < 14 + 1) ∧ (128 - 128 * (c.val % 2) ≤ (x 1).val ∧ (x 1).val < 128 - 128 * (c.val % 2) + 128)
    ∧ (256 * s.val ≤ (x 2).val ∧ (x 2).val < 256 * s.val + 256) ↔ _
  omega

theorem mem_rM {s : Fin 4} {c : Dev nD} {x : S16x256x1024.Idx} :
    x ∈ (rM s c).set ↔ (x 0).val = 14 ∧ (128 * (c.val % 2) ≤ (x 1).val ∧ (x 1).val < 128 * (c.val % 2) + 128)
      ∧ 256 * s.val ≤ (x 2).val ∧ (x 2).val < 256 * s.val + 256 := by
  rw [mem_unit3, offM_eq]
  show (14 ≤ (x 0).val ∧ (x 0).val < 14 + 1) ∧ (128 * (c.val % 2) ≤ (x 1).val ∧ (x 1).val < 128 * (c.val % 2) + 128)
    ∧ (256 * s.val ≤ (x 2).val ∧ (x 2).val < 256 * s.val + 256) ↔ _
  omega

/-- The device's own half of a chunk of the last slot. -/
abbrev mM (d : Fin 2) (s : Fin 4) (c : Dev nD) : Memref sig .tc .vmem S128x256 .bf16 :=
  ((buf d).slice (rM s c) (fun _ => rfl)).squeeze S128x256 squeezes_S1x128x256_S128x256

/-- A slot's rows. -/
abbrev r15 : Rect S16x256x1024 := Rect.unit (s := S16x256x1024) ![15, 0, 0] S1x256x1024.size inb_S16x256x1024_S1x256x1024_15_0_0

section
variable (d : Fin 2) (h : Fin 16) (s : Fin 4) (c : Dev nD)

theorem set_mB : (mB d h s).view.set = (rB h s).set.map (buf d).view.emb := by
  rw [← View.set_slice]; exact View.set_reshape _ _
theorem set_mO : (mO d s c).view.set = (rO s c).set.map (buf d).view.emb := by
  rw [← View.set_slice]; exact View.set_reshape _ _
theorem set_mM : (mM d s c).view.set = (rM s c).set.map (buf d).view.emb := by
  rw [← View.set_slice]; exact View.set_reshape _ _

theorem disj_B {t t' : Fin 16 × Fin 4} (ht : t ≠ t') : Disjoint (mB d t.1 t.2).view.set (mB d t'.1 t'.2).view.set := by
  rw [set_mB, set_mB, Finset.disjoint_map, Finset.disjoint_left]
  intro x hx hx'
  rw [mem_rB] at hx hx'
  exact ht (Prod.ext (Fin.ext (by omega)) (Fin.ext (by omega)))

theorem cover_B : (buf d).view.set = Finset.univ.biUnion fun t : Fin 16 × Fin 4 => (mB d t.1 t.2).view.set := by
  ext i
  constructor
  · intro hi
    obtain ⟨x, -, hx⟩ := Finset.mem_map.mp (show i ∈ Finset.univ.map (buf d).view.emb from hi)
    have h0 : (x 0).val < 16 := (x 0).isLt
    have h2 : (x 2).val < 1024 := (x 2).isLt
    refine Finset.mem_biUnion.mpr ⟨(⟨(x 0).val, h0⟩, ⟨(x 2).val / 256, by omega⟩), Finset.mem_univ _, ?_⟩
    rw [set_mB]
    exact Finset.mem_map.mpr ⟨x, mem_rB.mpr ⟨rfl, by show 256 * ((x 2).val / 256) ≤ _; omega, by show _ < 256 * ((x 2).val / 256) + 256; omega⟩, hx⟩
  · intro hi
    obtain ⟨t, -, ht⟩ := Finset.mem_biUnion.mp hi
    rw [set_mB] at ht
    obtain ⟨x, -, hx⟩ := Finset.mem_map.mp ht
    exact Finset.mem_map.mpr ⟨x, Finset.mem_univ _, hx⟩

theorem row_sub : ((buf d).access r15).set ⊆ Finset.univ.biUnion fun s : Fin 4 => (mB d 15 s).view.set := by
  intro i hi
  rw [show ((buf d).access r15).set = r15.set.map (buf d).view.emb from View.set_slice _ _] at hi
  obtain ⟨x, hx, rfl⟩ := Finset.mem_map.mp hi
  rw [mem_unit3] at hx
  have h2 : (x 2).val < 1024 := (x 2).isLt
  have h0 : 15 ≤ (x 0).val ∧ (x 0).val < 15 + 1 := hx.1
  refine Finset.mem_biUnion.mpr ⟨⟨(x 2).val / 256, by omega⟩, Finset.mem_univ _, ?_⟩
  rw [set_mB]
  exact Finset.mem_map.mpr ⟨x, mem_rB.mpr ⟨by show (x 0).val = 15; omega, by show 256 * ((x 2).val / 256) ≤ _; omega, by show _ < 256 * ((x 2).val / 256) + 256; omega⟩, rfl⟩

theorem half_nat {a b k m t : ℕ} (hb : b < 256) (hm : m < 2) : (a = 14 ∧ t ≤ k ∧ k < t + 256) ↔
    (a = 14 ∧ (128 - 128 * m ≤ b ∧ b < 128 - 128 * m + 128) ∧ t ≤ k ∧ k < t + 256)
      ∨ (a = 14 ∧ (128 * m ≤ b ∧ b < 128 * m + 128) ∧ t ≤ k ∧ k < t + 256) := by
  have h : m = 0 ∨ m = 1 := by omega
  rcases h with rfl | rfl <;> omega
theorem half_nat' {b m : ℕ} (h : 128 - 128 * m ≤ b ∧ b < 128 - 128 * m + 128) (h' : 128 * m ≤ b ∧ b < 128 * m + 128) (hm : m < 2) : False := by
  have h : m = 0 ∨ m = 1 := by omega
  rcases h with rfl | rfl <;> omega

theorem half_set : (rB 14 s).set = (rO s c).set ∪ (rM s c).set := by
  ext x
  have h1 : (x 1).val < 256 := (x 1).isLt
  rw [Finset.mem_union, mem_rB, mem_rO, mem_rM]
  exact half_nat h1 (Nat.mod_lt _ (by decide))

theorem half_disj : Disjoint (rO s c).set (rM s c).set := by
  rw [Finset.disjoint_left]
  intro x hx hx'
  rw [mem_rO] at hx; rw [mem_rM] at hx'
  exact half_nat' hx.2.1 hx'.2.1 (Nat.mod_lt _ (by decide))

/-! ## What the chunks read -/

variable (f : (buf d).view.ty.Contents (Elt F))

theorem read_mB (i : S256x256.Idx) : (mB d h s).view.read (Elt F) f i
    = (buf d).view.read (Elt F) f (at3 h (i 0) ⟨256 * s.val + (i 1).val, by have := (i 1).isLt; have := s.isLt; change _ < 256 at *; omega⟩) := by
  refine (shapeCast_dropUnit_apply S256x256.size ((buf d).view.readAt (Elt F) (rB h s).toLoadRect f) shapeCasts_S1x256x256_S256x256 i).trans ?_
  refine congrArg ((buf d).view.read (Elt F) f) (ext3 ?_ ?_ ?_)
  · show h.val + 1 * 0 = h.val; omega
  · show 0 + 1 * (i 0).val = (i 0).val; omega
  · show 256 * s.val + 1 * (i 1).val = 256 * s.val + (i 1).val; omega

theorem read_mO (i : S128x256.Idx) : (mO d s c).view.read (Elt F) f i
    = (buf d).view.read (Elt F) f (at3 14 ⟨128 - 128 * (c.val % 2) + (i 0).val, by have : (i 0).val < 128 := (i 0).isLt; omega⟩
        ⟨256 * s.val + (i 1).val, by have := (i 1).isLt; have := s.isLt; change _ < 256 at *; omega⟩) := by
  refine (shapeCast_dropUnit_apply S128x256.size ((buf d).view.readAt (Elt F) (rO s c).toLoadRect f) (by decide) i).trans ?_
  refine congrArg ((buf d).view.read (Elt F) f) (ext3 ?_ ?_ ?_)
  · show offO s c 0 + 1 * 0 = 14; rw [offO_eq]; rfl
  · show offO s c 1 + 1 * (i 0).val = 128 - 128 * (c.val % 2) + (i 0).val; rw [offO_eq, Nat.one_mul]; rfl
  · show offO s c 2 + 1 * (i 1).val = 256 * s.val + (i 1).val; rw [offO_eq, Nat.one_mul]; rfl

theorem read_mM (i : S128x256.Idx) : (mM d s c).view.read (Elt F) f i
    = (buf d).view.read (Elt F) f (at3 14 ⟨128 * (c.val % 2) + (i 0).val, by have : (i 0).val < 128 := (i 0).isLt; omega⟩
        ⟨256 * s.val + (i 1).val, by have := (i 1).isLt; have := s.isLt; change _ < 256 at *; omega⟩) := by
  refine (shapeCast_dropUnit_apply S128x256.size ((buf d).view.readAt (Elt F) (rM s c).toLoadRect f) (by decide) i).trans ?_
  refine congrArg ((buf d).view.read (Elt F) f) (ext3 ?_ ?_ ?_)
  · show offM s c 0 + 1 * 0 = 14; rw [offM_eq]; rfl
  · show offM s c 1 + 1 * (i 0).val = 128 * (c.val % 2) + (i 0).val; rw [offM_eq, Nat.one_mul]; rfl
  · show offM s c 2 + 1 * (i 1).val = 256 * s.val + (i 1).val; rw [offM_eq, Nat.one_mul]; rfl

/-- The other half. -/
def oth2 (c : Dev nD) : Fin 2 := ⟨1 - c.val % 2, by omega⟩

theorem half_read (o : Fin 2) (i : S128x256.Idx) : halfV o ((mB d 14 s).view.read (Elt F) f) i
    = (buf d).view.read (Elt F) f (at3 14 ⟨128 * o.val + (i 0).val, by have : (i 0).val < 128 := (i 0).isLt; omega⟩
        ⟨256 * s.val + (i 1).val, by have := (i 1).isLt; have := s.isLt; change _ < 256 at *; omega⟩) := by
  unfold halfV
  rw [extractStridedSlice_apply ![128 * o.val, 0] ((mB d 14 s).view.read (Elt F) f) (slicesH o) i
    (fun a => match a with | 0 => ⟨128 * o.val + (i 0).val, by have : (i 0).val < 128 := (i 0).isLt; show _ < 256; omega⟩ | 1 => i 1)
    (fun a => match a with | ⟨0, _⟩ => rfl | ⟨1, _⟩ => (Nat.zero_add _).symm), read_mB]
  rfl

theorem read_half_O : (mO d s c).view.read (Elt F) f = halfV (oth2 c) ((mB d 14 s).view.read (Elt F) f) := by
  funext i
  rw [half_read, read_mO]
  refine congrArg ((buf d).view.read (Elt F) f) (ext3 rfl ?_ rfl)
  show 128 - 128 * (c.val % 2) + (i 0).val = 128 * (1 - c.val % 2) + (i 0).val
  omega
theorem read_half_M : (mM d s c).view.read (Elt F) f = halfV (own2 c) ((mB d 14 s).view.read (Elt F) f) := by
  funext i
  rw [half_read, read_mM]; rfl

/-- What a chunk reads once its slot's rows are stored. -/
theorem read_row (w : FVec F S256x1024 .bf16) :
    (mB d 15 s).view.read (Elt F) (((buf d).access r15).write (Elt F) f (shapeCast S1x256x1024 w shapeCasts_S256x1024_S1x256x1024) Finset.univ)
      = chunkV s w := by
  funext i
  rw [read_mB]
  have hy : at3 15 (i 0) ⟨256 * s.val + (i 1).val, by have := (i 1).isLt; have := s.isLt; change _ < 256 at *; omega⟩
      = r15.emb (fun a => match a with | 0 => ⟨0, Nat.one_pos⟩ | 1 => i 0 | 2 => ⟨256 * s.val + (i 1).val, by have := (i 1).isLt; have := s.isLt; change _ < 256 at *; show _ < 1024; omega⟩) := by
    refine ext3 rfl ?_ ?_
    · show (i 0).val = 0 + 1 * (i 0).val; omega
    · show 256 * s.val + (i 1).val = 0 + 1 * (256 * s.val + (i 1).val); omega
  rw [hy]
  refine (congrFun (View.read_write_univ (v := (buf d).access r15) f _) _).trans ?_
  refine (shapeCast_addUnit_apply S256x1024.size w shapeCasts_S256x1024_S1x256x1024 _).trans ?_
  refine (extractStridedSlice_apply ![0, 256 * s.val] w (slicesA s) i _ (fun a => match a with | ⟨0, _⟩ => (Nat.zero_add _).symm | ⟨1, _⟩ => rfl)).symm

end

/-! ## Ownership -/

/-- A memref at contents not chosen. -/
def anyAt (c : Dev nD) {sp : Space} {sh : Shape} {e : EltTy} (m : Memref sig .tc sp sh e) : sProp 𝕄 :=
  iprop(∃ V, owns (c : Thread nD τ) m fullShare V)

theorem any_of_owns (c : Dev nD) {sp : Space} {sh : Shape} {e : EltTy} (m : Memref sig .tc sp sh e) (V : sh.Idx → Elt F e) :
    (owns (c : Thread nD τ) m fullShare V : sProp 𝕄) ⊢ anyAt c m := by
  unfold anyAt; iintro H; iexists V; iexact H

theorem any_pts (c : Dev nD) {sp : Space} {sh : Shape} {e : EltTy} (m : Memref sig .tc sp sh e) :
    (anyAt c m : sProp 𝕄) ⊢ iprop(∃ f, m.view.loc (c : Thread nD τ) ↦[m.view.set]{fullShare} f) := by
  unfold anyAt owns; iintro ⟨%V, %f, -, H⟩; iexists f; iexact H

theorem pts_any (c : Dev nD) {sp : Space} {sh : Shape} {e : EltTy} (m : Memref sig .tc sp sh e) (f : m.view.ty.Contents (Elt F)) :
    (m.view.loc (c : Thread nD τ) ↦[m.view.set]{fullShare} f : sProp 𝕄) ⊢ anyAt c m :=
  (owns_intro (c : Thread nD τ) m fullShare f).trans (any_of_owns c m _)

section
variable (c : Dev nD) (d : Fin 2) (s : Fin 4)

theorem split_buf (f : (buf d).view.ty.Contents (Elt F)) :
    ((buf d).view.loc (c : Thread nD τ) ↦[(buf d).view.set]{fullShare} f : sProp 𝕄)
      ⊢ bigSep Finset.univ fun t : Fin 16 × Fin 4 => anyAt c (mB d t.1 t.2) := by
  rw [cover_B, pointsTo_biUnion Finset.univ _ (fun t _ t' _ h => disj_B d h)]
  exact bigSep_mono fun t _ => pts_any c (mB d t.1 t.2) f

theorem join_buf : (bigSep Finset.univ fun t : Fin 16 × Fin 4 => anyAt c (mB d t.1 t.2) : sProp 𝕄)
      ⊢ iprop(∃ f, (buf d).view.loc (c : Thread nD τ) ↦[(buf d).view.set]{fullShare} f) := by
  refine (bigSep_mono fun (t : Fin 16 × Fin 4) _ => any_pts (F := F) c (mB d t.1 t.2)).trans ?_
  haveI : ∀ t : Fin 16 × Fin 4, Nonempty ((mB d t.1 t.2).view.ty.Contents (Elt F)) := fun t => ⟨fun _ => default⟩
  refine (bigSep_exists_pi (M := 𝕄) Finset.univ fun (t : Fin 16 × Fin 4) (f : (mB d t.1 t.2).view.ty.Contents (Elt F)) =>
    ((mB d t.1 t.2).view.loc (c : Thread nD τ) ↦[(mB d t.1 t.2).view.set]{fullShare} f : sProp 𝕄)).trans ?_
  iintro ⟨%fs, H⟩
  ihave H := (pointsTo_biUnion_join (ℓ := (buf d).view.loc (c : Thread nD τ)) Finset.univ (fun t : Fin 16 × Fin 4 => (mB d t.1 t.2).view.set) fs (fs (0, 0))
    (fun t _ t' _ h => disj_B d h)) $$ H
  icases H with ⟨%g, -, H⟩
  rw [← cover_B]
  iexists g; iexact H

theorem join_row : (bigSep Finset.univ fun s : Fin 4 => anyAt c (mB d 15 s) : sProp 𝕄)
      ⊢ iprop(∃ f, (buf d).view.loc (c : Thread nD τ) ↦[Finset.univ.biUnion fun s : Fin 4 => (mB d 15 s).view.set]{fullShare} f) := by
  refine (bigSep_mono fun (s : Fin 4) _ => any_pts (F := F) c (mB d 15 s)).trans ?_
  haveI : ∀ s : Fin 4, Nonempty ((mB d 15 s).view.ty.Contents (Elt F)) := fun t => ⟨fun _ => default⟩
  refine (bigSep_exists_pi (M := 𝕄) Finset.univ fun (s : Fin 4) (f : (mB d 15 s).view.ty.Contents (Elt F)) =>
    ((mB d 15 s).view.loc (c : Thread nD τ) ↦[(mB d 15 s).view.set]{fullShare} f : sProp 𝕄)).trans ?_
  iintro ⟨%fs, H⟩
  ihave H := (pointsTo_biUnion_join (ℓ := (buf d).view.loc (c : Thread nD τ)) Finset.univ (fun s : Fin 4 => (mB d 15 s).view.set) fs (fs 0)
    (fun t _ t' _ h => disj_B d (t := (15, t)) (t' := (15, t')) fun e => h (Prod.ext_iff.mp e).2)) $$ H
  icases H with ⟨%g, -, H⟩
  iexists g; iexact H

/-- The rows stored, chunk by chunk. -/
theorem split_row (f : (buf d).view.ty.Contents (Elt F)) (w : FVec F S256x1024 .bf16) :
    ((buf d).view.loc (c : Thread nD τ) ↦[Finset.univ.biUnion fun s : Fin 4 => (mB d 15 s).view.set]{fullShare}
        (((buf d).access r15).write (Elt F) f (shapeCast S1x256x1024 w shapeCasts_S256x1024_S1x256x1024) Finset.univ) : sProp 𝕄)
      ⊢ bigSep Finset.univ fun s : Fin 4 => owns (c : Thread nD τ) (mB d 15 s) fullShare (chunkV s w) := by
  rw [pointsTo_biUnion Finset.univ _ (fun t _ t' _ h => disj_B d (t := (15, t)) (t' := (15, t')) fun e => h (Prod.ext_iff.mp e).2)]
  refine bigSep_mono fun s _ => (owns_intro (c : Thread nD τ) (mB d 15 s) fullShare _).trans ?_
  rw [read_row]

theorem split_half (V : Vec F S256x256 .bf16) :
    (owns (c : Thread nD τ) (mB d 14 s) fullShare V : sProp 𝕄)
      ⊢ iprop(owns (c : Thread nD τ) (mO d s c) fullShare (halfV (oth2 c) V) ∗ owns (c : Thread nD τ) (mM d s c) fullShare (halfV (own2 c) V)) := by
  unfold owns
  rw [set_mB, set_mO, set_mM, half_set s c, Finset.map_union]
  iintro ⟨%f, %hf, H⟩
  ihave H := (pointsTo_union (ℓ := (buf d).view.loc (c : Thread nD τ)) ((Finset.disjoint_map (buf d).view.emb).mpr (half_disj s c))).1 $$ H
  icases H with ⟨H1, H2⟩
  isplitl [H1]
  · iexists f; isplitr
    · ipureintro; exact (read_half_O d s c f).trans (by rw [hf])
    · iexact H1
  · iexists f; isplitr
    · ipureintro; exact (read_half_M d s c f).trans (by rw [hf])
    · iexact H2

theorem join_half : iprop(anyAt (F := F) c (mO d s c) ∗ anyAt c (mM d s c)) ⊢ anyAt c (mB d 14 s) := by
  refine (BIClass.sep_mono (any_pts (F := F) c (mO d s c)) (any_pts (F := F) c (mM d s c))).trans ?_
  rw [set_mO, set_mM]
  iintro ⟨⟨%f, H1⟩, %g, H2⟩
  ihave H := (pointsTo_join (ℓ := (buf d).view.loc (c : Thread nD τ)) (q := fullShare) ((Finset.disjoint_map (buf d).view.emb).mpr (half_disj s c)) (f := f) (g := g)) $$ [H1 H2]
  · isplitl [H1]; · iexact H1
    iexact H2
  rw [← Finset.map_union, ← half_set s c, ← set_mB]
  iapply (pts_any c (mB d 14 s) _)
  iexact H
end

end Cert.Proof.Ring
-- ==== Proof.Moves.lean ====
module

public import proofs.«01_k».proof.Proof.Split

/-! # The copies and waits of the body, one rule each

A send spends its kit and the source and leaves the right to collect it; an awaited chunk is added to and comes
out as the next running sum; what is collected is back at some contents, its semaphore at zero. -/
@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

attribute [local irreducible] look16 look32 nextW prevW wordOf

variable {F : FTy → Type} [FloatOps F]

local notation "𝕄" => MT nD τ sig Unit (Elt F) ℕ UU ℕ

/-- The weakest precondition of a program of device `c`. -/
abbrev wpc (c : Dev nD) (p : Pg F) (K : PUnit → sProp 𝕄) : sProp 𝕄 :=
  wp frame (wpE (defs₀ (F := F)) 𝒱₀ (c : Thread nD τ) none) Set.univ p K

section Chunk
variable (c : Dev nD) {s s' : Shape} {e : EltTy} (M : Memref sig .tc .vmem s e) (r : Rect s) (hr : ∀ a, r.stride a = 1)
  (hq : r.shape.Squeezes s') (hc : r.shape.ShapeCasts s') (hc' : s'.ShapeCasts r.shape) (V : s'.Idx → Elt F e)

theorem set_sq : ((M.slice r hr).squeeze s' hq).view.set = (M.access r).set := View.set_reshape _ _

include hc in
/-- A load of the chunk a squeezed slice names. -/
theorem load_sq {hl : M.view.LoadsAt r.toLoadRect} {k : (r.shape.Idx → Elt F e) → Pg F} {Kt : PUnit → sProp 𝕄} :
    (owns (c : Thread nD τ) ((M.slice r hr).squeeze s' hq) fullShare V : sProp 𝕄)
      ⊢ iprop((owns (c : Thread nD τ) ((M.slice r hr).squeeze s' hq) fullShare V -∗ wpc c (k (shapeCast r.shape V hc')) Kt)
        -∗ wpc c (.op (.load M r.toLoadRect hl) k) Kt) := by
  unfold owns
  iintro ⟨%f, %hf, H⟩ Hk
  iapply (wp_load_rect 𝒱₀ (c : Thread nD τ) none Set.univ (m := M) (r := r) (q := fullShare) (f := f)
    (S := ((M.slice r hr).squeeze s' hq).view.set) (by rw [set_sq])) $$ H
  iintro H
  rw [show (M.access r).read (Elt F) f = shapeCast r.shape V hc' from by
    rw [← hf]
    exact (shapeCast_shapeCast (M.view.readAt (Elt F) r.toLoadRect f) hc hc').symm]
  iapply Hk
  iexists f; isplitr; · ipureintro; exact hf
  iexact H

/-- A store of it. -/
theorem store_sq {w : r.shape.Idx → Elt F e} {hx : (M.access r).Stores Finset.univ} {hm : (Finset.univ : Finset r.shape.Idx) = Finset.univ ∨ ∀ a, r.stride a = 1}
    {k : PUnit → Pg F} {Kt : PUnit → sProp 𝕄} :
    (owns (c : Thread nD τ) ((M.slice r hr).squeeze s' hq) fullShare V : sProp 𝕄)
      ⊢ iprop((owns (c : Thread nD τ) ((M.slice r hr).squeeze s' hq) fullShare (shapeCast s' w hc) -∗ wpc c (k ⟨⟩) Kt)
        -∗ wpc c (.op (.store M r w Finset.univ hx hm) k) Kt) := by
  unfold owns
  iintro ⟨%f, %hf, H⟩ Hk
  iapply (wp_store 𝒱₀ (c : Thread nD τ) none Set.univ (m := M) (r := r) (f := f)
    (S := ((M.slice r hr).squeeze s' hq).view.set) (by rw [set_sq]; exact View.setOn_subset_set _ _)) $$ H
  iintro H
  iapply Hk
  iexists (M.access r).write (Elt F) f w Finset.univ; isplitr
  · ipureintro
    refine (Memref.read_squeeze_slice M r hr hq hc _).trans (congrArg (fun v => shapeCast s' v hc) ?_)
    exact View.read_write_univ (v := M.access r) f w
  iexact H
end Chunk

/-! ## The kits -/

section
variable (X : Dev nD → Vec F S4096x128 .bf16) (W : Dev nD → Vec F S128x2048 .bf16) (κ : GSem nD τ sig → ℕ) (c : Dev nD)

/-- What every step may consult. -/
def ctx : sProp 𝕄 := iprop(records X W κ ∗ levAts L lv)
instance ctx_persistent : BI.Persistent (ctx X W κ) := by unfold ctx; infer_instance

/-- What a device still owes before its `n`-th copy, whatever it has waited for. -/
def ow (n : ℕ) : sProp 𝕄 := iprop(∃ Ws, owes (c : Thread nD τ) (dO c n) Ws)

/-- What issuing a copy takes. -/
def sendKit (j : J) : sProp 𝕄 :=
  iprop(dutyTok ER (ccell 0 c j) 0 0 ∗ reached ER (ccell 0 c j) 0 ∗ atPos ER (ccell 0 c j) 0 ∅ 0
    ∗ dutyTok ER (ccell 1 (tg j c) j) 0 0 ∗ give1 (tg j c) j)
/-- What collecting it takes. -/
def backKit (j : J) : sProp 𝕄 := iprop(atPos ER (ccell 0 c j) 0 ∅ 0 ∗ cred (tallyAt (ccell 0 c j) () (amt j)))
/-- What awaiting an arrival takes. -/
def recvKit (j : J) : sProp 𝕄 := iprop(atPos ER (ccell 1 c j) 0 ∅ 0 ∗ cred (tallyAt (ccell 1 c j) () (amt j)))
end

/-- A device's other half is its partner's own. -/
theorem oth_own : ∀ c : Dev nD, own2 (pt c) = oth2 c := by decide
theorem scM : S128x256.ShapeCasts S1x128x256 := by decide

theorem csem_S (d : Fin 2) (h : Fin 15) (s : Fin 4) : csem 0 (d, cur h, s) = semS d h s := by
  unfold csem; rw [dif_pos (show (cur h).val < 15 from h.isLt), if_pos rfl]; rfl
theorem csem_R (d : Fin 2) (h : Fin 15) (s : Fin 4) : csem 1 (d, cur h, s) = semR d h s := by
  unfold csem; rw [dif_pos (show (cur h).val < 15 from h.isLt), if_neg (by decide)]; rfl
theorem csem_XS (d : Fin 2) (s : Fin 4) : csem 0 (d, 15, s) = semXS d s := by
  exact (dif_neg (Nat.lt_irrefl 15)).trans (if_pos rfl)
theorem csem_XR (d : Fin 2) (s : Fin 4) : csem 1 (d, 15, s) = semXR d s := by
  exact (dif_neg (Nat.lt_irrefl 15)).trans (if_neg (by decide))

theorem amt_hop (d : Fin 2) (h : Fin 15) (s : Fin 4) : amt (d, cur h, s) = (mB 0 0 0).view.dmaCredit := if_pos h.isLt
theorem amt_x (d : Fin 2) (s : Fin 4) : amt (d, 15, s) = (mP 0 0).view.dmaCredit := if_neg (Nat.lt_irrefl 15)

/-- What an added chunk reads. -/
theorem sum_eq (s : Fin 4) (p : Vec F S256x1024 .bf16) (x : Vec F S256x256 .bf16) :
    shapeCast S256x256 (addV s p (shapeCast S1x256x256 x shapeCasts_S256x256_S1x256x256)) shapeCasts_S1x256x256_S256x256
      = addf (x : FVec F S256x256 .bf16) (chunkV s p) := by
  rw [addV_eq, shapeCast_shapeCast]

section
variable (X : Dev nD → Vec F S4096x128 .bf16) (W : Dev nD → Vec F S128x2048 .bf16) (κ : GSem nD τ sig → ℕ) (c : Dev nD)
variable (d : Fin 2) (s : Fin 4)

theorem src_hop (h : Fin 15) : srcAny (F := F) c (d, cur h, s) = anyAt c (mB d (prv16 (cur h)) s) := if_pos h.isLt
theorem dst_hop (h : Fin 15) : dstAny (F := F) c (d, cur h, s) = anyAt c (mB d (cur h) s) := if_pos h.isLt
theorem landed_hop (h : Fin 15) : landed X W c (d, cur h, s) = owns (c : Thread nD τ) (mB d (cur h) s) fullShare (val X W d h.val (from_ d c) s) :=
  if_pos h.isLt
theorem src_x : srcAny (F := F) c (d, 15, s) = anyAt c (mO d s c) := if_neg (Nat.lt_irrefl 15)
theorem dst_x : dstAny (F := F) c (d, 15, s) = anyAt c (mP d s) := if_neg (Nat.lt_irrefl 15)
theorem landed_x : landed X W c (d, 15, s) = owns (c : Thread nD τ) (mP d s) fullShare (pairV X W d c s) := if_neg (Nat.lt_irrefl 15)

theorem from_tg (h : Fin 15) : from_ d (tg (d, cur h, s) c) = c := by
  have := sg_tg (d, cur h, s) c
  unfold sg at this; rw [if_pos (show (cur h).val < 15 from h.isLt)] at this
  exact this
theorem tg_x : tg (d, 15, s) c = pt c := if_neg (Nat.lt_irrefl 15)

/-- A copy issued, whatever memrefs and semaphores it names. -/
theorem wp_send_at (j : J) {s' : Shape} {e : EltTy} {src dst : Memref sig .tc .vmem s' e} {sS sR : DmaSem sig} {c' : Dev nD} {V : s'.Idx → Elt F e}
    (hS : sS = csem 0 j) (hR : sR = csem 1 j) (ht : c' = tg j c) (hcr : dst.view.dmaCredit = amt j)
    (hp : (anyAt c src : sProp 𝕄) ⊢ srcAny c j) (hl : (owns (c' : Thread nD τ) dst fullShare V : sProp 𝕄) ⊢ landed X W c' j)
    (hd : dstAny (F := F) c' j ⊢ anyAt c' dst) {n : ℕ} (hn : n = num j)
    {hsc} {h1 : src.view.WordExact} {h2 : dst.view.WordExact} {h3 : DmaTarget.Typed .vmem (.dma sR) (.remote (Dev.tc c') dst (.dma sS) hsc)}
    {k : Pg F} {Kt : PUnit → sProp 𝕄} :
    iprop(ctx X W κ ∗ sendKit c j ∗ owns (c : Thread nD τ) src fullShare V ∗ ow c n)
      ⊢ iprop(((backKit c j ∗ ow c (n + 1)) -∗ wpc c k Kt)
        -∗ wpc c (.op (.enqueueDma src (.remote (Dev.tc c') dst (.dma sS) hsc) (.dma sR) h1 h2 h3) fun _ => k) Kt) := by
  subst hS hR ht hn
  unfold ctx sendKit give1 ow backKit
  iintro ⟨⟨#HI, #Hlev⟩, ⟨HtS, #HrS, HatS, HtR, Hd, #HrR⟩, Hs, ⟨%Ws, HO⟩⟩ Hk
  ihave Hd := hd $$ Hd
  ihave Hd := (any_pts (F := F) (tg j c) dst) $$ Hd
  icases Hd with ⟨%fd, Hd⟩
  unfold owns
  icases Hs with ⟨%fs, %hfs, Hs⟩
  iapply (Rounds.wp_send_pointsTo 𝒱₀ ER (Rd X W) (c : Thread nD τ) none (c' := (tg j c : Thread nD τ))
      (src := src) (dst := dst) (sS := .dma (csem 0 j)) (sem := .dma (csem 1 j)) (q := fullShare) (fs := fs) (fd := fd)
      (κ₁ := κ (ccell 0 c j)) (κ₂ := κ (ccell 1 (tg j c) j)) (r₁ := 0) (r₂ := 0) (d₁ := 0) (d₂ := 0)
      (by rw [duties_copy]; exact Finset.mem_singleton_self _) (by rw [duties_copy]; exact Finset.mem_singleton_self _)
      () () (amt j) hcr (amount_copy X W c 0 _ 0) (amount_copy X W (tg j c) 1 _ 0)
      (dO c (num j + 1)) (dO_step c j) (W := Ws)
      (by rw [payload_src]; exact (pts_any c _ _).trans hp)
      (by
        rw [payload_dst]
        refine BIBase.Entails.trans ((owns_intro (tg j c : Thread nD τ) dst fullShare _).trans (Entails.of_eq ?_)) hl
        rw [View.read_write_univ, hfs])) $$ [Hs Hd HO HtS HtR]
  · isplitr; · iapply (inv_copy X W κ 0 c j); iexact HI
    isplitr; · iapply (inv_copy X W κ 1 (tg j c) j); iexact HI
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply Hk
  isplitl [HatS HcS]
  · isplitl [HatS] <;> iassumption
  iexists Ws; iexact HO

/-- A copy's departure or arrival awaited, its semaphore closed. -/
theorem wp_wait_at (i : Fin 2) (j : J) {s' t' : Shape} {e e' : EltTy} {src : Memref sig .tc .vmem t' e'} {dst : Memref sig .tc .vmem s' e} {sm : DmaSem sig}
    (hs : sm = csem i j) (hcr : dst.view.dmaCredit = amt j) {n : ℕ}
    (hw : (levAts L lv : sProp 𝕄) ⊢ MayWait (c : Thread nD τ) (.dma (csem i j)) () (dO c n))
    {pay : sProp 𝕄} (hpay : bigSep ((Rd X W).duties (ccell i c j) 0 \ ∅) (fun u => (Rd X W).payload (ccell i c j) 0 u) = pay)
    {h1 : src.view.WordExact} {h2 : dst.view.WordExact} {k : Pg F} {Kt : PUnit → sProp 𝕄} :
    iprop(ctx X W κ ∗ atPos ER (ccell i c j) 0 ∅ 0 ∗ cred (tallyAt (ccell i c j) () (amt j)) ∗ ow c n)
      ⊢ iprop(((pay ∗ semVal (ccell i c j) 0 ∗ ow c n) -∗ wpc c k Kt)
        -∗ wpc c (.op (.waitDma2 sm src dst h1 h2) fun _ => k) Kt) := by
  subst hs hpay
  unfold ctx ow
  iintro ⟨⟨#HI, #Hlev⟩, Hat, Hc, ⟨%Ws, HO⟩⟩ Hk
  iapply (Rounds.wp_wait_rest_token 𝒱₀ ER (Rd X W) (c : Thread nD τ) none (κ := κ (ccell i c j))
      (wpE_waitDma2_eq 𝒱₀ (c : Thread nD τ) none Set.univ) (Set.mem_univ _) () (O := dO c n) (W := Ws) (R := 0) (m := 0) (T := ∅)
      (((Nat.zero_add _).trans hcr).trans (expect_copy X W c i j).symm)) $$ [Hc HO Hat]
  · isplitr; · iapply (inv_copy X W κ i c j); iexact HI
    isplitl [Hc]
    · rw [← hcr]; iexact Hc
    isplitl [HO]; · iexact HO
    isplitr; · iapply hw; iexact Hlev
    iexact Hat
  iintro ⟨HO, Hat, -, Hpay⟩
  rw [← fupd_wp_eq (p := k)]
  imod (close X W (κ (ccell i c j)) (ccell i c j)) $$ [Hat] with H0
  · isplitr; · iapply (inv_copy X W κ i c j); iexact HI
    iexact Hat
  imodintro
  iapply Hk
  isplitl [Hpay]; · iexact Hpay
  isplitl [H0]; · iexact H0
  iexists _; iexact HO

/-- Nothing owed, any wait is allowed. -/
theorem mayWait_end (sm : SemLoc sig) : (levAts L lv : sProp 𝕄) ⊢ MayWait (c : Thread nD τ) sm () (dO c 128) :=
  mayWait_dO c 128 sm fun j hj => absurd (num_lt j) (Nat.not_lt.mpr hj)

/-- A chunk sent one device on. -/
theorem wp_sendB {k : Pg F} {Kt : PUnit → sProp 𝕄} (h : Fin 15) {src dst : Fin 16} (hs : src = prv16 (cur h)) (hd : dst = cur h) {tgt : Dev nD} (ht : tgt = tg (d, cur h, s) c)
    {n : ℕ} (hn : n = num (d, cur h, s)) :
    iprop(ctx X W κ ∗ sendKit c (d, cur h, s) ∗ owns (c : Thread nD τ) (mB d src s) fullShare (val X W d h.val c s) ∗ ow c n)
      ⊢ iprop(((backKit c (d, cur h, s) ∗ ow c (n + 1)) -∗ wpc c k Kt) -∗ wpc c (sendB d src dst h s tgt k) Kt) := by
  subst hs hd
  unfold sendB
  exact wp_send_at X W κ c (d, cur h, s) (csem_S d h s).symm (csem_R d h s).symm ht ((credit_mB d (cur h) s).trans (amt_hop d h s).symm)
    (Entails.of_eq (src_hop c d s h).symm)
    (Entails.of_eq (by rw [landed_hop, ht, from_tg])) (Entails.of_eq (dst_hop tgt d s h)) hn

/-- A chunk awaited and added to. -/
theorem wp_recvB {k : Pg F} {Kt : PUnit → sProp 𝕄} (h : Fin 15) {p : Vec F S256x1024 .bf16} (hp : p = prodQ X W d h.val c) {n : ℕ} (hn : ∀ j : J, n ≤ num j → h.val < j.2.1.val) :
    iprop(ctx X W κ ∗ recvKit c (d, cur h, s) ∗ ow c n)
      ⊢ iprop(((owns (c : Thread nD τ) (mB d (cur h) s) fullShare (val X W d (h.val + 1) c s) ∗ semVal (ccell 1 c (d, cur h, s)) 0 ∗ ow c n) -∗ wpc c k Kt)
        -∗ wpc c (recvB d h s p k) Kt) := by
  subst hp
  unfold recvB recvKit
  iintro ⟨#Hctx, ⟨Hat, Hc⟩, HO⟩ Hk
  iapply (wp_wait_at X W κ c 1 (d, cur h, s) (csem_R d h s).symm ((credit_mB d (cur h) s).trans (amt_hop d h s).symm)
    (mayWait_hop c (d, cur h, s) n hn) ((rest_dst X W c (d, cur h, s)).trans (landed_hop X W c d s h))) $$ [Hat Hc HO]
  · isplitr; · iexact Hctx
    isplitl [Hat]; · iexact Hat
    isplitl [Hc] <;> iassumption
  iintro ⟨Hb, H0, HO⟩
  iapply (load_sq c (buf d) (rB (cur h) s) (fun _ => rfl) squeezes_S1x256x256_S256x256 shapeCasts_S1x256x256_S256x256 shapeCasts_S256x256_S1x256x256) $$ Hb
  iintro Hb
  iapply (load_sq c (buf d) (rB (cur h) s) (fun _ => rfl) squeezes_S1x256x256_S256x256 shapeCasts_S1x256x256_S256x256 shapeCasts_S256x256_S1x256x256) $$ Hb
  iintro Hb
  iapply (store_sq c (buf d) (rB (cur h) s) (fun _ => rfl) squeezes_S1x256x256_S256x256 shapeCasts_S1x256x256_S256x256) $$ Hb
  iintro Hb
  iapply Hk
  isplitl [Hb]
  · rw [show val X W d (h.val + 1) c s = _ from (sum_eq s (prodQ X W d h.val c) (val X W d h.val (from_ d c) s)).symm]; iexact Hb
  isplitl [H0] <;> iassumption

/-- A chunk's half sent to the partner; the device's own half stays. -/
theorem wp_sendX {k : Pg F} {Kt : PUnit → sProp 𝕄} {tgt : Dev nD} (ht : tgt = pt c) {n : ℕ} (hn : n = num (d, 15, s)) :
    iprop(ctx X W κ ∗ sendKit c (d, 15, s) ∗ owns (c : Thread nD τ) (mB d 14 s) fullShare (val X W d 15 c s) ∗ ow c n)
      ⊢ iprop(((backKit c (d, 15, s) ∗ owns (c : Thread nD τ) (mM d s c) fullShare (mineV X W d c s) ∗ ow c (n + 1)) -∗ wpc c k Kt)
        -∗ wpc c (sendX d s c tgt k) Kt) := by
  unfold sendX
  iintro ⟨#Hctx, HK, Hs, HO⟩ Hk
  ihave Hs := (split_half c d s (val X W d 15 c s)) $$ Hs
  icases Hs with ⟨Hs, Hm⟩
  iapply (wp_send_at X W κ c (d, 15, s) (V := halfV (oth2 c) (val X W d 15 c s)) (csem_XS d s).symm (csem_XR d s).symm (ht.trans (tg_x c d s).symm) ((credit_mP d s).trans (amt_x d s).symm)
    (Entails.of_eq (src_x c d s).symm)
    (Entails.of_eq (by rw [landed_x, ht]; unfold pairV; rw [pt_pt, oth_own])) (Entails.of_eq (dst_x tgt d s)) hn) $$ [HK Hs HO]
  · isplitr; · iexact Hctx
    isplitl [HK]; · iexact HK
    isplitl [Hs] <;> iassumption
  iintro ⟨Hb, HO⟩
  iapply Hk
  isplitl [Hb]; · iexact Hb
  isplitl [Hm]; · iexact Hm
  iexact HO

/-- A departure collected. -/
theorem wp_backB {k : Pg F} {Kt : PUnit → sProp 𝕄} (h : Fin 15) :
    iprop(ctx X W κ ∗ backKit c (d, cur h, s) ∗ ow c 128)
      ⊢ iprop(((anyAt c (mB d (prv h) s) ∗ semVal (ccell 0 c (d, cur h, s)) 0 ∗ ow c 128) -∗ wpc c k Kt) -∗ wpc c (backB d h s k) Kt) := by
  unfold backB backKit
  iintro ⟨#Hctx, ⟨Hat, Hc⟩, HO⟩ Hk
  iapply (wp_wait_at X W κ c 0 (d, cur h, s) (csem_S d h s).symm ((credit_mB d (prv h) s).trans (amt_hop d h s).symm)
    (mayWait_end c _) ((rest_src X W c (d, cur h, s)).trans (src_hop c d s h))) $$ [Hat Hc HO]
  · isplitr; · iexact Hctx
    isplitl [Hat]; · iexact Hat
    isplitl [Hc] <;> iassumption
  iexact Hk

/-- The departure of a half collected. -/
theorem wp_backX {k : Pg F} {Kt : PUnit → sProp 𝕄} :
    iprop(ctx X W κ ∗ backKit c (d, 15, s) ∗ ow c 128)
      ⊢ iprop(((anyAt c (mO d s c) ∗ semVal (ccell 0 c (d, 15, s)) 0 ∗ ow c 128) -∗ wpc c k Kt) -∗ wpc c (backX d s c k) Kt) := by
  unfold backX backKit
  iintro ⟨#Hctx, ⟨Hat, Hc⟩, HO⟩ Hk
  iapply (wp_wait_at X W κ c 0 (d, 15, s) (csem_XS d s).symm ((credit_mO d s c).trans (amt_x d s).symm)
    (mayWait_end c _) ((rest_src X W c (d, 15, s)).trans (src_x c d s))) $$ [Hat Hc HO]
  · isplitr; · iexact Hctx
    isplitl [Hat]; · iexact Hat
    isplitl [Hc] <;> iassumption
  iexact Hk

/-! ## The result, chunk by chunk -/

/-- The result's staging buffer. -/
abbrev obuf : Memref sig .tc .vmem S128x2048 .f32 := Memref.whole cc0_stg5_0
abbrev rOut : Rect S128x2048 := Rect.unit (s := S128x2048) ![0, 1024 * d.val + 256 * s.val] S128x256.size (inbO d s)

/-- The result's buffer with a chunk stored. -/
def putO (f : S128x2048.Idx → Elt F .f32) (w : Vec F S128x256 .f32) : S128x2048.Idx → Elt F .f32 :=
  (obuf.access (rOut d s)).write (Elt F) f w Finset.univ

/-- The partner's half awaited, and a chunk of the result stored. -/
theorem wp_finX {k : Pg F} {Kt : PUnit → sProp 𝕄} (f : S128x2048.Idx → Elt F .f32) :
    iprop(ctx X W κ ∗ recvKit c (d, 15, s) ∗ owns (c : Thread nD τ) (mM d s c) fullShare (mineV X W d c s)
        ∗ ((c : Thread nD τ).loc cc0_stg5_0 ↦{fullShare} f) ∗ ow c 128)
      ⊢ iprop(((anyAt c (mP d s) ∗ anyAt c (mM d s c) ∗ semVal (ccell 1 c (d, 15, s)) 0
            ∗ ((c : Thread nD τ).loc cc0_stg5_0 ↦{fullShare} putO d s f (act2 (mineV X W d c s) (pairV X W d c s))) ∗ ow c 128) -∗ wpc c k Kt)
        -∗ wpc c (finX obuf d s c k) Kt) := by
  unfold finX recvKit
  iintro ⟨#Hctx, ⟨Hat, Hc⟩, Hm, Hf, HO⟩ Hk
  iapply (wp_wait_at X W κ c 1 (d, 15, s) (csem_XR d s).symm ((credit_mP d s).trans (amt_x d s).symm)
    (mayWait_end c _) ((rest_dst X W c (d, 15, s)).trans (landed_x X W c d s))) $$ [Hat Hc HO]
  · isplitr; · iexact Hctx
    isplitl [Hat]; · iexact Hat
    isplitl [Hc] <;> iassumption
  iintro ⟨Hb, H0, HO⟩
  iapply (load_sq c (buf d) (rM s c) (fun _ => rfl) squeezes_S1x128x256_S128x256 shapeCasts_S1x128x256_S128x256 scM) $$ Hm
  iintro Hm
  iapply (load_sq c pbuf (rP d s) (fun _ => rfl) squeezes_S1x128x256_S128x256 shapeCasts_S1x128x256_S128x256 scM) $$ Hb
  iintro Hb
  iapply (wp_load 𝒱₀ (c : Thread nD τ) none Set.univ (m := obuf) (q := fullShare) (f := f) (S := Finset.univ) (Finset.subset_univ _)) $$ Hf
  iintro Hf
  iapply (wp_store 𝒱₀ (c : Thread nD τ) none Set.univ (m := obuf) (r := rOut d s) (f := f) (S := Finset.univ) (Finset.subset_univ _)) $$ Hf
  iintro Hf
  iapply Hk
  isplitl [Hb]; · iapply (any_of_owns c (mP d s) _); iexact Hb
  isplitl [Hm]; · iapply (any_of_owns c (mM d s c) _); iexact Hm
  isplitl [H0]; · iexact H0
  isplitl [Hf]; · unfold putO; rw [← outV_eq (h := scM)]; iexact Hf
  iexact HO

end

end Cert.Proof.Ring
-- ==== Proof.Loops.lean ====
module

public import proofs.«01_k».proof.Proof.Moves

/-! # A loop's rule, and conjunctions over the copies taken apart

A loop over an initial segment of the naturals spends one bundle a round and leaves another, and moves a state
that is named by the number of rounds done. The copies are taken apart as the loops meet them. -/
@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

attribute [local irreducible] look16 look32 nextW prevW wordOf

variable {F : FTy → Type} [FloatOps F]

local notation "𝕄" => MT nD τ sig Unit (Elt F) ℕ UU ℕ

section Loop
theorem wp_rep_from (c : Dev nD) {n : ℕ} {P : sProp 𝕄} [BI.Persistent P] {A B : Fin n → sProp 𝕄} {G : ℕ → sProp 𝕄}
    {f : Fin n → Pg F → Pg F} {Kt : PUnit → sProp 𝕄}
    (hstep : ∀ (i : Fin n) (k : Pg F), iprop(P ∗ A i ∗ G i.val) ⊢ iprop(((B i ∗ G (i.val + 1)) -∗ wpc c k Kt) -∗ wpc c (f i k) Kt)) (k : Pg F) :
    ∀ (l : List (Fin n)) (j : ℕ), l.map Fin.val = List.range' j l.length →
      iprop(P ∗ bigSep l.toFinset A ∗ G j) ⊢ iprop(((bigSep l.toFinset B ∗ G (j + l.length)) -∗ wpc c k Kt) -∗ wpc c (repK l f k) Kt) := by
  intro l
  induction l with
  | nil =>
    intro j _
    unfold repK
    iintro ⟨-, -, HG⟩ Hk
    iapply Hk
    isplitr
    · rw [List.toFinset_nil, bigSep_empty]; iempintro
    · iexact HG
  | cons i l ih =>
    intro j hj
    rw [List.map_cons, List.length_cons, List.range'_succ, List.cons.injEq] at hj
    obtain ⟨rfl, hl⟩ := hj
    have hi : i ∉ l.toFinset := fun h => by
      have h := List.mem_map_of_mem (f := Fin.val) (List.mem_toFinset.mp h)
      rw [hl, List.mem_range'] at h
      obtain ⟨_, _, h⟩ := h
      omega
    have e (C : Fin n → sProp 𝕄) : bigSep (insert i l.toFinset) C = iprop(C i ∗ bigSep l.toFinset C) := bigSep_insert hi
    rw [List.toFinset_cons, e A, e B, show repK (i :: l) f k = f i (repK l f k) from rfl,
      show i.val + (i :: l).length = i.val + 1 + l.length from by rw [List.length_cons]; omega]
    iintro ⟨#HP, ⟨HA, HAs⟩, HG⟩ Hk
    iapply (hstep i (repK l f k)) $$ [HA HG]
    · isplitr; · iexact HP
      isplitl [HA] <;> iassumption
    iintro ⟨HB, HG⟩
    iapply (ih (i.val + 1) hl) $$ [HAs HG]
    · isplitr; · iexact HP
      isplitl [HAs] <;> iassumption
    iintro ⟨HBs, HG⟩
    iapply Hk
    isplitl [HB HBs]
    · isplitl [HB] <;> iassumption
    iexact HG

/-- A whole loop. -/
theorem wp_rep (c : Dev nD) {n : ℕ} {P : sProp 𝕄} [BI.Persistent P] {A B : Fin n → sProp 𝕄} {G : ℕ → sProp 𝕄}
    {f : Fin n → Pg F → Pg F} {Kt : PUnit → sProp 𝕄}
    (l : List (Fin n)) (hl : l.map Fin.val = List.range' 0 l.length) (hn : l.length = n) (hu : l.toFinset = Finset.univ)
    (hstep : ∀ (i : Fin n) (k : Pg F), iprop(P ∗ A i ∗ G i.val) ⊢ iprop(((B i ∗ G (i.val + 1)) -∗ wpc c k Kt) -∗ wpc c (f i k) Kt)) (k : Pg F)
    {A' B' : sProp 𝕄} (hA : bigSep Finset.univ A = A') (hB : bigSep Finset.univ B = B') :
    iprop(P ∗ A' ∗ G 0) ⊢ iprop(((B' ∗ G n) -∗ wpc c k Kt) -∗ wpc c (repK l f k) Kt) := by
  subst hA hB
  have h := wp_rep_from c hstep k l 0 hl
  rw [hu, hn, Nat.zero_add] at h
  exact h
end Loop

/-! ## Conjunctions over the copies -/

section Deal
variable {M : Type} [URA M]

theorem sep_first {n : ℕ} (Φ : Fin (n + 1) → sProp M) : bigSep Finset.univ Φ = iprop(Φ 0 ∗ bigSep Finset.univ fun i : Fin n => Φ i.succ) := by
  rw [Fin.univ_succ, Finset.cons_eq_insert, bigSep_insert (by simp [Fin.succ_ne_zero]), bigSep_map]; rfl
theorem sep_last {n : ℕ} (Φ : Fin (n + 1) → sProp M) : bigSep Finset.univ Φ = iprop(Φ (Fin.last n) ∗ bigSep Finset.univ fun i : Fin n => Φ i.castSucc) := by
  rw [Fin.univ_castSuccEmb, Finset.cons_eq_insert, bigSep_insert (by simp [Fin.castSucc_ne_last]), bigSep_map]; rfl

theorem sep2 {n : ℕ} (Φ Ψ : Fin n → sProp M) :
    bigSep Finset.univ (fun i => iprop(Φ i ∗ Ψ i)) = iprop(bigSep Finset.univ Φ ∗ bigSep Finset.univ Ψ) := bigSep_sep _ _ _
theorem sep3 {n : ℕ} (Φ Ψ Θ : Fin n → sProp M) :
    bigSep Finset.univ (fun i => iprop(Φ i ∗ Ψ i ∗ Θ i)) = iprop(bigSep Finset.univ Φ ∗ bigSep Finset.univ Ψ ∗ bigSep Finset.univ Θ) :=
  (sep2 Φ _).trans (congrArg (fun Y => iprop(bigSep Finset.univ Φ ∗ Y)) (sep2 Ψ Θ))

/-- One hop's chunks, both directions. -/
def hopOf (Φ : J → sProp M) (h : Fin 16) : sProp M := bigSep Finset.univ fun s : Fin 4 => iprop(Φ (0, h, s) ∗ Φ (1, h, s))

theorem by_hop (Φ : J → sProp M) : bigSep Finset.univ Φ = bigSep Finset.univ (hopOf Φ) := by
  rw [bigSep_univ_prod, bigSep_fin_two, bigSep_univ_prod, bigSep_univ_prod, ← bigSep_sep]
  exact bigSep_congr fun h _ => (bigSep_sep _ _ _).symm

theorem deal_x (Φ : J → sProp M) : bigSep Finset.univ Φ = iprop(hopOf Φ 15 ∗ bigSep Finset.univ fun h : Fin 15 => hopOf Φ (cur h)) := by
  rw [by_hop, sep_last]; rfl

/-- The exchange, the first hop, the rest. -/
theorem deal_first (Φ : J → sProp M) :
    bigSep Finset.univ Φ = iprop(hopOf Φ 15 ∗ hopOf Φ 0 ∗ bigSep Finset.univ fun h : Fin 14 => hopOf Φ (cur h.succ)) := by
  rw [deal_x, sep_first (n := 14)]; rfl
/-- The exchange, the last hop, the rest. -/
theorem deal_last (Φ : J → sProp M) :
    bigSep Finset.univ Φ = iprop(hopOf Φ 15 ∗ hopOf Φ 14 ∗ bigSep Finset.univ fun h : Fin 14 => hopOf Φ (cur h.castSucc)) := by
  rw [deal_x, sep_last (n := 14)]; rfl

end Deal

end Cert.Proof.Ring
-- ==== Proof.Hops.lean ====
module

public import proofs.«01_k».proof.Proof.Loops

/-! # The hops of the ring

The first sends, a hop before the last, the last hop, the exchange's end and the collection of the sends, each as
one rule: from the kits of the copies it touches to what they leave. -/
@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

attribute [local irreducible] look16 look32 nextW prevW wordOf

variable {F : FTy → Type} [FloatOps F]

local notation "𝕄" => MT nD τ sig Unit (Elt F) ℕ UU ℕ

theorem num_eq (d : Fin 2) (h : Fin 16) (s : Fin 4) : num (d, h, s) = 8 * h.val + 2 * s.val + d.val := rfl
theorem prv16_succ (h : Fin 14) : cur h.castSucc = prv16 (cur h.succ) := Fin.ext (by show h.val = (h.val + 1 + 15) % 16; have := h.isLt; omega)
theorem tg_hop (h : Fin 15) (s : Fin 4) (c : Dev nD) : tg (0, cur h, s) c = rt c ∧ tg (1, cur h, s) c = lf c :=
  ⟨by unfold tg; rw [if_pos (show (cur h).val < 15 from h.isLt)]; rfl, by unfold tg; rw [if_pos (show (cur h).val < 15 from h.isLt)]; rfl⟩
theorem late {h : ℕ} {n : ℕ} (hn : 8 * (h + 1) ≤ n) : ∀ j : J, n ≤ num j → h < j.2.1.val := fun j hj => by
  have := j.1.isLt; have := j.2.2.isLt
  unfold num at hj
  omega

section
variable (X : Dev nD → Vec F S4096x128 .bf16) (W : Dev nD → Vec F S128x2048 .bf16) (κ : GSem nD τ sig → ℕ) (c : Dev nD)

/-- A semaphore closed. -/
abbrev zero (i : Fin 2) (j : J) : sProp 𝕄 := semVal (ccell i c j) 0

/-- The first sends, from the last slot's rows. -/
theorem wp_firstSends {k : Pg F} {Kt : PUnit → sProp 𝕄} {r l : Dev nD} (hr : r = rt c) (hl : l = lf c) :
    iprop(ctx X W κ ∗ (hopOf (sendKit (F := F) c) 0 ∗ (bigSep Finset.univ fun s : Fin 4 => owns (c : Thread nD τ) (mB 0 15 s) fullShare (val X W 0 0 c s))
        ∗ (bigSep Finset.univ fun s : Fin 4 => owns (c : Thread nD τ) (mB 1 15 s) fullShare (val X W 1 0 c s))) ∗ ow c 0)
      ⊢ iprop(((hopOf (backKit (F := F) c) 0 ∗ ow c 8) -∗ wpc c k Kt)
        -∗ wpc c (repK ix4 (fun s k => sendB 0 15 0 0 s r <| sendB 1 15 0 0 s l k) k) Kt) := by
  have h := wp_rep (P := ctx X W κ) (Kt := Kt) (G := fun i => ow (F := F) c (2 * i))
    (A := fun s : Fin 4 => iprop((sendKit (F := F) c (0, 0, s) ∗ sendKit (F := F) c (1, 0, s))
      ∗ owns (c : Thread nD τ) (mB 0 15 s) fullShare (val X W 0 0 c s) ∗ owns (c : Thread nD τ) (mB 1 15 s) fullShare (val X W 1 0 c s)))
    (B := fun s : Fin 4 => iprop(backKit (F := F) c (0, 0, s) ∗ backKit (F := F) c (1, 0, s)))
    (f := fun s k => sendB 0 15 0 0 s r <| sendB 1 15 0 0 s l k) c ix4 (by decide) rfl (by decide) (fun s k => by
      iintro ⟨#Hc, ⟨⟨H0, H1⟩, V0, V1⟩, HO⟩ Hk
      iapply (wp_sendB X W κ c 0 s 0 rfl rfl (hr.trans (tg_hop 0 s c).1.symm) (n := 2 * s.val) (by rw [num_eq]; show _ = 8 * 0 + 2 * s.val + 0; omega)) $$ [H0 V0 HO]
      · isplitr; · iexact Hc
        isplitl [H0]; · iexact H0
        isplitl [V0]; · iexact V0
        iexact HO
      iintro ⟨B0, HO⟩
      iapply (wp_sendB X W κ c 1 s 0 rfl rfl (hl.trans (tg_hop 0 s c).2.symm) (n := 2 * s.val + 1) (by rw [num_eq]; show _ = 8 * 0 + 2 * s.val + 1; omega)) $$ [H1 V1 HO]
      · isplitr; · iexact Hc
        isplitl [H1]; · iexact H1
        isplitl [V1]; · iexact V1
        iexact HO
      iintro ⟨B1, HO⟩
      iapply Hk
      isplitl [B0 B1]
      · isplitl [B0]; · iexact B0
        iexact B1
      iexact HO) k (sep3 _ _ _) rfl
  exact h

/-- The device's products, all computed. -/
abbrev Qs : sProp 𝕄 := (c : Thread nD τ).loc cc0_scratch1 ↦{fullShare} prods X W c

/-- The two products of a hop, read. -/
theorem wp_loadQ {k : Vec F S256x1024 .bf16 → Vec F S256x1024 .bf16 → Pg F} {Kt : PUnit → sProp 𝕄} {p : BitVec 32} (hp : k0_chk5 p) (hpw : p = pw c) (h : Fin 15) :
    Qs X W c ⊢ iprop((Qs X W c -∗ wpc c (k (prodQ X W 0 h.val c) (prodQ X W 1 h.val c)) Kt) -∗ wpc c (loadQ p hp h k) Kt) := by
  subst hpw
  unfold loadQ
  iintro H Hk
  iapply (wp_load 𝒱₀ (c : Thread nD τ) none Set.univ (m := qbuf) (q := fullShare) (f := prods X W c) (S := Finset.univ) (Finset.subset_univ _)) $$ H
  iintro H
  iapply (wp_load 𝒱₀ (c : Thread nD τ) none Set.univ (m := qbuf) (q := fullShare) (f := prods X W c) (S := Finset.univ) (Finset.subset_univ _)) $$ H
  iintro H
  rw [show prodQ X W 0 h.val c = sub2 (prods X W c) (k0_off3 (pw c) (BitVec.ofNat 32 h.val)) S256x1024.size (k0_off3_inb _ hp h) from
      by unfold prodQ; exact sub2_congr (s := S4096x2048) (prods X W c) S256x1024.size (off3_q c h).symm _ _,
    show prodQ X W 1 h.val c = sub2 (prods X W c) (k0_off4 (pw c) (BitVec.ofNat 32 h.val)) S256x1024.size (k0_off4_inb _ hp h) from
      by unfold prodQ; exact sub2_congr (s := S4096x2048) (prods X W c) S256x1024.size (off4_q c h).symm _ _]
  iapply Hk
  iexact H

/-- One hop before the last. -/
theorem wp_hop {k : Pg F} {Kt : PUnit → sProp 𝕄} {p : BitVec 32} (hp : k0_chk5 p) (hpw : p = pw c) {r l : Dev nD} (hr : r = rt c) (hl : l = lf c) (h : Fin 14) :
    iprop(ctx X W κ ∗ (hopOf (recvKit (F := F) c) (cur h.castSucc) ∗ hopOf (sendKit (F := F) c) (cur h.succ)) ∗ (ow c (8 * (h.val + 1)) ∗ Qs X W c))
      ⊢ iprop((((hopOf (zero (F := F) c 1) (cur h.castSucc) ∗ hopOf (backKit (F := F) c) (cur h.succ)) ∗ (ow c (8 * (h.val + 1 + 1)) ∗ Qs X W c)) -∗ wpc c k Kt)
        -∗ wpc c (hopB p hp r l h k) Kt) := by
  have hw := wp_rep (P := ctx X W κ) (Kt := Kt) (G := fun i => ow (F := F) c (8 * (h.val + 1) + 2 * i))
    (A := fun s : Fin 4 => iprop((recvKit (F := F) c (0, cur h.castSucc, s) ∗ recvKit (F := F) c (1, cur h.castSucc, s))
      ∗ (sendKit (F := F) c (0, cur h.succ, s) ∗ sendKit (F := F) c (1, cur h.succ, s))))
    (B := fun s : Fin 4 => iprop((zero (F := F) c 1 (0, cur h.castSucc, s) ∗ zero (F := F) c 1 (1, cur h.castSucc, s))
      ∗ (backKit (F := F) c (0, cur h.succ, s) ∗ backKit (F := F) c (1, cur h.succ, s))))
    (f := hopS r l h (prodQ X W 0 h.val c) (prodQ X W 1 h.val c)) c ix4 (by decide) rfl (by decide) (fun s k => by
      unfold hopS
      iintro ⟨#Hc, ⟨⟨R0, R1⟩, S0, S1⟩, HO⟩ Hk
      iapply (wp_recvB X W κ c 0 s h.castSucc rfl (n := 8 * (h.val + 1) + 2 * s.val) (late (by show 8 * (h.val + 1) ≤ _; omega))) $$ [R0 HO]
      · isplitr; · iexact Hc
        isplitl [R0]; · iexact R0
        iexact HO
      iintro ⟨V0, Z0, HO⟩
      iapply (wp_sendB X W κ c 0 s h.succ (prv16_succ h) rfl (hr.trans (tg_hop h.succ s c).1.symm) (num_eq _ _ _).symm) $$ [S0 V0 HO]
      · isplitr; · iexact Hc
        isplitl [S0]; · iexact S0
        isplitl [V0]; · iexact V0
        iexact HO
      iintro ⟨B0, HO⟩
      iapply (wp_recvB X W κ c 1 s h.castSucc rfl (n := 8 * (h.val + 1) + 2 * s.val + 1) (late (by show 8 * (h.val + 1) ≤ _; omega))) $$ [R1 HO]
      · isplitr; · iexact Hc
        isplitl [R1]; · iexact R1
        iexact HO
      iintro ⟨V1, Z1, HO⟩
      iapply (wp_sendB X W κ c 1 s h.succ (prv16_succ h) rfl (hl.trans (tg_hop h.succ s c).2.symm) (num_eq _ _ _).symm) $$ [S1 V1 HO]
      · isplitr; · iexact Hc
        isplitl [S1]; · iexact S1
        isplitl [V1]; · iexact V1
        iexact HO
      iintro ⟨B1, HO⟩
      iapply Hk
      isplitl [B0 B1 Z0 Z1]
      · isplitl [Z0 Z1]
        · isplitl [Z0]; · iexact Z0
          iexact Z1
        isplitl [B0]; · iexact B0
        iexact B1
      iexact HO) k (sep2 _ _) (sep2 _ _)
  unfold hopB
  iintro ⟨#Hc, HA, HO, HQ⟩ Hk
  iapply (wp_loadQ X W c hp hpw h.castSucc) $$ HQ
  iintro HQ
  iapply hw $$ [HA HO]
  · isplitr; · iexact Hc
    isplitl [HA]; · iexact HA
    iexact HO
  iintro ⟨HB, HO⟩
  iapply Hk
  isplitl [HB]; · iexact HB
  isplitl [HO]; · iexact HO
  iexact HQ

/-- The hops before the last. -/
theorem wp_hops {k : Pg F} {Kt : PUnit → sProp 𝕄} {p : BitVec 32} (hp : k0_chk5 p) (hpw : p = pw c) {r l : Dev nD} (hr : r = rt c) (hl : l = lf c) :
    iprop(ctx X W κ ∗ ((bigSep Finset.univ fun h : Fin 14 => hopOf (recvKit (F := F) c) (cur h.castSucc)) ∗ (bigSep Finset.univ fun h : Fin 14 => hopOf (sendKit (F := F) c) (cur h.succ)))
        ∗ (ow c 8 ∗ Qs X W c))
      ⊢ iprop(((((bigSep Finset.univ fun h : Fin 14 => hopOf (zero (F := F) c 1) (cur h.castSucc)) ∗ (bigSep Finset.univ fun h : Fin 14 => hopOf (backKit (F := F) c) (cur h.succ)))
          ∗ (ow c 120 ∗ Qs X W c)) -∗ wpc c k Kt)
        -∗ wpc c (repK ix14 (hopB p hp r l) k) Kt) := by
  have hw := wp_rep (P := ctx X W κ) (Kt := Kt) (G := fun i => iprop(ow (F := F) c (8 * (i + 1)) ∗ Qs X W c))
    (A := fun h : Fin 14 => iprop(hopOf (recvKit (F := F) c) (cur h.castSucc) ∗ hopOf (sendKit (F := F) c) (cur h.succ)))
    (B := fun h : Fin 14 => iprop(hopOf (zero (F := F) c 1) (cur h.castSucc) ∗ hopOf (backKit (F := F) c) (cur h.succ)))
    (f := hopB p hp r l) c ix14 (by decide) rfl (by decide) (fun h k => wp_hop X W κ c hp hpw hr hl h) k (sep2 _ _) (sep2 _ _)
  exact hw

/-- The last hop. -/
theorem wp_last {k : Pg F} {Kt : PUnit → sProp 𝕄} {p : BitVec 32} (hp : k0_chk5 p) (hpw : p = pw c) {q : Dev nD} (hq : q = pt c) :
    iprop(ctx X W κ ∗ (hopOf (recvKit (F := F) c) 14 ∗ hopOf (sendKit (F := F) c) 15) ∗ (ow c 120 ∗ Qs X W c))
      ⊢ iprop((((hopOf (zero (F := F) c 1) 14 ∗ hopOf (backKit (F := F) c) 15
            ∗ bigSep Finset.univ fun s : Fin 4 => iprop(owns (c : Thread nD τ) (mM 0 s c) fullShare (mineV X W 0 c s) ∗ owns (c : Thread nD τ) (mM 1 s c) fullShare (mineV X W 1 c s)))
          ∗ (ow c 128 ∗ Qs X W c)) -∗ wpc c k Kt)
        -∗ wpc c (hopL p hp c q k) Kt) := by
  have hw := wp_rep (P := ctx X W κ) (Kt := Kt) (G := fun i => ow (F := F) c (120 + 2 * i))
    (A := fun s : Fin 4 => iprop((recvKit (F := F) c (0, 14, s) ∗ recvKit (F := F) c (1, 14, s))
      ∗ (sendKit (F := F) c (0, 15, s) ∗ sendKit (F := F) c (1, 15, s))))
    (B := fun s : Fin 4 => iprop((zero (F := F) c 1 (0, 14, s) ∗ zero (F := F) c 1 (1, 14, s))
      ∗ (backKit (F := F) c (0, 15, s) ∗ backKit (F := F) c (1, 15, s))
      ∗ (owns (c : Thread nD τ) (mM 0 s c) fullShare (mineV X W 0 c s) ∗ owns (c : Thread nD τ) (mM 1 s c) fullShare (mineV X W 1 c s))))
    (f := fun s k => recvB 0 14 s (prodQ X W 0 14 c) <| sendX 0 s c q <| recvB 1 14 s (prodQ X W 1 14 c) <| sendX 1 s c q <| k) c ix4 (by decide) rfl (by decide) (fun s k => by
      iintro ⟨#Hc, ⟨⟨R0, R1⟩, S0, S1⟩, HO⟩ Hk
      iapply (wp_recvB X W κ c 0 s 14 rfl (n := 120 + 2 * s.val) (late (by show 8 * (14 + 1) ≤ _; omega))) $$ [R0 HO]
      · isplitr; · iexact Hc
        isplitl [R0]; · iexact R0
        iexact HO
      iintro ⟨V0, Z0, HO⟩
      iapply (wp_sendX X W κ c 0 s hq (num_eq _ _ _).symm) $$ [S0 V0 HO]
      · isplitr; · iexact Hc
        isplitl [S0]; · iexact S0
        isplitl [V0]; · iexact V0
        iexact HO
      iintro ⟨B0, M0, HO⟩
      iapply (wp_recvB X W κ c 1 s 14 rfl (n := 120 + 2 * s.val + 1) (late (by show 8 * (14 + 1) ≤ _; omega))) $$ [R1 HO]
      · isplitr; · iexact Hc
        isplitl [R1]; · iexact R1
        iexact HO
      iintro ⟨V1, Z1, HO⟩
      iapply (wp_sendX X W κ c 1 s hq (num_eq _ _ _).symm) $$ [S1 V1 HO]
      · isplitr; · iexact Hc
        isplitl [S1]; · iexact S1
        isplitl [V1]; · iexact V1
        iexact HO
      iintro ⟨B1, M1, HO⟩
      iapply Hk
      isplitl [B0 B1 Z0 Z1 M0 M1]
      · isplitl [Z0 Z1]
        · isplitl [Z0]; · iexact Z0
          iexact Z1
        isplitl [B0 B1]
        · isplitl [B0]; · iexact B0
          iexact B1
        isplitl [M0]; · iexact M0
        iexact M1
      iexact HO) k (sep2 _ _) (sep3 _ _ _)
  unfold hopL
  iintro ⟨#Hc, HA, HO, HQ⟩ Hk
  iapply (wp_loadQ X W c hp hpw 14) $$ HQ
  iintro HQ
  iapply hw $$ [HA HO]
  · isplitr; · iexact Hc
    isplitl [HA]; · iexact HA
    iexact HO
  iintro ⟨HB, HO⟩
  iapply Hk
  isplitl [HB]; · iexact HB
  isplitl [HO]; · iexact HO
  iexact HQ

/-- The sends of the hops collected. -/
theorem wp_backs {k : Pg F} {Kt : PUnit → sProp 𝕄} :
    iprop(ctx X W κ ∗ (bigSep Finset.univ fun h : Fin 15 => hopOf (backKit (F := F) c) (cur h)) ∗ ow c 128)
      ⊢ iprop((((bigSep Finset.univ fun h : Fin 15 => hopOf (zero (F := F) c 0) (cur h))
          ∗ (bigSep Finset.univ fun h : Fin 15 => bigSep Finset.univ fun s : Fin 4 => iprop(anyAt (F := F) c (mB 0 (prv h) s) ∗ anyAt (F := F) c (mB 1 (prv h) s))) ∗ ow c 128) -∗ wpc c k Kt)
        -∗ wpc c (repK ix15 (fun h k => repK ix4 (fun s k => backB 0 h s <| backB 1 h s k) k) k) Kt) := by
  have hw := wp_rep (P := ctx X W κ) (Kt := Kt) (G := fun _ => ow (F := F) c 128)
    (A := fun h : Fin 15 => hopOf (backKit (F := F) c) (cur h))
    (B := fun h : Fin 15 => iprop(hopOf (zero (F := F) c 0) (cur h) ∗ bigSep Finset.univ fun s : Fin 4 => iprop(anyAt (F := F) c (mB 0 (prv h) s) ∗ anyAt (F := F) c (mB 1 (prv h) s))))
    (f := fun h k => repK ix4 (fun s k => backB 0 h s <| backB 1 h s k) k) c ix15 (by decide) rfl (by decide) (fun h k => by
      have hi := wp_rep (P := ctx X W κ) (Kt := Kt) (G := fun _ => ow (F := F) c 128)
        (A := fun s : Fin 4 => iprop(backKit (F := F) c (0, cur h, s) ∗ backKit (F := F) c (1, cur h, s)))
        (B := fun s : Fin 4 => iprop((zero (F := F) c 0 (0, cur h, s) ∗ zero (F := F) c 0 (1, cur h, s)) ∗ (anyAt (F := F) c (mB 0 (prv h) s) ∗ anyAt (F := F) c (mB 1 (prv h) s))))
        (f := fun s k => backB 0 h s <| backB 1 h s k) c ix4 (by decide) rfl (by decide) (fun s k => by
          iintro ⟨#Hc, ⟨K0, K1⟩, HO⟩ Hk
          iapply (wp_backB X W κ c 0 s h) $$ [K0 HO]
          · isplitr; · iexact Hc
            isplitl [K0]; · iexact K0
            iexact HO
          iintro ⟨A0, Z0, HO⟩
          iapply (wp_backB X W κ c 1 s h) $$ [K1 HO]
          · isplitr; · iexact Hc
            isplitl [K1]; · iexact K1
            iexact HO
          iintro ⟨A1, Z1, HO⟩
          iapply Hk
          isplitl [A0 A1 Z0 Z1]
          · isplitl [Z0 Z1]
            · isplitl [Z0]; · iexact Z0
              iexact Z1
            isplitl [A0]; · iexact A0
            iexact A1
          iexact HO) k rfl (sep2 _ _)
      exact hi) k rfl (sep2 _ _)
  refine hw.trans ?_
  iintro Hw Hk
  iapply Hw
  iintro ⟨⟨H1, H2⟩, HO⟩
  iapply Hk
  isplitl [H1]; · iexact H1
  isplitl [H2]; · iexact H2
  iexact HO

/-- The sends of the halves collected. -/
theorem wp_backXs {k : Pg F} {Kt : PUnit → sProp 𝕄} :
    iprop(ctx X W κ ∗ hopOf (backKit (F := F) c) 15 ∗ ow c 128)
      ⊢ iprop(((hopOf (zero (F := F) c 0) 15 ∗ (bigSep Finset.univ fun s : Fin 4 => iprop(anyAt (F := F) c (mO 0 s c) ∗ anyAt (F := F) c (mO 1 s c))) ∗ ow c 128) -∗ wpc c k Kt)
        -∗ wpc c (repK ix4 (fun s k => backX 0 s c <| backX 1 s c k) k) Kt) := by
  have hi := wp_rep (P := ctx X W κ) (Kt := Kt) (G := fun _ => ow (F := F) c 128)
    (A := fun s : Fin 4 => iprop(backKit (F := F) c (0, 15, s) ∗ backKit (F := F) c (1, 15, s)))
    (B := fun s : Fin 4 => iprop((zero (F := F) c 0 (0, 15, s) ∗ zero (F := F) c 0 (1, 15, s)) ∗ (anyAt (F := F) c (mO 0 s c) ∗ anyAt (F := F) c (mO 1 s c))))
    (f := fun s k => backX 0 s c <| backX 1 s c k) c ix4 (by decide) rfl (by decide) (fun s k => by
      iintro ⟨#Hc, ⟨K0, K1⟩, HO⟩ Hk
      iapply (wp_backX X W κ c 0 s) $$ [K0 HO]
      · isplitr; · iexact Hc
        isplitl [K0]; · iexact K0
        iexact HO
      iintro ⟨A0, Z0, HO⟩
      iapply (wp_backX X W κ c 1 s) $$ [K1 HO]
      · isplitr; · iexact Hc
        isplitl [K1]; · iexact K1
        iexact HO
      iintro ⟨A1, Z1, HO⟩
      iapply Hk
      isplitl [A0 A1 Z0 Z1]
      · isplitl [Z0 Z1]
        · isplitl [Z0]; · iexact Z0
          iexact Z1
        isplitl [A0]; · iexact A0
        iexact A1
      iexact HO) k rfl (B' := iprop(hopOf (zero (F := F) c 0) 15 ∗ bigSep Finset.univ fun s : Fin 4 => iprop(anyAt (F := F) c (mO 0 s c) ∗ anyAt (F := F) c (mO 1 s c)))) (sep2 _ _)
  refine hi.trans ?_
  iintro Hw Hk
  iapply Hw
  iintro ⟨⟨H1, H2⟩, HO⟩
  iapply Hk
  isplitl [H1]; · iexact H1
  isplitl [H2]; · iexact H2
  iexact HO

/-! ## The result -/

/-- The result's columns below a chunk number are done. -/
def doneO (n : ℕ) : sProp 𝕄 :=
  iprop(∃ f : S128x2048.Idx → Elt F .f32, ((c : Thread nD τ).loc cc0_stg5_0 ↦{fullShare} f) ∗ ⌜∀ x, (x 1).val % 1024 < 256 * n → f x = outB X W c x⌝)

theorem putO_at (d : Fin 2) (s : Fin 4) (f : S128x2048.Idx → Elt F .f32) (w : Vec F S128x256 .f32) (i : S128x256.Idx) :
    putO d s f w ((rOut d s).emb i) = w i := congrFun (View.read_write_univ (v := obuf.access (rOut d s)) f w) i

theorem putO_off (d : Fin 2) (s : Fin 4) (f : S128x2048.Idx → Elt F .f32) (w : Vec F S128x256 .f32) (x : S128x2048.Idx)
    (hx : ¬ (1024 * d.val + 256 * s.val ≤ (x 1).val ∧ (x 1).val < 1024 * d.val + 256 * s.val + 256)) : putO d s f w x = f x := by
  refine View.write_of_not_mem (v := obuf.access (rOut d s)) f w Finset.univ ?_
  rw [show (obuf.access (rOut d s)).setOn Finset.univ = (rOut d s).set.map obuf.view.emb from View.set_slice _ _]
  intro hm
  obtain ⟨y, hy, rfl⟩ := Finset.mem_map.mp hm
  exact hx ((Rect.mem_set_unit.mp hy) 1)

theorem putO_two (s : Fin 4) {f : S128x2048.Idx → Elt F .f32} (hf : ∀ x, (x 1).val % 1024 < 256 * s.val → f x = outB X W c x) :
    ∀ x, (x 1).val % 1024 < 256 * (s.val + 1) →
      putO 1 s (putO 0 s f (act2 (mineV X W 0 c s) (pairV X W 0 c s))) (act2 (mineV X W 1 c s) (pairV X W 1 c s)) x = outB X W c x := by
  have hat (d : Fin 2) (x : S128x2048.Idx) (hx : 1024 * d.val + 256 * s.val ≤ (x 1).val ∧ (x 1).val < 1024 * d.val + 256 * s.val + 256) (g : S128x2048.Idx → Elt F .f32) :
      putO d s g (act2 (mineV X W d c s) (pairV X W d c s)) x = outB X W c x := by
    have h2 := d.isLt
    have hs := s.isLt
    have hxe : x = (rOut d s).emb (fun a => match a with | 0 => ⟨(x 0).val, (x 0).isLt⟩ | 1 => ⟨(x 1).val % 256, Nat.mod_lt _ (by decide)⟩) := by
      refine funext fun a => Fin.ext ?_
      match a with
      | ⟨0, _⟩ => show (x 0).val = 0 + 1 * (x 0).val; omega
      | ⟨1, _⟩ => show (x 1).val = 1024 * d.val + 256 * s.val + 1 * ((x 1).val % 256); omega
    have hd : (⟨(x 1).val / 1024, by have : (x 1).val < 2048 := (x 1).isLt; omega⟩ : Fin 2) = d := Fin.ext (by show (x 1).val / 1024 = _; omega)
    have hse : (⟨(x 1).val % 1024 / 256, by omega⟩ : Fin 4) = s := Fin.ext (by show (x 1).val % 1024 / 256 = _; omega)
    unfold outB
    rw [hd, hse]
    refine (congrArg (putO d s g _) hxe).trans ((putO_at d s g (act2 (mineV X W d c s) (pairV X W d c s)) _).trans (congrArg (act2 _ _) (funext fun a => ?_)))
    match a with
    | ⟨0, _⟩ => rfl
    | ⟨1, _⟩ => rfl
  intro x hx
  have hlt : (x 1).val < 2048 := (x 1).isLt
  have hs := s.isLt
  by_cases h1 : 1024 * (1 : Fin 2).val + 256 * s.val ≤ (x 1).val ∧ (x 1).val < 1024 * (1 : Fin 2).val + 256 * s.val + 256
  · exact hat 1 x h1 _
  rw [putO_off 1 s _ _ x h1]
  by_cases h0 : 1024 * (0 : Fin 2).val + 256 * s.val ≤ (x 1).val ∧ (x 1).val < 1024 * (0 : Fin 2).val + 256 * s.val + 256
  · exact hat 0 x h0 _
  rw [putO_off 0 s _ _ x h0]
  refine hf x ?_
  change ¬ (1024 * 1 + 256 * s.val ≤ (x 1).val ∧ (x 1).val < 1024 * 1 + 256 * s.val + 256) at h1
  change ¬ (1024 * 0 + 256 * s.val ≤ (x 1).val ∧ (x 1).val < 1024 * 0 + 256 * s.val + 256) at h0
  omega

/-- The exchanged halves awaited and the result stored. -/
theorem wp_fins {k : Pg F} {Kt : PUnit → sProp 𝕄} {f : S128x2048.Idx → Elt F .f32} :
    iprop(ctx X W κ ∗ (hopOf (recvKit (F := F) c) 15
          ∗ bigSep Finset.univ fun s : Fin 4 => iprop(owns (c : Thread nD τ) (mM 0 s c) fullShare (mineV X W 0 c s) ∗ owns (c : Thread nD τ) (mM 1 s c) fullShare (mineV X W 1 c s)))
        ∗ (ow c 128 ∗ (c : Thread nD τ).loc cc0_stg5_0 ↦{fullShare} f))
      ⊢ iprop(((((bigSep Finset.univ fun s : Fin 4 => iprop(anyAt (F := F) c (mP 0 s) ∗ anyAt (F := F) c (mP 1 s)))
            ∗ (bigSep Finset.univ fun s : Fin 4 => iprop(anyAt (F := F) c (mM 0 s c) ∗ anyAt (F := F) c (mM 1 s c))) ∗ hopOf (zero (F := F) c 1) 15)
          ∗ (ow c 128 ∗ (c : Thread nD τ).loc cc0_stg5_0 ↦{fullShare} outB X W c)) -∗ wpc c k Kt)
        -∗ wpc c (repK ix4 (fun s k => finX obuf 0 s c <| finX obuf 1 s c k) k) Kt) := by
  have hi := wp_rep (P := ctx X W κ) (Kt := Kt) (G := fun n => iprop(ow (F := F) c 128 ∗ doneO X W c n))
    (A := fun s : Fin 4 => iprop((recvKit (F := F) c (0, 15, s) ∗ recvKit (F := F) c (1, 15, s))
      ∗ (owns (c : Thread nD τ) (mM 0 s c) fullShare (mineV X W 0 c s) ∗ owns (c : Thread nD τ) (mM 1 s c) fullShare (mineV X W 1 c s))))
    (B := fun s : Fin 4 => iprop((anyAt (F := F) c (mP 0 s) ∗ anyAt (F := F) c (mP 1 s)) ∗ (anyAt (F := F) c (mM 0 s c) ∗ anyAt (F := F) c (mM 1 s c))
      ∗ (zero (F := F) c 1 (0, 15, s) ∗ zero (F := F) c 1 (1, 15, s))))
    (f := fun s k => finX obuf 0 s c <| finX obuf 1 s c k) c ix4 (by decide) rfl (by decide) (fun s k => by
      unfold doneO
      iintro ⟨#Hc, ⟨⟨R0, R1⟩, M0, M1⟩, HO, ⟨%f, Hf, %hf⟩⟩ Hk
      iapply (wp_finX X W κ c 0 s f) $$ [R0 M0 HO Hf]
      · isplitr; · iexact Hc
        isplitl [R0]; · iexact R0
        isplitl [M0]; · iexact M0
        isplitl [Hf]; · iexact Hf
        iexact HO
      iintro ⟨P0, M0, Z0, Hf, HO⟩
      iapply (wp_finX X W κ c 1 s _) $$ [R1 M1 HO Hf]
      · isplitr; · iexact Hc
        isplitl [R1]; · iexact R1
        isplitl [M1]; · iexact M1
        isplitl [Hf]; · iexact Hf
        iexact HO
      iintro ⟨P1, M1, Z1, Hf, HO⟩
      iapply Hk
      isplitl [P0 P1 Z0 Z1 M0 M1]
      · isplitl [P0 P1]
        · isplitl [P0]; · iexact P0
          iexact P1
        isplitl [M0 M1]
        · isplitl [M0]; · iexact M0
          iexact M1
        isplitl [Z0]; · iexact Z0
        iexact Z1
      isplitl [HO]; · iexact HO
      iexists _
      isplitl [Hf]; · iexact Hf
      ipureintro
      exact putO_two X W c s hf) k (sep2 _ _) (sep3 _ _ _)
  iintro ⟨#Hc, HA, HO, Hf⟩ Hk
  iapply hi $$ [HA HO Hf]
  · isplitr; · iexact Hc
    isplitl [HA]; · iexact HA
    isplitl [HO]; · iexact HO
    unfold doneO
    iexists f
    isplitl [Hf]; · iexact Hf
    ipureintro
    intro x hx; exact absurd hx (Nat.not_lt_zero _)
  unfold doneO
  iintro ⟨HB, HO, %g, Hg, %hg⟩
  obtain rfl : g = outB X W c := funext fun x => hg x (by have : (x 1).val % 1024 < 1024 := Nat.mod_lt _ (by decide); omega)
  iapply Hk
  isplitl [HB]; · iexact HB
  isplitl [HO]; · iexact HO
  iexact Hg

end
end Cert.Proof.Ring
-- ==== Proof.Local.lean ====
module

public import proofs.«01_k».proof.Proof.Hops

/-! # The steps within a device, and the barrier

The weights copied, the products computed, the tables read; and the barrier, at which a device hands its
landing places to its neighbours and gets theirs. -/
@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

attribute [local irreducible] look16 look32 nextW prevW wordOf

variable {F : FTy → Type} [FloatOps F]

local notation "𝕄" => MT nD τ sig Unit (Elt F) ℕ UU ℕ

/-- The whole of an array as a window of itself. -/
theorem full_sub {α : Type} {s : Shape} (f : s.Idx → α) {off : Fin s.rank → ℕ} (h : ∀ a, off a = 0) (inb : ∀ a, off a + s.size a ≤ s.size a) :
    sub2 f off s.size inb = f :=
  funext fun i => congrArg f (funext fun a => Fin.ext (by show off a + 1 * (i a).val = (i a).val; rw [h]; omega))

section Whole
variable {b : Ref sig .tc}

/-- A window of a buffer read, and stored. -/
theorem read_at (r : Rect b.ty.shape) (f : b.ty.Contents (Elt F)) : (Memref.whole b).view.readAt (Elt F) r.toLoadRect f = fun i => f (r.emb i) := rfl
theorem put_at (r : Rect b.ty.shape) (f : b.ty.Contents (Elt F)) (w : r.shape.Idx → Elt F b.ty.elt) (i : r.shape.Idx) :
    ((Memref.whole b).access r).write (Elt F) f w Finset.univ (r.emb i) = w i :=
  congrFun (View.read_write_univ (v := (Memref.whole b).access r) f w) i
theorem put_off (r : Rect b.ty.shape) (f : b.ty.Contents (Elt F)) (w : r.shape.Idx → Elt F b.ty.elt) {x : b.ty.shape.Idx} (hx : x ∉ r.set) :
    ((Memref.whole b).access r).write (Elt F) f w Finset.univ x = f x := by
  refine View.write_of_not_mem (v := (Memref.whole b).access r) f w Finset.univ ?_
  rw [show ((Memref.whole b).access r).setOn Finset.univ = r.set.map (Memref.whole b).view.emb from View.set_slice _ _]
  intro hm
  obtain ⟨y, hy, rfl⟩ := Finset.mem_map.mp hm
  exact hx hy
theorem read_full {off : Fin b.ty.shape.rank → ℕ} (h : ∀ a, off a = 0) (inb : ∀ a, off a + b.ty.shape.size a ≤ b.ty.shape.size a) (f : b.ty.Contents (Elt F)) :
    (Memref.whole b).view.readAt (Elt F) (Rect.unit (s := b.ty.shape) off b.ty.shape.size inb).toLoadRect f = f := full_sub f h inb
theorem put_full {off : Fin b.ty.shape.rank → ℕ} (h : ∀ a, off a = 0) (inb : ∀ a, off a + b.ty.shape.size a ≤ b.ty.shape.size a) (f w : b.ty.Contents (Elt F)) :
    ((Memref.whole b).access (Rect.unit (s := b.ty.shape) off b.ty.shape.size inb)).write (Elt F) f w Finset.univ = w :=
  (full_sub (((Memref.whole b).access (Rect.unit (s := b.ty.shape) off b.ty.shape.size inb)).write (Elt F) f w Finset.univ) h inb).symm.trans
    (funext fun i => put_at (Rect.unit (s := b.ty.shape) off b.ty.shape.size inb) f w i)
end Whole

section
variable (X : Dev nD → Vec F S4096x128 .bf16) (W : Dev nD → Vec F S128x2048 .bf16) (κ : GSem nD τ sig → ℕ) (c : Dev nD)

/-! ## The staged arrays -/

abbrev xbuf : Memref sig .tc .vmem S4096x128 .bf16 := Memref.whole cc0_stg0_0
abbrev vbuf : Memref sig .tc .vmem S128x2048 .bf16 := Memref.whole cc0_stg1_0
abbrev tbuf0 : Memref sig .tc .vmem S1x16 .i32 := Memref.whole cc0_stg2_0
abbrev tbuf1 : Memref sig .tc .vmem S1x16 .i32 := Memref.whole cc0_stg3_0
abbrev tbuf2 : Memref sig .tc .vmem S1x32 .i32 := Memref.whole cc0_stg4_0

abbrev Xs : sProp 𝕄 := (c : Thread nD τ).loc cc0_stg0_0 ↦{fullShare} X c
abbrev Vs : sProp 𝕄 := (c : Thread nD τ).loc cc0_stg1_0 ↦{fullShare} W c
abbrev Ws : sProp 𝕄 := (c : Thread nD τ).loc cc0_scratch0 ↦{fullShare} W c
abbrev T0 : sProp 𝕄 := (c : Thread nD τ).loc cc0_stg2_0 ↦{fullShare} (tab0 : Vec F S1x16 .i32)
abbrev T1 : sProp 𝕄 := (c : Thread nD τ).loc cc0_stg3_0 ↦{fullShare} (tab1 : Vec F S1x16 .i32)
abbrev T2 : sProp 𝕄 := (c : Thread nD τ).loc cc0_stg4_0 ↦{fullShare} (tab2 : Vec F S1x32 .i32)

theorem wp_readT0 {k : IVec S1x16 32 → Pg F} {Kt : PUnit → sProp 𝕄} : T0 (F := F) c ⊢ iprop((T0 (F := F) c -∗ wpc c (k tab0) Kt) -∗ wpc c (readT tbuf0 k) Kt) := by
  unfold readT
  iintro H Hk
  iapply (wp_load 𝒱₀ (c : Thread nD τ) none Set.univ (m := tbuf0) (q := fullShare) (f := (tab0 : Vec F S1x16 .i32)) (S := Finset.univ) (Finset.subset_univ _)) $$ H
  iintro H
  rw [show tbuf0.view.readAt (Elt F) (Rect.unit (s := S1x16) ![0, 0] S1x16.size inb_S1x16_S1x16_0_0).toLoadRect (tab0 : Vec F S1x16 .i32) = (tab0 : Vec F S1x16 .i32) from
    full_sub (s := S1x16) (tab0 : Vec F S1x16 .i32) (by decide) inb_S1x16_S1x16_0_0]
  iapply Hk
  iexact H

theorem wp_readT1 {k : IVec S1x16 32 → Pg F} {Kt : PUnit → sProp 𝕄} : T1 (F := F) c ⊢ iprop((T1 (F := F) c -∗ wpc c (k tab1) Kt) -∗ wpc c (readT tbuf1 k) Kt) := by
  unfold readT
  iintro H Hk
  iapply (wp_load 𝒱₀ (c : Thread nD τ) none Set.univ (m := tbuf1) (q := fullShare) (f := (tab1 : Vec F S1x16 .i32)) (S := Finset.univ) (Finset.subset_univ _)) $$ H
  iintro H
  rw [show tbuf1.view.readAt (Elt F) (Rect.unit (s := S1x16) ![0, 0] S1x16.size inb_S1x16_S1x16_0_0).toLoadRect (tab1 : Vec F S1x16 .i32) = (tab1 : Vec F S1x16 .i32) from
    full_sub (s := S1x16) (tab1 : Vec F S1x16 .i32) (by decide) inb_S1x16_S1x16_0_0]
  iapply Hk
  iexact H

/-! ## The products -/

abbrev rQ (q : Fin 16) : Rect S4096x2048 := Rect.unit (s := S4096x2048) ![256 * q.val, 0] S256x2048.size (inbQ q)
abbrev rX (q : Fin 16) : Rect S4096x128 := Rect.unit (s := S4096x128) ![epair q, 0] S256x128.size (inbA q)

/-- The products' buffer with a block stored. -/
def putQ (q : Fin 16) (f : S4096x2048.Idx → Elt F .bf16) (w : Vec F S256x2048 .bf16) : S4096x2048.Idx → Elt F .bf16 :=
  (qbuf.access (rQ q)).write (Elt F) f w Finset.univ

theorem putQ_at (q : Fin 16) (f : S4096x2048.Idx → Elt F .bf16) (w : Vec F S256x2048 .bf16) (i : S256x2048.Idx) : putQ q f w ((rQ q).emb i) = w i :=
  put_at (b := cc0_scratch1) (rQ q) f w i

theorem putQ_off (q : Fin 16) (f : S4096x2048.Idx → Elt F .bf16) (w : Vec F S256x2048 .bf16) (x : S4096x2048.Idx)
    (hx : ¬ (256 * q.val ≤ (x 0).val ∧ (x 0).val < 256 * q.val + 256)) : putQ q f w x = f x :=
  put_off (b := cc0_scratch1) (rQ q) f w fun hm => hx (Rect.mem_set_unit.mp hm 0)

theorem read_rX (q : Fin 16) : xbuf.view.readAt (Elt F) (rX q).toLoadRect (X c) = rowsX X c q := read_at (b := cc0_stg0_0) (rX q) (X c)
theorem read_w : wbuf.view.readAt (Elt F) (Rect.unit (s := S128x2048) ![0, 0] S128x2048.size inb_S128x2048_S128x2048_0_0).toLoadRect (W c) = W c :=
  read_full (b := cc0_scratch0) (by decide) inb_S128x2048_S128x2048_0_0 (W c)

theorem putQ_one (q : Fin 16) {f : S4096x2048.Idx → Elt F .bf16} (hf : ∀ x, (x 0).val < 256 * q.val → f x = prods X W c x) :
    ∀ x, (x 0).val < 256 * (q.val + 1) → putQ q f (prodV (rowsX X c q) (W c)) x = prods X W c x := by
  intro x hx
  by_cases h0 : 256 * q.val ≤ (x 0).val ∧ (x 0).val < 256 * q.val + 256
  · have hxe : x = (rQ q).emb (fun a => match a with | 0 => ⟨(x 0).val % 256, Nat.mod_lt _ (by decide)⟩ | 1 => ⟨(x 1).val, (x 1).isLt⟩) := by
      refine funext fun a => Fin.ext ?_
      match a with
      | ⟨0, _⟩ => show (x 0).val = 256 * q.val + 1 * ((x 0).val % 256); omega
      | ⟨1, _⟩ => show (x 1).val = 0 + 1 * (x 1).val; omega
    have hq : (⟨(x 0).val / 256, by have : (x 0).val < 4096 := (x 0).isLt; omega⟩ : Fin 16) = q := Fin.ext (by show (x 0).val / 256 = _; omega)
    unfold prods
    rw [hq]
    refine (congrArg (putQ q f _) hxe).trans ((putQ_at q f (prodV (rowsX X c q) (W c)) _).trans (congrArg (prodV _ _) (funext fun a => ?_)))
    match a with
    | ⟨0, _⟩ => rfl
    | ⟨1, _⟩ => rfl
  · rw [putQ_off q f _ x h0]
    exact hf x (by omega)

/-- The products' rows below a block number are done. -/
def doneQ (n : ℕ) : sProp 𝕄 :=
  iprop(∃ f : S4096x2048.Idx → Elt F .bf16, ((c : Thread nD τ).loc cc0_scratch1 ↦{fullShare} f) ∗ ⌜∀ x, (x 0).val < 256 * n → f x = prods X W c x⌝)

/-- The products computed. -/
theorem wp_prods {k : Pg F} {Kt : PUnit → sProp 𝕄} {f : S4096x2048.Idx → Elt F .bf16} :
    iprop(ctx X W κ ∗ emp ∗ (Xs X c ∗ Ws W c ∗ (c : Thread nD τ).loc cc0_scratch1 ↦{fullShare} f))
      ⊢ iprop(((Xs X c ∗ Ws W c ∗ Qs X W c) -∗ wpc c k Kt) -∗ wpc c (repK ix16 (prodB xbuf) k) Kt) := by
  have hi := wp_rep (P := ctx X W κ) (Kt := Kt) (G := fun n => iprop(Xs X c ∗ Ws W c ∗ doneQ X W c n))
    (A := fun _ : Fin 16 => iprop(emp)) (B := fun _ : Fin 16 => iprop(emp)) (f := prodB xbuf) c ix16 (by decide) rfl (by decide) (fun q k => by
      unfold prodB doneQ
      iintro ⟨-, -, HX, HW, ⟨%f, Hf, %hf⟩⟩ Hk
      iapply (wp_load 𝒱₀ (c : Thread nD τ) none Set.univ (m := xbuf) (q := fullShare) (f := X c) (S := Finset.univ) (Finset.subset_univ _)) $$ HX
      iintro HX
      rw [read_rX]
      iapply (wp_load 𝒱₀ (c : Thread nD τ) none Set.univ (m := wbuf) (q := fullShare) (f := W c) (S := Finset.univ) (Finset.subset_univ _)) $$ HW
      iintro HW
      rw [read_w]
      iapply (wp_load 𝒱₀ (c : Thread nD τ) none Set.univ (m := qbuf) (q := fullShare) (f := f) (S := Finset.univ) (Finset.subset_univ _)) $$ Hf
      iintro Hf
      iapply (wp_store 𝒱₀ (c : Thread nD τ) none Set.univ (m := qbuf) (r := rQ q) (f := f) (S := Finset.univ) (Finset.subset_univ _)) $$ Hf
      iintro Hf
      iapply Hk
      isplitr; · iempintro
      isplitl [HX]; · iexact HX
      isplitl [HW]; · iexact HW
      iexists putQ q f (prodV (rowsX X c q) (W c))
      isplitl [Hf]
      · iexact Hf
      ipureintro
      exact putQ_one X W c q hf) k (bigSep_emp_const _) (bigSep_emp_const _)
  iintro ⟨#Hc, He, HX, HW, Hf⟩ Hk
  iapply hi $$ [He HX HW Hf]
  · isplitr; · iexact Hc
    isplitl [He]; · iexact He
    isplitl [HX]; · iexact HX
    isplitl [HW]; · iexact HW
    unfold doneQ
    iexists f
    isplitl [Hf]; · iexact Hf
    ipureintro
    intro x hx; exact absurd hx (Nat.not_lt_zero _)
  unfold doneQ
  iintro ⟨-, HX, HW, %g, Hg, %hg⟩
  obtain rfl : g = prods X W c := funext fun x => hg x (x 0).isLt
  iapply Hk
  isplitl [HX]; · iexact HX
  isplitl [HW]; · iexact HW
  iexact Hg

/-! ## The first products -/

/-- The last slot's rows stored. -/
theorem wp_row (d : Fin 2) (w : FVec F S256x1024 .bf16) {hl} {hx} {hm} {k : Pg F} {Kt : PUnit → sProp 𝕄} :
    (bigSep Finset.univ fun s : Fin 4 => anyAt (F := F) c (mB d 15 s))
      ⊢ iprop(((bigSep Finset.univ fun s : Fin 4 => owns (c : Thread nD τ) (mB d 15 s) fullShare (chunkV s w)) -∗ wpc c k Kt)
        -∗ wpc c (.op (.load (buf d) r15.toLoadRect hl) fun _ => .op (.store (buf d) r15 (shapeCast S1x256x1024 w shapeCasts_S256x1024_S1x256x1024) Finset.univ hx hm) fun _ => k) Kt) := by
  iintro H Hk
  ihave H := (join_row (F := F) c d) $$ H
  icases H with ⟨%f, H⟩
  iapply (wp_load_rect 𝒱₀ (c : Thread nD τ) none Set.univ (m := buf d) (r := r15) (q := fullShare) (f := f) (row_sub d)) $$ H
  iintro H
  iapply (wp_store 𝒱₀ (c : Thread nD τ) none Set.univ (m := buf d) (r := r15) (f := f) ((View.setOn_subset_set _ _).trans (row_sub d))) $$ H
  iintro H
  iapply Hk
  iapply (split_row c d f w)
  iexact H

theorem put_w (f : S128x2048.Idx → Elt F .bf16) :
    (wbuf.access (Rect.unit (s := S128x2048) ![0, 0] S128x2048.size inb_S128x2048_S128x2048_0_0)).write (Elt F) f
        (shapeCast S128x2048 (shapeCast S128x2048 (vbuf.view.readAt (Elt F) (Rect.unit (s := S128x2048) ![0, 0] S128x2048.size inb_S128x2048_S128x2048_0_0).toLoadRect (W c))
          shapeCasts_S128x2048_S128x2048) shapeCasts_S128x2048_S128x2048 : FVec F S128x2048 .bf16) Finset.univ = W c := by
  rw [show vbuf.view.readAt (Elt F) (Rect.unit (s := S128x2048) ![0, 0] S128x2048.size inb_S128x2048_S128x2048_0_0).toLoadRect (W c) = W c from
    read_full (b := cc0_stg1_0) (by decide) inb_S128x2048_S128x2048_0_0 (W c)]
  refine (put_full (b := cc0_scratch0) (by decide) inb_S128x2048_S128x2048_0_0 f _).trans ?_
  rw [shapeCast_shapeCast]

theorem read_x1 (h) : xbuf.view.readAt (Elt F) (Rect.unit (s := S4096x128) (k0_off1 (look16 (prevW (pw c)) tab0)) S256x128.size (k0_off1_inb _ h)).toLoadRect (X c)
    = rowsX X c (qFirst 0 c) :=
  (read_at (b := cc0_stg0_0) _ (X c)).trans (sub2_congr (s := S4096x128) (X c) S256x128.size (off1_pw c) _ _)
theorem read_x2 (h) : xbuf.view.readAt (Elt F) (Rect.unit (s := S4096x128) (k0_off2 (look16 (nextW (pw c)) tab0)) S256x128.size (k0_off2_inb _ h)).toLoadRect (X c)
    = rowsX X c (qFirst 1 c) :=
  (read_at (b := cc0_stg0_0) _ (X c)).trans (sub2_congr (s := S4096x128) (X c) S256x128.size (off2_pw c) _ _)
theorem read_w0 : wbuf.view.readAt (Elt F) (Rect.unit (s := S128x2048) ![0, 0] S128x1024.size inb_S128x2048_S128x1024_0_0).toLoadRect (W c) = colsW W c 0 :=
  read_at (b := cc0_scratch0) _ (W c)
theorem read_w1 : wbuf.view.readAt (Elt F) (Rect.unit (s := S128x2048) ![0, 1024] S128x1024.size inb_S128x2048_S128x1024_0_1024).toLoadRect (W c) = colsW W c 1 :=
  read_at (b := cc0_scratch0) _ (W c)

/-- The weights copied, and the two first products stored in the last slots. -/
theorem wp_first {k : Pg F} {Kt : PUnit → sProp 𝕄} {p : BitVec 32} (hpw : p = pw c) {f : S128x2048.Idx → Elt F .bf16} :
    iprop(Xs X c ∗ Vs W c ∗ T0 (F := F) c ∗ ((c : Thread nD τ).loc cc0_scratch0 ↦{fullShare} f)
        ∗ (bigSep Finset.univ fun s : Fin 4 => anyAt (F := F) c (mB 0 15 s)) ∗ (bigSep Finset.univ fun s : Fin 4 => anyAt (F := F) c (mB 1 15 s)))
      ⊢ iprop(((Xs X c ∗ Vs W c ∗ T0 (F := F) c ∗ Ws W c
          ∗ (bigSep Finset.univ fun s : Fin 4 => owns (c : Thread nD τ) (mB 0 15 s) fullShare (val X W 0 0 c s))
          ∗ (bigSep Finset.univ fun s : Fin 4 => owns (c : Thread nD τ) (mB 1 15 s) fullShare (val X W 1 0 c s))) -∗ wpc c k Kt)
        -∗ wpc c (firstB xbuf vbuf tbuf0 p k) Kt) := by
  subst hpw
  unfold firstB
  iintro ⟨HX, HV, HT, Hf, H0, H1⟩ Hk
  iapply (wp_load 𝒱₀ (c : Thread nD τ) none Set.univ (m := vbuf) (q := fullShare) (f := W c) (S := Finset.univ) (Finset.subset_univ _)) $$ HV
  iintro HV
  iapply (wp_load 𝒱₀ (c : Thread nD τ) none Set.univ (m := wbuf) (q := fullShare) (f := f) (S := Finset.univ) (Finset.subset_univ _)) $$ Hf
  iintro Hf
  iapply (wp_store 𝒱₀ (c : Thread nD τ) none Set.univ (m := wbuf) (r := Rect.unit (s := S128x2048) ![0, 0] S128x2048.size inb_S128x2048_S128x2048_0_0) (f := f) (S := Finset.univ) (Finset.subset_univ _)) $$ Hf
  iintro Hf
  rw [put_w]
  iapply (wp_readT0 (F := F) c) $$ HT
  iintro HT
  iapply (wp_assume 𝒱₀ (c : Thread nD τ) none Set.univ (chk3_pw c))
  iapply (wp_load 𝒱₀ (c : Thread nD τ) none Set.univ (m := xbuf) (q := fullShare) (f := X c) (S := Finset.univ) (Finset.subset_univ _)) $$ HX
  iintro HX
  rw [read_x1 X c (chk3_pw c)]
  iapply (wp_readT0 (F := F) c) $$ HT
  iintro HT
  iapply (wp_assume 𝒱₀ (c : Thread nD τ) none Set.univ (chk4_pw c))
  iapply (wp_load 𝒱₀ (c : Thread nD τ) none Set.univ (m := xbuf) (q := fullShare) (f := X c) (S := Finset.univ) (Finset.subset_univ _)) $$ HX
  iintro HX
  rw [read_x2 X c (chk4_pw c)]
  iapply (wp_load 𝒱₀ (c : Thread nD τ) none Set.univ (m := wbuf) (q := fullShare) (f := W c) (S := Finset.univ) (Finset.subset_univ _)) $$ Hf
  iintro Hf
  rw [read_w0, firstV_eq]
  iapply (wp_row (F := F) c 0) $$ H0
  iintro H0
  iapply (wp_load 𝒱₀ (c : Thread nD τ) none Set.univ (m := wbuf) (q := fullShare) (f := W c) (S := Finset.univ) (Finset.subset_univ _)) $$ Hf
  iintro Hf
  rw [read_w1, firstV_eq]
  iapply (wp_row (F := F) c 1) $$ H1
  iintro H1
  iapply Hk
  isplitl [HX]; · iexact HX
  isplitl [HV]; · iexact HV
  isplitl [HT]; · iexact HT
  isplitl [Hf]; · iexact Hf
  isplitl [H0]; · iexact H0
  iexact H1

/-! ## The barrier -/

/-- A neighbour's barrier raised: it is handed this device's landing places. -/
theorem wp_tell (i : Fin 3) {tgt : Dev nD} (ht : tgt = bn i c) {O₀ O : CellTallies nD τ sig Unit} (hO : O₀ = O + tallyAt (barCell (bn i c)) () 1)
    {k : Pg F} {Kt : PUnit → sProp 𝕄} :
    iprop(ctx X W κ ∗ dutyTok ER (barCell (bn i c)) 0 i ∗ give (F := F) c i ∗ (∃ Ws, owes (c : Thread nD τ) O₀ Ws))
      ⊢ iprop(((∃ Ws, owes (c : Thread nD τ) O Ws) -∗ wpc c k Kt) -∗ wpc c (tellB tgt k) Kt) := by
  subst ht
  unfold ctx tellB
  iintro ⟨⟨#HI, #Hlev⟩, Ht, Hg, ⟨%Ws, HO⟩⟩ Hk
  iapply (Rounds.wp_signal 𝒱₀ ER (Rd X W) (c : Thread nD τ) none (dst := (bn i c : Thread nD τ)) (sem := barS) (r := 0) (d := i) (κ := κ (barCell (bn i c)))
      (by rw [duties_bar]; exact Finset.mem_univ _) (amount_bar X W (bn i c) i) () O hO) $$ [HO Ht Hg]
  · isplitr; · iapply (inv_bar X W κ (bn i c)); iexact HI
    isplitl [HO]; · iexact HO
    isplitl [Ht]; · iexact Ht
    isplitl [Hg]
    · rw [payload_bar]; unfold barPay; rw [nb_bn]; iexact Hg
    · iapply (reached_bar X W κ (bn i c)); iexact HI
  iintro HO
  iapply Hk
  iexists Ws; iexact HO

/-- The barrier passed: the neighbours' landing places are this device's to write. -/
theorem wp_bar {k : Pg F} {Kt : PUnit → sProp 𝕄} :
    iprop(ctx X W κ ∗ atPos ER (barCell c) 0 ∅ 0 ∗ cred (tallyAt (barCell c) () 3) ∗ ow c 0)
      ⊢ iprop((((give (F := F) (rt c) 0 ∗ give (F := F) (lf c) 1 ∗ give (F := F) (pt c) 2) ∗ semVal (barCell c) 0 ∗ ow c 0) -∗ wpc c k Kt)
        -∗ wpc c (.op (.semWait barS (3#32 : BitVec 32).toInt) fun _ => k) Kt) := by
  rw [← rest_bar X W c]
  unfold ctx ow
  iintro ⟨⟨#HI, #Hlev⟩, Hat, Hc, ⟨%Ws, HO⟩⟩ Hk
  iapply (Rounds.wp_wait_rest_token 𝒱₀ ER (Rd X W) (c : Thread nD τ) none (κ := κ (barCell c))
      (wpE_semWait_eq 𝒱₀ (c : Thread nD τ) none Set.univ) (Set.mem_univ _) () (O := dO c 0) (W := Ws) (R := 0) (m := 0) (T := ∅)
      (by rw [expect_bar]; rfl)) $$ [Hc HO Hat]
  · isplitr; · iapply (inv_bar X W κ c); iexact HI
    isplitl [Hc]; · iexact Hc
    isplitl [HO]; · iexact HO
    isplitr; · iapply (mayWait_bar c); iexact Hlev
    iexact Hat
  iintro ⟨HO, Hat, -, Hpay⟩
  rw [← fupd_wp_eq (p := k)]
  imod (close X W (κ (barCell c)) (barCell c)) $$ [Hat] with H0
  · isplitr; · iapply (inv_bar X W κ c); iexact HI
    iexact Hat
  imodintro
  iapply Hk
  isplitl [Hpay]; · iexact Hpay
  isplitl [H0]; · iexact H0
  iexists _; iexact HO

theorem read_t2 : tbuf2.view.readAt (Elt F) (Rect.unit (s := S1x32) ![0, 0] S1x32.size inb_S1x32_S1x32_0_0).toLoadRect (tab2 : Vec F S1x32 .i32) = (tab2 : Vec F S1x32 .i32) :=
  read_full (b := cc0_stg4_0) (by decide) inb_S1x32_S1x32_0_0 (tab2 : Vec F S1x32 .i32)

theorem wp_dev {k : Dev nD → Pg F} {Kt : PUnit → sProp 𝕄} : wpc c (k c) Kt ⊢ wpc c (.op .deviceId k) Kt :=
  Entails.of_eq (wp_deviceId 𝒱₀ (c : Thread nD τ) none Set.univ).symm

theorem devL_eq : devL c (look16 (prevW (pw c)) tab0) (look16 (prevW (pw c)) tab1) (chk1_pw c) = lf c := Fin.ext (dev1_pw c)
theorem devR_eq : devR c (look16 (nextW (pw c)) tab0) (look16 (nextW (pw c)) tab1) (chk2_pw c) = rt c := Fin.ext (dev2_pw c)
theorem devQ_eq : devQ c = pt c := Fin.ext (dev3_pw c)

/-- The head of the body from the table of places on, the place being `p`. -/
def headT (d0 : Dev nD) (p : BitVec 32) (k : (d0 : Dev nD) → (p : BitVec 32) → k0_chk5 p → (r0 r1 : BitVec 32) → k0_chk2 d0 r0 r1 → (l0 l1 : BitVec 32) → k0_chk1 d0 l0 l1 → Pg F) : Pg F :=
  .op (.assume (k0_chk5 p) (k0_chk5.dec p)) fun hp =>
  readT tbuf0 fun t1 => readT tbuf1 fun t2 =>
  .op (.assume (k0_chk2 d0 (look16 (nextW p) t1) (look16 (nextW p) t2)) (k0_chk2.dec _ _ _)) fun h2 =>
  readT tbuf0 fun t3 => readT tbuf1 fun t4 =>
  .op (.assume (k0_chk1 d0 (look16 (prevW p) t3) (look16 (prevW p) t4)) (k0_chk1.dec _ _ _)) fun h1 =>
  tellB ⟨k0_dev1 d0 (look16 (prevW p) t3) (look16 (prevW p) t4), k0_dev1_lt _ _ _ h1.down⟩ <|
  tellB ⟨k0_dev2 d0 (look16 (nextW p) t1) (look16 (nextW p) t2), k0_dev2_lt _ _ _ h2.down⟩ <|
  tellB ⟨k0_dev3 d0, k0_dev3_lt d0⟩ <|
  .op (.semWait barS (3#32 : BitVec 32).toInt) fun _ =>
  k d0 p hp.down (look16 (nextW p) t1) (look16 (nextW p) t2) h2.down (look16 (prevW p) t3) (look16 (prevW p) t4) h1.down

/-- Its rule. -/
theorem wp_headT {p : BitVec 32} (hpw : p = pw c) {k : (d0 : Dev nD) → (p : BitVec 32) → k0_chk5 p → (r0 r1 : BitVec 32) → k0_chk2 d0 r0 r1 → (l0 l1 : BitVec 32) → k0_chk1 d0 l0 l1 → Pg F}
    {Kt : PUnit → sProp 𝕄} :
    iprop(ctx X W κ ∗ (T0 (F := F) c ∗ T1 (F := F) c)
        ∗ (dutyTok ER (barCell (bn 0 c)) 0 0 ∗ dutyTok ER (barCell (bn 1 c)) 0 1 ∗ dutyTok ER (barCell (bn 2 c)) 0 2)
        ∗ (give (F := F) c 0 ∗ give (F := F) c 1 ∗ give (F := F) c 2)
        ∗ atPos ER (barCell c) 0 ∅ 0 ∗ cred (tallyAt (barCell c) () 3) ∗ (∃ Ws, owes (c : Thread nD τ) (O₀ c) Ws))
      ⊢ iprop((((T0 (F := F) c ∗ T1 (F := F) c)
          ∗ (give (F := F) (rt c) 0 ∗ give (F := F) (lf c) 1 ∗ give (F := F) (pt c) 2) ∗ semVal (barCell c) 0 ∗ ow c 0)
          -∗ wpc c (k c (pw c) (chk5_pw c) (look16 (nextW (pw c)) tab0) (look16 (nextW (pw c)) tab1) (chk2_pw c)
            (look16 (prevW (pw c)) tab0) (look16 (prevW (pw c)) tab1) (chk1_pw c)) Kt)
        -∗ wpc c (headT c p k) Kt) := by
  subst hpw
  unfold headT
  iintro ⟨#Hc, ⟨H0, H1⟩, ⟨D0, D1, D2⟩, ⟨G0, G1, G2⟩, Hat, Hcr, HO⟩ Hk
  iapply (wp_assume 𝒱₀ (c : Thread nD τ) none Set.univ (chk5_pw c))
  iapply (wp_readT0 (F := F) c) $$ H0
  iintro H0
  iapply (wp_readT1 (F := F) c) $$ H1
  iintro H1
  iapply (wp_assume 𝒱₀ (c : Thread nD τ) none Set.univ (chk2_pw c))
  iapply (wp_readT0 (F := F) c) $$ H0
  iintro H0
  iapply (wp_readT1 (F := F) c) $$ H1
  iintro H1
  iapply (wp_assume 𝒱₀ (c : Thread nD τ) none Set.univ (chk1_pw c))
  iapply (wp_tell X W κ c 0 (devL_eq c) (O₀ := O₀ c) (O := dO c 0 + tallyAt (barCell (pt c)) () 1 + tallyAt (barCell (rt c)) () 1) rfl) $$ [D0 G0 HO]
  · isplitr; · iexact Hc
    isplitl [D0]; · iexact D0
    isplitl [G0]; · iexact G0
    iexact HO
  iintro HO
  iapply (wp_tell X W κ c 1 (devR_eq c) (O := dO c 0 + tallyAt (barCell (pt c)) () 1) rfl) $$ [D1 G1 HO]
  · isplitr; · iexact Hc
    isplitl [D1]; · iexact D1
    isplitl [G1]; · iexact G1
    iexact HO
  iintro HO
  iapply (wp_tell X W κ c 2 (devQ_eq c) (O := dO c 0) rfl) $$ [D2 G2 HO]
  · isplitr; · iexact Hc
    isplitl [D2]; · iexact D2
    isplitl [G2]; · iexact G2
    iexact HO
  iintro HO
  iapply (wp_bar X W κ c) $$ [Hat Hcr HO]
  · isplitr; · iexact Hc
    isplitl [Hat]; · iexact Hat
    isplitl [Hcr]; · iexact Hcr
    unfold ow
    iexact HO
  iintro ⟨G, HZ, HO⟩
  iapply Hk
  isplitl [H0 H1]
  · isplitl [H0]; · iexact H0
    iexact H1
  isplitl [G]; · iexact G
  isplitl [HZ]; · iexact HZ
  iexact HO

/-- The tables read, the neighbours told, and the barrier passed. -/
theorem wp_head {k : (d0 : Dev nD) → (p : BitVec 32) → k0_chk5 p → (r0 r1 : BitVec 32) → k0_chk2 d0 r0 r1 → (l0 l1 : BitVec 32) → k0_chk1 d0 l0 l1 → Pg F}
    {Kt : PUnit → sProp 𝕄} :
    iprop(ctx X W κ ∗ (T0 (F := F) c ∗ T1 (F := F) c ∗ T2 (F := F) c)
        ∗ (dutyTok ER (barCell (bn 0 c)) 0 0 ∗ dutyTok ER (barCell (bn 1 c)) 0 1 ∗ dutyTok ER (barCell (bn 2 c)) 0 2)
        ∗ (give (F := F) c 0 ∗ give (F := F) c 1 ∗ give (F := F) c 2)
        ∗ atPos ER (barCell c) 0 ∅ 0 ∗ cred (tallyAt (barCell c) () 3) ∗ (∃ Ws, owes (c : Thread nD τ) (O₀ c) Ws))
      ⊢ iprop((((T0 (F := F) c ∗ T1 (F := F) c ∗ T2 (F := F) c)
          ∗ (give (F := F) (rt c) 0 ∗ give (F := F) (lf c) 1 ∗ give (F := F) (pt c) 2) ∗ semVal (barCell c) 0 ∗ ow c 0)
          -∗ wpc c (k c (pw c) (chk5_pw c) (look16 (nextW (pw c)) tab0) (look16 (nextW (pw c)) tab1) (chk2_pw c)
            (look16 (prevW (pw c)) tab0) (look16 (prevW (pw c)) tab1) (chk1_pw c)) Kt)
        -∗ wpc c (headB tbuf0 tbuf1 tbuf2 k) Kt) := by
  rw [show headB tbuf0 tbuf1 tbuf2 k = .op .deviceId (fun d0 =>
    .op (.load tbuf2 (Rect.unit (s := S1x32) ![0, 0] S1x32.size inb_S1x32_S1x32_0_0).toLoadRect (View.loadsAt_vmem h_S1x32)) fun (v5 : Vec F S1x32 .i32) =>
      headT d0 (look32 (wordOf d0) v5) k) from rfl]
  iintro ⟨#Hc, ⟨H0, H1, H2⟩, HR⟩ Hk
  iapply (wp_dev (F := F) c)
  iapply (wp_load 𝒱₀ (c : Thread nD τ) none Set.univ (m := tbuf2) (q := fullShare) (f := (tab2 : Vec F S1x32 .i32)) (S := Finset.univ) (Finset.subset_univ _)) $$ H2
  iintro H2
  rw [read_t2]
  have hpw := look_pos c
  iapply (wp_headT X W κ c (p := look32 (wordOf c) tab2) hpw) $$ [H0 H1 HR]
  · isplitr; · iexact Hc
    isplitl [H0 H1]
    · isplitl [H0]; · iexact H0
      iexact H1
    iexact HR
  iintro ⟨⟨H0, H1⟩, HR⟩
  iapply Hk
  isplitl [H0 H1 H2]
  · isplitl [H0]; · iexact H0
    isplitl [H1]; · iexact H1
    iexact H2
  iexact HR

/-! ## The partner's buffer in chunks -/

theorem set_mP (d : Fin 2) (s : Fin 4) : (mP d s).view.set = (rP d s).set.map pbuf.view.emb := by
  rw [← View.set_slice]; exact View.set_reshape _ _

theorem mem_rP {d : Fin 2} {s : Fin 4} {x : S2x128x1024.Idx} : x ∈ (rP d s).set ↔ (x 0).val = d.val ∧ 256 * s.val ≤ (x 2).val ∧ (x 2).val < 256 * s.val + 256 := by
  rw [Rect.mem_set_unit]
  have h1 : (x 1).val < 128 := (x 1).isLt
  constructor
  · intro h
    have h0 : d.val ≤ (x 0).val ∧ (x 0).val < d.val + 1 := h 0
    have h2 : 256 * s.val ≤ (x 2).val ∧ (x 2).val < 256 * s.val + 256 := h 2
    omega
  · rintro ⟨h0, h2, h3⟩ a
    match a with
    | ⟨0, _⟩ => exact show d.val ≤ (x 0).val ∧ (x 0).val < d.val + 1 by omega
    | ⟨1, _⟩ => exact show 0 ≤ (x 1).val ∧ (x 1).val < 0 + 128 by omega
    | ⟨2, _⟩ => exact show 256 * s.val ≤ (x 2).val ∧ (x 2).val < 256 * s.val + 256 from ⟨h2, h3⟩

theorem disj_P {t t' : Fin 2 × Fin 4} (ht : t ≠ t') : Disjoint (mP t.1 t.2).view.set (mP t'.1 t'.2).view.set := by
  rw [set_mP, set_mP, Finset.disjoint_map, Finset.disjoint_left]
  intro x hx hx'
  rw [mem_rP] at hx hx'
  exact ht (Prod.ext (Fin.ext (by omega)) (Fin.ext (by omega)))

theorem cover_P : pbuf.view.set = Finset.univ.biUnion fun t : Fin 2 × Fin 4 => (mP t.1 t.2).view.set := by
  ext i
  constructor
  · intro hi
    obtain ⟨x, -, hx⟩ := Finset.mem_map.mp (show i ∈ Finset.univ.map pbuf.view.emb from hi)
    have h0 : (x 0).val < 2 := (x 0).isLt
    have h2 : (x 2).val < 1024 := (x 2).isLt
    refine Finset.mem_biUnion.mpr ⟨(⟨(x 0).val, h0⟩, ⟨(x 2).val / 256, by omega⟩), Finset.mem_univ _, ?_⟩
    rw [set_mP]
    exact Finset.mem_map.mpr ⟨x, mem_rP.mpr ⟨rfl, by show 256 * ((x 2).val / 256) ≤ _; omega, by show _ < 256 * ((x 2).val / 256) + 256; omega⟩, hx⟩
  · intro hi
    obtain ⟨t, -, ht⟩ := Finset.mem_biUnion.mp hi
    rw [set_mP] at ht
    obtain ⟨x, -, hx⟩ := Finset.mem_map.mp ht
    exact Finset.mem_map.mpr ⟨x, Finset.mem_univ _, hx⟩

theorem split_P (f : pbuf.view.ty.Contents (Elt F)) :
    (pbuf.view.loc (c : Thread nD τ) ↦[pbuf.view.set]{fullShare} f : sProp 𝕄) ⊢ bigSep Finset.univ fun t : Fin 2 × Fin 4 => anyAt c (mP t.1 t.2) := by
  rw [cover_P, pointsTo_biUnion Finset.univ _ (fun t _ t' _ h => disj_P h)]
  exact bigSep_mono fun t _ => pts_any c (mP t.1 t.2) f

theorem join_P : (bigSep Finset.univ fun t : Fin 2 × Fin 4 => anyAt c (mP t.1 t.2) : sProp 𝕄)
      ⊢ iprop(∃ f, pbuf.view.loc (c : Thread nD τ) ↦[pbuf.view.set]{fullShare} f) := by
  refine (bigSep_mono fun (t : Fin 2 × Fin 4) _ => any_pts (F := F) c (mP t.1 t.2)).trans ?_
  haveI : ∀ t : Fin 2 × Fin 4, Nonempty ((mP t.1 t.2).view.ty.Contents (Elt F)) := fun t => ⟨fun _ => default⟩
  refine (bigSep_exists_pi (M := 𝕄) Finset.univ fun (t : Fin 2 × Fin 4) (f : (mP t.1 t.2).view.ty.Contents (Elt F)) =>
    ((mP t.1 t.2).view.loc (c : Thread nD τ) ↦[(mP t.1 t.2).view.set]{fullShare} f : sProp 𝕄)).trans ?_
  iintro ⟨%fs, H⟩
  ihave H := (pointsTo_biUnion_join (ℓ := pbuf.view.loc (c : Thread nD τ)) Finset.univ (fun t : Fin 2 × Fin 4 => (mP t.1 t.2).view.set) fs (fs (0, 0))
    (fun t _ t' _ h => disj_P h)) $$ H
  icases H with ⟨%g, -, H⟩
  rw [← cover_P]
  iexists g; iexact H

end
end Cert.Proof.Ring
-- ==== Proof.Deal.lean ====
module

public import proofs.«01_k».proof.Proof.Local

/-! # What the body is dealt, and what it gathers

The landing places a device hands out at the barrier, the kits of its copies put together from what it gets back,
and its buffers put together again at the end. -/
@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

attribute [local irreducible] look16 look32 nextW prevW wordOf

variable {F : FTy → Type} [FloatOps F]

local notation "𝕄" => MT nD τ sig Unit (Elt F) ℕ UU ℕ

section
variable {M : Type} [URA M]

theorem sep_swap4 (a b c d : sProp M) : iprop((a ∗ b) ∗ (c ∗ d)) = iprop(b ∗ d ∗ (a ∗ c)) := by
  refine Entails.antisymm ?_ ?_
  · show iprop((a ∗ b) ∗ (c ∗ d)) ⊢ iprop(b ∗ d ∗ (a ∗ c))
    iintro ⟨⟨Ha, Hb⟩, Hc, Hd⟩
    isplitl [Hb]; · iexact Hb
    isplitl [Hd]; · iexact Hd
    isplitl [Ha]; · iexact Ha
    iexact Hc
  · show iprop(b ∗ d ∗ (a ∗ c)) ⊢ iprop((a ∗ b) ∗ (c ∗ d))
    iintro ⟨Hb, Hd, Ha, Hc⟩
    isplitl [Ha Hb]
    · isplitl [Ha]; · iexact Ha
      iexact Hb
    isplitl [Hc]; · iexact Hc
    iexact Hd

/-- The chunks of all slots: those of the last, those of the others. -/
theorem deal_slots (Φ : Fin 16 × Fin 4 → sProp M) :
    bigSep Finset.univ Φ = iprop((bigSep Finset.univ fun s : Fin 4 => Φ (15, s)) ∗ bigSep Finset.univ fun hs : Fin 15 × Fin 4 => Φ (cur hs.1, hs.2)) := by
  rw [bigSep_univ_prod, sep_last, bigSep_univ_prod (fun hs : Fin 15 × Fin 4 => Φ (cur hs.1, hs.2))]; rfl

/-- The copies by direction, the exchange apart. -/
theorem deal_dirs (Φ : J → sProp M) : bigSep Finset.univ Φ
    = iprop((bigSep Finset.univ fun hs : Fin 15 × Fin 4 => Φ (0, cur hs.1, hs.2)) ∗ (bigSep Finset.univ fun hs : Fin 15 × Fin 4 => Φ (1, cur hs.1, hs.2))
        ∗ bigSep Finset.univ fun ds : Fin 2 × Fin 4 => Φ (ds.1, 15, ds.2)) := by
  rw [bigSep_univ_prod, bigSep_fin_two, deal_slots (fun t : Fin 16 × Fin 4 => Φ (0, t)), deal_slots (fun t : Fin 16 × Fin 4 => Φ (1, t)),
    bigSep_univ_prod (fun ds : Fin 2 × Fin 4 => Φ (ds.1, 15, ds.2)), bigSep_fin_two]
  exact sep_swap4 _ _ _ _

/-- The slots one back, in order. -/
def prvEquiv : Fin 16 ≃ Fin 16 where
  toFun h := prv16 h
  invFun h := ⟨(h.val + 1) % 16, Nat.mod_lt _ (by decide)⟩
  left_inv := by decide
  right_inv := by decide

/-- Both buffers' chunks: those of the slot the last hop fills, and those each hop was sent from. -/
theorem deal_back (Φ Ψ : Fin 16 × Fin 4 → sProp M) :
    iprop((bigSep Finset.univ fun s : Fin 4 => iprop(Φ (14, s) ∗ Ψ (14, s))) ∗ bigSep Finset.univ fun h : Fin 15 => bigSep Finset.univ fun s : Fin 4 => iprop(Φ (prv h, s) ∗ Ψ (prv h, s)))
      = iprop(bigSep Finset.univ Φ ∗ bigSep Finset.univ Ψ) := by
  have e : bigSep Finset.univ (fun t : Fin 16 × Fin 4 => iprop(Φ t ∗ Ψ t)) = iprop(bigSep Finset.univ Φ ∗ bigSep Finset.univ Ψ) := bigSep_sep _ _ _
  rw [← e, bigSep_univ_prod, bigSep_univ_equiv prvEquiv]
  exact (sep_last (fun h : Fin 16 => bigSep Finset.univ fun s : Fin 4 => iprop(Φ (prvEquiv h, s) ∗ Ψ (prvEquiv h, s)))).symm
end

section
variable (X : Dev nD → Vec F S4096x128 .bf16) (W : Dev nD → Vec F S128x2048 .bf16) (κ : GSem nD τ sig → ℕ) (c : Dev nD)

theorem gives_eq (e0 e1 e2 : Dev nD) (e : J → Dev nD) (h0 : ∀ (h : Fin 15) (s : Fin 4), e (0, cur h, s) = e0) (h1 : ∀ (h : Fin 15) (s : Fin 4), e (1, cur h, s) = e1)
    (h2 : ∀ (d : Fin 2) (s : Fin 4), e (d, 15, s) = e2) :
    iprop(give (F := F) e0 0 ∗ give (F := F) e1 1 ∗ give (F := F) e2 2) = bigSep Finset.univ fun j : J => give1 (F := F) (e j) j := by
  rw [deal_dirs]
  simp only [h0, h1, h2]
  rfl

/-- The kits of a device's copies, but for the landing places. -/
def kit0 (j : J) : sProp 𝕄 :=
  iprop(dutyTok ER (ccell 0 c j) 0 0 ∗ reached ER (ccell 0 c j) 0 ∗ atPos ER (ccell 0 c j) 0 ∅ 0 ∗ dutyTok ER (ccell 1 (tg j c) j) 0 0)

theorem kits_full : iprop((bigSep Finset.univ fun j : J => kit0 (F := F) c j) ∗ (give (F := F) (rt c) 0 ∗ give (F := F) (lf c) 1 ∗ give (F := F) (pt c) 2))
    ⊢ bigSep Finset.univ fun j : J => sendKit (F := F) c j := by
  rw [gives_eq (rt c) (lf c) (pt c) (fun j => tg j c) (fun h s => (tg_hop h s c).1) (fun h s => (tg_hop h s c).2) (fun d s => tg_x c d s)]
  rw [← bigSep_sep']
  refine bigSep_mono fun j _ => ?_
  unfold kit0 sendKit
  show (_ : sProp 𝕄) ⊢ _
  iintro ⟨⟨H1, H2, H3, H4⟩, H5⟩
  isplitl [H1]; · iexact H1
  isplitl [H2]; · iexact H2
  isplitl [H3]; · iexact H3
  isplitl [H4]; · iexact H4
  iexact H5

/-- A ring buffer, whole. -/
abbrev Bs (d : Fin 2) : sProp 𝕄 := iprop(∃ f, (buf d).view.loc (c : Thread nD τ) ↦[(buf d).view.set]{fullShare} f)
abbrev Ps : sProp 𝕄 := iprop(∃ f, pbuf.view.loc (c : Thread nD τ) ↦[pbuf.view.set]{fullShare} f)

/-- The buffers dealt out: the landing places to give away, and the last slots. -/
theorem deal_bufs : iprop((bigSep Finset.univ fun j : J => (reached ER (ccell 1 c j) 0 : sProp 𝕄)) ∗ Bs (F := F) c 0 ∗ Bs (F := F) c 1 ∗ Ps (F := F) c)
    ⊢ iprop((give (F := F) c 0 ∗ give (F := F) c 1 ∗ give (F := F) c 2)
      ∗ (bigSep Finset.univ fun s : Fin 4 => anyAt (F := F) c (mB 0 15 s)) ∗ (bigSep Finset.univ fun s : Fin 4 => anyAt (F := F) c (mB 1 15 s))) := by
  rw [gives_eq c c c (fun _ => c) (fun _ _ => rfl) (fun _ _ => rfl) (fun _ _ => rfl)]
  have e : (bigSep Finset.univ fun j : J => give1 (F := F) c j) = iprop((bigSep Finset.univ fun j : J => dstAny (F := F) c j) ∗ bigSep Finset.univ fun j : J => (reached ER (ccell 1 c j) 0 : sProp 𝕄)) :=
    bigSep_sep _ _ _
  rw [e, deal_dirs (fun j : J => dstAny (F := F) c j)]
  simp only [dst_hop, dst_x]
  iintro ⟨HR, ⟨%f0, H0⟩, ⟨%f1, H1⟩, ⟨%f2, H2⟩⟩
  ihave H0 := (split_buf c 0 f0) $$ H0
  ihave H1 := (split_buf c 1 f1) $$ H1
  ihave H2 := (split_P c f2) $$ H2
  ihave H0 := (Entails.of_eq (deal_slots (fun t : Fin 16 × Fin 4 => anyAt (F := F) c (mB 0 t.1 t.2)))) $$ H0
  ihave H1 := (Entails.of_eq (deal_slots (fun t : Fin 16 × Fin 4 => anyAt (F := F) c (mB 1 t.1 t.2)))) $$ H1
  icases H0 with ⟨A0, B0⟩
  icases H1 with ⟨A1, B1⟩
  isplitl [HR B0 B1 H2]
  · isplitr [HR]
    · isplitl [B0]; · iexact B0
      isplitl [B1]; · iexact B1
      iexact H2
    iexact HR
  isplitl [A0]; · iexact A0
  iexact A1

/-- The ring buffers gathered. -/
theorem gather_bufs : iprop((bigSep Finset.univ fun s : Fin 4 => iprop(anyAt (F := F) c (mO 0 s c) ∗ anyAt (F := F) c (mO 1 s c)))
      ∗ (bigSep Finset.univ fun s : Fin 4 => iprop(anyAt (F := F) c (mM 0 s c) ∗ anyAt (F := F) c (mM 1 s c)))
      ∗ (bigSep Finset.univ fun h : Fin 15 => bigSep Finset.univ fun s : Fin 4 => iprop(anyAt (F := F) c (mB 0 (prv h) s) ∗ anyAt (F := F) c (mB 1 (prv h) s))))
    ⊢ iprop(Bs (F := F) c 0 ∗ Bs (F := F) c 1) := by
  have h14 : iprop((bigSep Finset.univ fun s : Fin 4 => iprop(anyAt (F := F) c (mO 0 s c) ∗ anyAt (F := F) c (mO 1 s c)))
      ∗ (bigSep Finset.univ fun s : Fin 4 => iprop(anyAt (F := F) c (mM 0 s c) ∗ anyAt (F := F) c (mM 1 s c))))
      ⊢ bigSep Finset.univ fun s : Fin 4 => iprop(anyAt (F := F) c (mB 0 14 s) ∗ anyAt (F := F) c (mB 1 14 s)) := by
    rw [← bigSep_sep']
    refine bigSep_mono fun s _ => ?_
    show (_ : sProp 𝕄) ⊢ _
    iintro ⟨⟨O0, O1⟩, M0, M1⟩
    isplitl [O0 M0]
    · iapply (join_half (F := F) c 0 s); isplitl [O0]; · iexact O0
      iexact M0
    · iapply (join_half (F := F) c 1 s); isplitl [O1]; · iexact O1
      iexact M1
  iintro ⟨HO, HM, HB⟩
  ihave HA := h14 $$ [HO HM]
  · isplitl [HO]; · iexact HO
    iexact HM
  ihave HH := (Entails.of_eq (deal_back (fun t : Fin 16 × Fin 4 => anyAt (F := F) c (mB 0 t.1 t.2)) (fun t => anyAt (F := F) c (mB 1 t.1 t.2)))) $$ [HA HB]
  · isplitl [HA]; · iexact HA
    iexact HB
  icases HH with ⟨H0, H1⟩
  isplitl [H0]
  · iapply (join_buf (F := F) c 0); iexact H0
  · iapply (join_buf (F := F) c 1); iexact H1

theorem gather_P : (bigSep Finset.univ fun s : Fin 4 => iprop(anyAt (F := F) c (mP 0 s) ∗ anyAt (F := F) c (mP 1 s))) ⊢ Ps (F := F) c := by
  refine BIBase.Entails.trans (Entails.of_eq ?_) (join_P (F := F) c)
  rw [bigSep_univ_prod, bigSep_fin_two]
  exact bigSep_sep _ _ _

/-! ## The body -/

/-- The scratch buffers. -/
abbrev Sc : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f)
    ∗ (∃ f : Buf (Elt F) ((c : Thread nD τ).loc cc0_scratch3), (c : Thread nD τ).loc cc0_scratch3 ↦{fullShare} f)
    ∗ (∃ f : Buf (Elt F) ((c : Thread nD τ).loc cc0_scratch4), (c : Thread nD τ).loc cc0_scratch4 ↦{fullShare} f))

theorem Bs0_eq : Bs (F := F) c 0 = iprop(∃ f : Buf (Elt F) ((c : Thread nD τ).loc cc0_scratch2), (c : Thread nD τ).loc cc0_scratch2 ↦{fullShare} f) := by
  unfold Bs; rw [show (buf 0).view.set = Finset.univ from View.set_whole cc0_scratch2]; rfl
theorem Bs1_eq : Bs (F := F) c 1 = iprop(∃ f : Buf (Elt F) ((c : Thread nD τ).loc cc0_scratch3), (c : Thread nD τ).loc cc0_scratch3 ↦{fullShare} f) := by
  unfold Bs; rw [show (buf 1).view.set = Finset.univ from View.set_whole cc0_scratch3]; rfl
theorem Ps_eq : Ps (F := F) c = iprop(∃ f : Buf (Elt F) ((c : Thread nD τ).loc cc0_scratch4), (c : Thread nD τ).loc cc0_scratch4 ↦{fullShare} f) := by
  unfold Ps; rw [show pbuf.view.set = Finset.univ from View.set_whole cc0_scratch4]

/-- What the body starts from besides its buffers: its place at the barrier and its part in the barriers around it, the kits
of its copies and arrivals, and the records of the semaphores. -/
def start : sProp 𝕄 :=
  iprop(ctx X W κ ∗ (dutyTok ER (barCell (bn 0 c)) 0 0 ∗ dutyTok ER (barCell (bn 1 c)) 0 1 ∗ dutyTok ER (barCell (bn 2 c)) 0 2)
    ∗ atPos ER (barCell c) 0 ∅ 0 ∗ cred (tallyAt (barCell c) () 3)
    ∗ (bigSep Finset.univ fun j : J => kit0 (F := F) c j) ∗ (bigSep Finset.univ fun j : J => recvKit (F := F) c j)
    ∗ (bigSep Finset.univ fun j : J => (reached ER (ccell 1 c j) 0 : sProp 𝕄)))

/-- The staged inputs. -/
def ins : sProp 𝕄 := iprop(Xs X c ∗ Vs W c ∗ T0 (F := F) c ∗ T1 (F := F) c ∗ T2 (F := F) c)

/-- The body, at any device: every semaphore closed, nothing owed, the scratch back, and the result in place. -/
theorem wp_body {f : S128x2048.Idx → Elt F .f32} {Kt : PUnit → sProp 𝕄} :
    iprop(start X W κ c ∗ ins X W c ∗ Sc (F := F) c ∗ ((c : Thread nD τ).loc cc0_stg5_0 ↦{fullShare} f) ∗ (∃ Ws, owes (c : Thread nD τ) (O₀ c) Ws))
      ⊢ iprop(((semVal (barCell c) 0 ∗ (bigSep Finset.univ fun j : J => zero (F := F) c 0 j) ∗ (bigSep Finset.univ fun j : J => zero (F := F) c 1 j)
            ∗ ins X W c ∗ Sc (F := F) c ∗ ((c : Thread nD τ).loc cc0_stg5_0 ↦{fullShare} outB X W c) ∗ ow c 128) -∗ Kt ⟨⟩)
        -∗ wpc c (body xbuf vbuf tbuf0 tbuf1 tbuf2 obuf) Kt) := by
  unfold start ins Sc
  rw [← Bs0_eq, ← Bs1_eq, ← Ps_eq]
  iintro ⟨⟨#Hc, HD, Hat, Hcr, HK, HR, Hre⟩, ⟨HX, HV, HT0, HT1, HT2⟩, ⟨⟨%f0, S0⟩, ⟨%f1, S1⟩, S2, S3, S4⟩, Hf, HO⟩ Hk
  ihave HG := (deal_bufs (F := F) c) $$ [Hre S2 S3 S4]
  · isplitl [Hre]; · iexact Hre
    isplitl [S2]; · iexact S2
    isplitl [S3]; · iexact S3
    iexact S4
  icases HG with ⟨HG, A0, A1⟩
  unfold body
  iapply (wp_head X W κ c) $$ [HT0 HT1 HT2 HD HG Hat Hcr HO]
  · isplitr; · iexact Hc
    isplitl [HT0 HT1 HT2]
    · isplitl [HT0]; · iexact HT0
      isplitl [HT1]; · iexact HT1
      iexact HT2
    isplitl [HD]; · iexact HD
    isplitl [HG]; · iexact HG
    isplitl [Hat]; · iexact Hat
    isplitl [Hcr]; · iexact Hcr
    iexact HO
  iintro ⟨⟨HT0, HT1, HT2⟩, HG, HZ, HO⟩
  ihave HK := (kits_full (F := F) c) $$ [HK HG]
  · isplitl [HK]; · iexact HK
    iexact HG
  ihave HK := (Entails.of_eq (deal_first (fun j : J => sendKit (F := F) c j))) $$ HK
  ihave HR := (Entails.of_eq (deal_last (fun j : J => recvKit (F := F) c j))) $$ HR
  icases HK with ⟨KX, K0, KS⟩
  icases HR with ⟨RX, R14, RS⟩
  unfold mainB
  iapply (wp_first X W c rfl) $$ [HX HV HT0 S0 A0 A1]
  · isplitl [HX]; · iexact HX
    isplitl [HV]; · iexact HV
    isplitl [HT0]; · iexact HT0
    isplitl [S0]; · iexact S0
    isplitl [A0]; · iexact A0
    iexact A1
  iintro ⟨HX, HV, HT0, HW, V0, V1⟩
  iapply (wp_firstSends X W κ c (devR_eq c) (devL_eq c)) $$ [K0 V0 V1 HO]
  · isplitr; · iexact Hc
    isplitl [K0 V0 V1]
    · isplitl [K0]; · iexact K0
      isplitl [V0]; · iexact V0
      iexact V1
    iexact HO
  iintro ⟨B0, HO⟩
  iapply (wp_prods X W κ c) $$ [HX HW S1]
  · isplitr; · iexact Hc
    isplitr; · iempintro
    isplitl [HX]; · iexact HX
    isplitl [HW]; · iexact HW
    iexact S1
  iintro ⟨HX, HW, HQ⟩
  iapply (wp_hops X W κ c (chk5_pw c) rfl (devR_eq c) (devL_eq c)) $$ [RS KS HO HQ]
  · isplitr; · iexact Hc
    isplitl [RS KS]
    · isplitl [RS]; · iexact RS
      iexact KS
    isplitl [HO]; · iexact HO
    iexact HQ
  iintro ⟨⟨ZS, BS⟩, HO, HQ⟩
  iapply (wp_last X W κ c (chk5_pw c) rfl (devQ_eq c)) $$ [R14 KX HO HQ]
  · isplitr; · iexact Hc
    isplitl [R14 KX]
    · isplitl [R14]; · iexact R14
      iexact KX
    isplitl [HO]; · iexact HO
    iexact HQ
  iintro ⟨⟨Z14, BX, MM⟩, HO, HQ⟩
  iapply (wp_fins X W κ c) $$ [RX MM HO Hf]
  · isplitr; · iexact Hc
    isplitl [RX MM]
    · isplitl [RX]; · iexact RX
      iexact MM
    isplitl [HO]; · iexact HO
    iexact Hf
  iintro ⟨⟨PP, MM, ZX⟩, HO, Hf⟩
  iapply (wp_backs X W κ c) $$ [B0 BS HO]
  · isplitr; · iexact Hc
    isplitl [B0 BS]
    · iapply (Entails.of_eq (sep_first (n := 14) (fun h : Fin 15 => hopOf (backKit (F := F) c) (cur h))).symm)
      isplitl [B0]; · iexact B0
      iexact BS
    iexact HO
  iintro ⟨Y0, AA, HO⟩
  iapply (wp_backXs X W κ c) $$ [BX HO]
  · isplitr; · iexact Hc
    isplitl [BX]; · iexact BX
    iexact HO
  iintro ⟨YX, OO, HO⟩
  unfold wpc
  rw [wp_ret]
  imodintro
  iapply Hk
  ihave HB := (gather_bufs (F := F) c) $$ [OO MM AA]
  · isplitl [OO]; · iexact OO
    isplitl [MM]; · iexact MM
    iexact AA
  icases HB with ⟨S2, S3⟩
  ihave S4 := (gather_P (F := F) c) $$ PP
  isplitl [HZ]; · iexact HZ
  isplitl [Y0 YX]
  · iapply (Entails.of_eq (deal_x (fun j : J => zero (F := F) c 0 j)).symm)
    isplitl [YX]; · iexact YX
    iexact Y0
  isplitl [ZS Z14 ZX]
  · iapply (Entails.of_eq (deal_last (fun j : J => zero (F := F) c 1 j)).symm)
    isplitl [ZX]; · iexact ZX
    isplitl [Z14]; · iexact Z14
    iexact ZS
  isplitl [HX HV HT0 HT1 HT2]
  · isplitl [HX]; · iexact HX
    isplitl [HV]; · iexact HV
    isplitl [HT0]; · iexact HT0
    isplitl [HT1]; · iexact HT1
    iexact HT2
  isplitl [HW HQ S2 S3 S4]
  · isplitl [HW]; · iexists _; iexact HW
    isplitl [HQ]; · iexists _; iexact HQ
    isplitl [S2]; · iexact S2
    isplitl [S3]; · iexact S3
    iexact S4
  isplitl [Hf]; · iexact Hf
  iexact HO

end
end Cert.Proof.Ring
-- ==== Proof.Region.lean ====
module

public import proofs.«01_k».proof.Proof.Deal
public import proofs.«01_k».proof.Proof.Gen.KernelIdeal.Frame

/-! # The kernel's call

What its arrays hold on entry and exit, and its body as the call runs it. -/
@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

attribute [local irreducible] look16 look32 nextW prevW wordOf

variable {F : FTy → Type} [FloatOps F]

local notation "𝕄" => MT nD τ sig Unit (Elt F) ℕ UU ℕ

variable (m : (ℓ : Loc nD τ sig) → Buf (Elt F) ℓ)

/-- The activations and the weights a device starts with. -/
def Xm (c : Dev nD) : Vec F S4096x128 .bf16 := m ((c : Thread nD τ).loc main_arg0)
def Wm (c : Dev nD) : Vec F S128x2048 .bf16 := m ((c : Thread nD τ).loc main_arg1)
/-- The result. -/
abbrev Om (c : Dev nD) : S128x2048.Idx → Elt F .f32 := outB (Xm m) (Wm m) c

/-! ## The arrays -/

/-- What a device's arrays hold before the call, and after. -/
def V₁ (c : Dev nD) : Valuation τ sig (Elt F) := StableHlo.after hostOps0 (fun b => m (c, b))
def V₂ (c : Dev nD) : Valuation τ sig (Elt F) := Function.update (V₁ m c) (Proc.devRef .tc main_v1) (Om m c)

theorem V₁_x (c : Dev nD) : V₁ m c (Proc.devRef .tc main_arg0) = Xm m c := V_main_arg0 m c
theorem V₁_w (c : Dev nD) : V₁ m c (Proc.devRef .tc main_arg1) = Wm m c := V_main_arg1 m c
theorem V₁_c (c : Dev nD) : V₁ m c (Proc.devRef .tc main_c) = (tab0 : Vec F S1x16 .i32) := by
  unfold V₁ hostOps0
  rw [StableHlo.after_cons, StableHlo.after_cons, StableHlo.after_cons, StableHlo.after_nil, StableHlo.nullary_result_ne _ _ _ _ (by decide),
    StableHlo.nullary_result_ne _ _ _ _ (by decide), StableHlo.nullary_result]
  rfl
theorem V₁_c0 (c : Dev nD) : V₁ m c (Proc.devRef .tc main_c_0) = (tab1 : Vec F S1x16 .i32) := by
  unfold V₁ hostOps0
  rw [StableHlo.after_cons, StableHlo.after_cons, StableHlo.after_cons, StableHlo.after_nil, StableHlo.nullary_result_ne _ _ _ _ (by decide),
    StableHlo.nullary_result]
  rfl
theorem V₁_c1 (c : Dev nD) : V₁ m c (Proc.devRef .tc main_c_1) = (tab2 : Vec F S1x32 .i32) := by
  unfold V₁ hostOps0
  rw [StableHlo.after_cons, StableHlo.after_cons, StableHlo.after_cons, StableHlo.after_nil, StableHlo.nullary_result]
  rfl

theorem V₂_out (c : Dev nD) : V₂ m c (Proc.devRef .tc main_v1) = Om m c := Function.update_self ..
theorem V₂_x (c : Dev nD) : V₂ m c (Proc.devRef .tc main_arg0) = Xm m c :=
  (Function.update_of_ne (StableHlo.devRef_ne_of_ne (by decide)) ..).trans (V₁_x m c)
theorem V₂_w (c : Dev nD) : V₂ m c (Proc.devRef .tc main_arg1) = Wm m c :=
  (Function.update_of_ne (StableHlo.devRef_ne_of_ne (by decide)) ..).trans (V₁_w m c)

/-! ## The call's data -/

/-- What goes into the body besides its buffers, and what comes out. -/
def Xk (c : Dev nD) : sProp 𝕄 := iprop(∃ κ, start (Xm m) (Wm m) κ c)
def zeros (c : Dev nD) : sProp 𝕄 :=
  iprop((bigSep Finset.univ fun j : J => zero (F := F) c 0 j) ∗ (bigSep Finset.univ fun j : J => zero (F := F) c 1 j))

def dat0 (c : Dev nD) : Dat τ (Elt F) Unit ℕ UU ℕ cfg0 c where
  A w := V₁ m c (Proc.devRef .tc (Pipeline.arrRef spec0 w))
  after w _ := match w with
    | 0 => Xm m c
    | 1 => Wm m c
    | 2 => (tab0 : Vec F S1x16 .i32)
    | 3 => (tab1 : Vec F S1x16 .i32)
    | 4 => (tab2 : Vec F S1x32 .i32)
    | 5 => Om m c
    | ⟨_ + 6, h⟩ => absurd h (Nat.not_lt.2 (Nat.le_add_left _ _))
  Φ t := if t.val = 0 then iprop(Xk m c ∗ Sc (F := F) c ∗ ∃ r, prngReg c r)
    else iprop((semVal (barCell c) 0 ∗ zeros (F := F) c) ∗ Sc (F := F) c ∗ ∃ r, prngReg c r)
  q _ := fullShare
  owed t := if t.val = 0 then O₀ c else 0

/-- A staged input holds its whole array. -/
theorem before_at (c : Dev nD) (w : Fin 6) (hf : (cfg0.win w).fetch t0_0 = true) (d) (j : ((cfg0.win w).xblock (cfg0.grid.coords t0_0)).Idx) :
    (dat0 m c).before w t0_0 d ((cfg0.win w).xinj (cfg0.grid.coords t0_0) j)
      = ((cfg0.win w).blk t0_0).view.read (Elt F) ((dat0 m c).A w) j := by
  rw [(dat0 m c).before_fetched w t0_0 hf d]
  exact (cfg0.win w).fill_xinj _ _ _ _
theorem before_0 (c : Dev nD) (d) : (dat0 m c).before 0 t0_0 d = Xm m c := by
  funext j
  refine (before_at m c 0 (fetch0_0 _) d j).trans ?_
  refine Eq.trans (b := V₁ m c (Proc.devRef .tc main_arg0) j) (congrArg (V₁ m c (Proc.devRef .tc main_arg0)) (funext fun a => Fin.ext ?_)) (congrFun (V₁_x m c) j)
  exact Pipeline.Window.rect_emb_val_of_index_zero (cfg0.win 0) t0_0 a rfl j
theorem before_1 (c : Dev nD) (d) : (dat0 m c).before 1 t0_0 d = Wm m c := by
  funext j
  refine (before_at m c 1 (fetch0_1 _) d j).trans ?_
  refine Eq.trans (b := V₁ m c (Proc.devRef .tc main_arg1) j) (congrArg (V₁ m c (Proc.devRef .tc main_arg1)) (funext fun a => Fin.ext ?_)) (congrFun (V₁_w m c) j)
  exact Pipeline.Window.rect_emb_val_of_index_zero (cfg0.win 1) t0_0 a rfl j
theorem before_2 (c : Dev nD) (d) : (dat0 m c).before 2 t0_0 d = (tab0 : Vec F S1x16 .i32) := by
  funext j
  refine (before_at m c 2 (fetch0_2 _) d j).trans ?_
  refine Eq.trans (b := V₁ m c (Proc.devRef .tc main_c) j) (congrArg (V₁ m c (Proc.devRef .tc main_c)) (funext fun a => Fin.ext ?_)) (congrFun (V₁_c m c) j)
  exact Pipeline.Window.rect_emb_val_of_index_zero (cfg0.win 2) t0_0 a rfl j
theorem before_3 (c : Dev nD) (d) : (dat0 m c).before 3 t0_0 d = (tab1 : Vec F S1x16 .i32) := by
  funext j
  refine (before_at m c 3 (fetch0_3 _) d j).trans ?_
  refine Eq.trans (b := V₁ m c (Proc.devRef .tc main_c_0) j) (congrArg (V₁ m c (Proc.devRef .tc main_c_0)) (funext fun a => Fin.ext ?_)) (congrFun (V₁_c0 m c) j)
  exact Pipeline.Window.rect_emb_val_of_index_zero (cfg0.win 3) t0_0 a rfl j
theorem before_4 (c : Dev nD) (d) : (dat0 m c).before 4 t0_0 d = (tab2 : Vec F S1x32 .i32) := by
  funext j
  refine (before_at m c 4 (fetch0_4 _) d j).trans ?_
  refine Eq.trans (b := V₁ m c (Proc.devRef .tc main_c_1) j) (congrArg (V₁ m c (Proc.devRef .tc main_c_1)) (funext fun a => Fin.ext ?_)) (congrFun (V₁_c1 m c) j)
  exact Pipeline.Window.rect_emb_val_of_index_zero (cfg0.win 4) t0_0 a rfl j

/-! ## What is owed -/

theorem owes_in {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ := by first | rfl | skip) :
    (iprop(∃ Ws, owes (c : Thread nD τ) O Ws) : sProp 𝕄) ⊢ (dat.owesAt () t : sProp 𝕄) := by
  unfold Dat.owesAt Pipeline.owesWithin Dat.bound
  rw [h0, hr]
  iintro ⟨%Ws, HO⟩
  iexists Ws
  isplitr
  · ipureintro; exact fun _ _ => Or.inl trivial
  iexact HO
theorem owes_out {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ Ws, owes (c : Thread nD τ) O Ws) := by
  unfold Dat.owesAt Pipeline.owesWithin
  rw [h0]
  iintro ⟨%Ws, -, HO⟩
  iexists Ws
  iexact HO

theorem owed_first (c : Dev nD) : (dat0 (F := F) m c).owed t0_0.castSucc = O₀ c := by
  show (if (t0_0.castSucc : Fin (cfg0.N + 1)).val = 0 then O₀ c else 0) = O₀ c
  exact if_pos rfl
theorem owed_last (c : Dev nD) : (dat0 (F := F) m c).owed t0_0.succ = 0 := by
  show (if (t0_0.succ : Fin (cfg0.N + 1)).val = 0 then O₀ c else 0) = 0
  exact if_neg (Nat.succ_ne_zero _)

/-! ## The body as the call runs it -/

theorem called : (defs₀ (F := F) .tc cfg0.body (cfg0.bodyArgs t0_0 (cfg0.slots t0_0)) : Pg F) = body xbuf vbuf tbuf0 tbuf1 tbuf2 obuf :=
  body_eq (h0 := hstage0_0 0) (h1 := hstage0_1 0) (h2 := hstage0_2 0) (h3 := hstage0_3 0) (h4 := hstage0_4 0) (h5 := hstage0_5 0)

theorem body0 (c : Dev nD) : BodyObligation (dat0 (F := F) m c) defs₀ 𝒱₀ () Set.univ := fun t => by
  obtain rfl := fin_N0 t
  rw [bigSep_W0, bigSep_W0]
  rw [show (dat0 m c).Φ t0_0.castSucc = iprop(Xk m c ∗ Sc (F := F) c ∗ ∃ r, prngReg c r) from rfl,
    show (dat0 m c).Φ t0_0.succ = iprop((semVal (barCell c) 0 ∗ zeros (F := F) c) ∗ Sc (F := F) c ∗ ∃ r, prngReg c r) from rfl]
  simp only [before_0, before_1, before_2, before_3, before_4]
  unfold Xk
  rw [called]
  iintro ⟨⟨⟨%κ, HS⟩, HSc, Hreg⟩, HO, ⟨%d0, H0⟩, ⟨%d1, H1⟩, ⟨%d2, H2⟩, ⟨%d3, H3⟩, ⟨%d4, H4⟩, ⟨%d5, H5⟩⟩
  ihave HO' := (owes_out (dat0 m c) _ (O₀ c) (owed_first m c)) $$ HO
  iapply (wp_body (Xm m) (Wm m) κ c (f := (dat0 m c).before 5 t0_0 d5)) $$ [HS HSc HO' H0 H1 H2 H3 H4 H5]
  · unfold ins
    isplitl [HS]; · iexact HS
    isplitl [H0 H1 H2 H3 H4]
    · isplitl [H0]; · iapply (Entails.of_eq (owns_whole (c : Thread nD τ) cc0_stg0_0 fullShare (Xm m c))) $$ H0
      isplitl [H1]; · iapply (Entails.of_eq (owns_whole (c : Thread nD τ) cc0_stg1_0 fullShare (Wm m c))) $$ H1
      isplitl [H2]; · iapply (Entails.of_eq (owns_whole (c : Thread nD τ) cc0_stg2_0 fullShare (tab0 : Vec F S1x16 .i32))) $$ H2
      isplitl [H3]; · iapply (Entails.of_eq (owns_whole (c : Thread nD τ) cc0_stg3_0 fullShare (tab1 : Vec F S1x16 .i32))) $$ H3
      iapply (Entails.of_eq (owns_whole (c : Thread nD τ) cc0_stg4_0 fullShare (tab2 : Vec F S1x32 .i32))) $$ H4
    isplitl [HSc]; · iexact HSc
    isplitl [H5]; · iapply (Entails.of_eq (owns_whole (c : Thread nD τ) cc0_stg5_0 fullShare _)) $$ H5
    iexact HO'
  unfold ins ow
  iintro ⟨Hb, Hz0, Hz1, ⟨H0, H1, H2, H3, H4⟩, HSc, H5, HO⟩
  isplitl [Hb Hz0 Hz1 HSc Hreg]
  · isplitl [Hb Hz0 Hz1]
    · isplitl [Hb]; · iexact Hb
      unfold zeros
      isplitl [Hz0]; · iexact Hz0
      iexact Hz1
    isplitl [HSc]; · iexact HSc
    iexact Hreg
  isplitl [HO]
  · iapply (owes_in (dat0 m c) t0_0.succ (dO c 128) ((owed_last m c).trans (dO_end c 128 (Nat.le_refl _)).symm)); iexact HO
  isplitl [H0]; · iapply (Entails.of_eq (owns_whole (c : Thread nD τ) cc0_stg0_0 fullShare (Xm m c)).symm) $$ H0
  isplitl [H1]; · iapply (Entails.of_eq (owns_whole (c : Thread nD τ) cc0_stg1_0 fullShare (Wm m c)).symm) $$ H1
  isplitl [H2]; · iapply (Entails.of_eq (owns_whole (c : Thread nD τ) cc0_stg2_0 fullShare (tab0 : Vec F S1x16 .i32)).symm) $$ H2
  isplitl [H3]; · iapply (Entails.of_eq (owns_whole (c : Thread nD τ) cc0_stg3_0 fullShare (tab1 : Vec F S1x16 .i32)).symm) $$ H3
  isplitl [H4]; · iapply (Entails.of_eq (owns_whole (c : Thread nD τ) cc0_stg4_0 fullShare (tab2 : Vec F S1x32 .i32)).symm) $$ H4
  iapply (Entails.of_eq (owns_whole (c : Thread nD τ) cc0_stg5_0 fullShare (Om m c)).symm) $$ H5

end Cert.Proof.Ring
-- ==== Proof.Launch.lean ====
module

public import proofs.«01_k».proof.Proof.Region
public import Idealize.ShloMosaic.Lib.Pipeline.RegionTalk
public import Idealize.ShloMosaic.Lib.Pipeline.ValueKit

/-! # The run

The call between its arrays, the tokens and credits dealt at the launch, and what every device holds at the end. -/
@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

attribute [local irreducible] look16 look32 nextW prevW wordOf

variable {F : FTy → Type} [FloatOps F]

local notation "𝕄" => MT nD τ sig Unit (Elt F) ℕ UU ℕ

variable (m : (ℓ : Loc nD τ sig) → Buf (Elt F) ℓ) (ρ : Dev nD → PrngReg)

/-! ## What a device is dealt -/

def toks (c : Dev nD) : sProp 𝕄 :=
  iprop((dutyTok ER (barCell (bn 0 c)) 0 0 ∗ dutyTok ER (barCell (bn 1 c)) 0 1 ∗ dutyTok ER (barCell (bn 2 c)) 0 2)
    ∗ (bigSep Finset.univ fun j : J => (dutyTok ER (ccell 0 c j) 0 0 : sProp 𝕄))
    ∗ (bigSep Finset.univ fun j : J => (dutyTok ER (ccell 1 (tg j c) j) 0 0 : sProp 𝕄)))
def creds (c : Dev nD) : sProp 𝕄 :=
  iprop(cred (tallyAt (barCell c) () 3) ∗ (bigSep Finset.univ fun j : J => (cred (tallyAt (ccell 1 c j) () (amt j)) : sProp 𝕄)))
def opens (c : Dev nD) : sProp 𝕄 := bigSep Finset.univ fun k : KK => (openTok ER ((c : Thread nD τ), osem k) : sProp 𝕄)
def linear (c : Dev nD) : sProp 𝕄 := iprop(atPos ER (barCell c) 0 ∅ 0 ∗ opens (F := F) c ∗ toks (F := F) c)
def Tk (c : Dev nD) : sProp 𝕄 := iprop(∃ κ, records (Xm m) (Wm m) κ ∗ linear (F := F) c ∗ creds (F := F) c)

theorem own_pair (c : Dev nD) : (Pipeline.ownSems0 osem c : sProp 𝕄) = zeros (F := F) c := by
  unfold Pipeline.ownSems0 zeros
  rw [bigSep_univ_prod]
  exact BI.bigSep_fin_two _

/-- A cell opened. -/
theorem open_one (κ : GSem nD τ sig → ℕ) (c : Dev nD) (k : KK) :
    iprop(records (Xm m) (Wm m) κ ∗ (openTok ER ((c : Thread nD τ), osem k) ∗ semVal ((c : Thread nD τ), osem k) 0))
      ⊢ (|={Set.univ}=> (atPos ER ((c : Thread nD τ), osem k) 0 ∅ 0 ∗ reached ER ((c : Thread nD τ), osem k) 0) : sProp 𝕄) := by
  iintro ⟨HR, HO, HV⟩
  ihave HI := (inv_copy (Xm m) (Wm m) κ k.1 c k.2) $$ HR
  iapply (Rounds.cell_open ER (Rd (Xm m) (Wm m)) (g := ((c : Thread nD τ), osem k)) (Set.mem_univ (κ (ccell k.1 c k.2))))
  isplitl [HI]; · iexact HI
  isplitl [HO]; · iexact HO
  iexact HV

theorem open_all (κ : GSem nD τ sig → ℕ) (c : Dev nD) :
    iprop(records (Xm m) (Wm m) κ ∗ opens (F := F) c ∗ Pipeline.ownSems0 osem c)
      ⊢ (|={Set.univ}=> ((bigSep Finset.univ fun k : KK => (atPos ER ((c : Thread nD τ), osem k) 0 ∅ 0 : sProp 𝕄))
        ∗ (bigSep Finset.univ fun k : KK => (reached ER ((c : Thread nD τ), osem k) 0 : sProp 𝕄))) : sProp 𝕄) := by
  unfold opens Pipeline.ownSems0
  rw [← bigSep_sep', ← bigSep_sep']
  exact (bigSep_with_persistent fun k _ => open_one m κ c k).trans (bigSep_fupd _ _)

theorem pair_up {I : Type} {s : Finset I} {Φ Ψ : I → sProp 𝕄} : iprop(bigSep s Φ ∗ bigSep s Ψ) ⊢ bigSep s fun i => iprop(Φ i ∗ Ψ i) :=
  Entails.of_eq (bigSep_sep' s Φ Ψ).symm
theorem pair_off {I : Type} {s : Finset I} {Φ Ψ : I → sProp 𝕄} : (bigSep s fun i => iprop(Φ i ∗ Ψ i)) ⊢ iprop(bigSep s Φ ∗ bigSep s Ψ) :=
  Entails.of_eq (bigSep_sep' s Φ Ψ)
theorem pair_split (Φ : KK → sProp 𝕄) : bigSep Finset.univ Φ
    ⊢ iprop((bigSep Finset.univ fun j : J => Φ (0, j)) ∗ (bigSep Finset.univ fun j : J => Φ (1, j))) :=
  Entails.of_eq ((bigSep_univ_prod _).trans (BI.bigSep_fin_two _))

/-- The call's start, from what the launch dealt. -/
theorem hopen (c : Dev nD) : iprop(Tk m c ∗ Pipeline.ownSems0 osem c ∗ levAts L lv) ⊢ (|={Set.univ}=> Xk m c : sProp 𝕄) := by
  unfold Tk Xk linear toks creds
  iintro ⟨⟨%κ, #HR, ⟨Hat, Hop, HD, HS, HT⟩, Hcr, Hcs⟩, Hos, #Hl⟩
  imod (open_all m κ c) $$ [Hop Hos] with ⟨Ha, Hr⟩
  · isplitr; · iexact HR
    isplitl [Hop]; · iexact Hop
    iexact Hos
  imodintro
  iexists κ
  ihave Ha2 := (pair_split fun k : KK => (atPos ER ((c : Thread nD τ), osem k) 0 ∅ 0 : sProp 𝕄)) $$ Ha
  ihave Hr2 := (pair_split fun k : KK => (reached ER ((c : Thread nD τ), osem k) 0 : sProp 𝕄)) $$ Hr
  icases Ha2 with ⟨Ha0, Ha1⟩
  icases Hr2 with ⟨Hr0, Hr1⟩
  unfold start ctx
  isplitr
  · isplitr; · iexact HR
    iexact Hl
  isplitl [HD]; · iexact HD
  isplitl [Hat]; · iexact Hat
  isplitl [Hcr]; · iexact Hcr
  isplitl [HS Hr0 Ha0 HT]
  · unfold kit0
    iapply pair_up; isplitl [HS]; · iexact HS
    iapply pair_up; isplitl [Hr0]; · iexact Hr0
    iapply pair_up; isplitl [Ha0]; · iexact Ha0
    iexact HT
  isplitl [Ha1 Hcs]
  · unfold recvKit
    iapply pair_up; isplitl [Ha1]; · iexact Ha1
    iexact Hcs
  iexact Hr1

/-! ## The call between its arrays -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

def Yk (c : Dev nD) : sProp 𝕄 := semVal (barCell c) 0

theorem hin0 (c : Dev nD) : iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  rw [show (pdats m 0 c).Φ 0 = iprop(Xk m c ∗ Sc (F := F) c ∗ ∃ r, prngReg c r) from rfl,
    show (Pipeline.scopedRest (Pipeline.pin (pcfgs (F := F)) adm 0).spec c : sProp 𝕄) = Sc (F := F) c from scopedRest0_eq c]
  iintro ⟨Hs, Hp, -, HX⟩
  isplitl [HX]; · iexact HX
  isplitl [Hs]; · iexact Hs
  iexact Hp

theorem hout0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk (F := F) c) := by
  rw [show (pdats m 0 c).Φ (Fin.last _) = iprop((semVal (barCell c) 0 ∗ zeros (F := F) c) ∗ Sc (F := F) c ∗ ∃ r, prngReg c r) from rfl,
    show (Pipeline.scopedRest (Pipeline.pin (pcfgs (F := F)) adm 0).spec c : sProp 𝕄) = Sc (F := F) c from scopedRest0_eq c, own_pair,
    show (StableHlo.held (c.tc : Thread nD τ) ∅ (V₂ m c) : sProp 𝕄) = BI.emp from bigSep_empty]
  unfold Yk
  iintro ⟨⟨Hb, Hz⟩, Hs, Hp⟩
  isplitl [Hs]; · iexact Hs
  isplitl [Hp]; · iexact Hp
  isplitr; · iempintro
  isplitl [Hz]; · iexact Hz
  iexact Hb

theorem O₀_pos {c : Dev nD} {g : GSem nD τ sig} {u : Unit} (h : 0 < O₀ c g u) :
    (∃ j : J, g = ccell 1 (tg j c) j) ∨ ∃ e : Dev nD, g = barCell e := by
  unfold O₀ at h
  rw [Pi.add_apply, Finsupp.add_apply, Pi.add_apply, Finsupp.add_apply, Pi.add_apply, Finsupp.add_apply] at h
  by_contra hn
  have h1 : dO c 0 g u = 0 := by
    by_contra hh
    obtain ⟨j, -, e⟩ := dO_pos (Nat.pos_of_ne_zero hh)
    exact hn (.inl ⟨j, e⟩)
  have h2 (e : Dev nD) : (tallyAt (barCell e) () 1 : CellTallies nD τ sig Unit) g u = 0 := by
    rw [tallyAt_apply]; exact if_neg fun hh => hn (.inr ⟨e, hh.1⟩)
  rw [h1, h2, h2, h2] at h
  exact absurd h (Nat.lt_irrefl 0)

theorem cut_owed (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · rcases O₀_pos h with ⟨j, rfl⟩ | ⟨e, rfl⟩
    · exact ⟨by rw [L_tc]; exact Finset.mem_singleton_self _, by rw [lv_dst]; exact Nat.succ_pos _⟩
    · exact ⟨by rw [L_tc]; exact Finset.mem_singleton_self _, by rw [lv_bar]; exact Nat.one_pos⟩
  · exact absurd h (Nat.lt_irrefl 0)

theorem lv_stage : ∀ (w : Fin 6) (s : Fin (spec0 w).nbuf), lvOf (.dma ((spec0 w).sem s)) = 0 := by decide

theorem own_facts : Pipeline.OwnSemFacts spec0 osem where
  isScoped := by decide
  inj := osem_inj
  disj := by decide

theorem arr_in (c : Dev nD) (w : Fin 6) (hw : (cfg0.win w).isOut = false) (hne : Pipeline.arrRef spec0 w ≠ main_v1) :
    (dat0 m c).arrAt w cfg0.N = V₂ m c (Proc.devRef .tc (Pipeline.arrRef spec0 w)) :=
  ((dat0 m c).arrAt_in w hw _).trans
    (show V₂ m c (Proc.devRef .tc (Pipeline.arrRef spec0 w)) = V₁ m c (Proc.devRef .tc (Pipeline.arrRef spec0 w)) from
      Function.update_of_ne (StableHlo.devRef_ne_of_ne hne) ..).symm
theorem arr_out (c : Dev nD) : (dat0 m c).arrAt 5 cfg0.N = Om m c :=
  Dat.arrAt_eq_of_after_last (dat0 m c) 5 t0_0 (by decide +kernel) _ fun j => rfl

theorem arrs_after (c : Dev nD) (w : Fin 6) : (dat0 m c).arrAt w cfg0.N = V₂ m c (Proc.devRef .tc (Pipeline.arrRef spec0 w)) := by
  fin_cases w
  · exact arr_in m c 0 rfl (by decide)
  · exact arr_in m c 1 rfl (by decide)
  · exact arr_in m c 2 rfl (by decide)
  · exact arr_in m c 3 rfl (by decide)
  · exact arr_in m c 4 rfl (by decide)
  · exact (arr_out m c).trans (V₂_out m c).symm

theorem share_full (c : Dev nD) (w : Fin 6) : (dat0 m c).share w = fullShare := by
  unfold Dat.share; split <;> rfl

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ ∅ (Finset.Subset.refl _) launch0.toP rfl (fun c => (body0 m c).loose)
    (fun _ => 0) O₀ (fun c => (owed_first m c).trans (zero_add _).symm)
    (fun c => owed_last m c) (fun _ => rfl) (fun c w => share_full m c w)
    (V₁ m) (V₂ m) (fun _ b hb => absurd hb (by rw [Finset.sdiff_self]; exact Finset.notMem_empty b))
    (Tk m) (Yk (F := F)) (Xk m) (Yk (F := F)) (hopen m) (hin0 m) (hout0 m)
    (fun c => by iintro H; imodintro; iexact H)
    (fun _ => 0)
    ⟨fun c w s => by rw [L_tc]; exact Finset.mem_singleton_self _, fun c w s => Nat.le_of_eq (lv_stage w s), fun c t g i h => cut_owed m c t g i h⟩
    (fun _ => iprop(emp))
    (fun _ _ => rfl) (fun c w => arrs_after m c w)

/-! ## The host's operations, and the program as a list -/

/-- The buffers outside the call. -/
def bufs : Finset (DevRef τ sig) := (StableHlo.tcRefs τ sig).filter fun b => ¬ b.isScoped

theorem bufs_arr : bufs = Pipeline.arrRefs (τ := τ) spec0 := by decide

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

def V₀ (c : Dev nD) : Valuation τ sig (Elt F) := fun b => m (c, b)

/-- What a device carries past the host's operations. -/
def Rides (c : Dev nD) : sProp 𝕄 := iprop((∃ r, prngReg c r) ∗ Tk m c ∗ ∃ Ws, owes (c : Thread nD τ) (O₀ c) Ws)

theorem ops_sub : ∀ op ∈ (hostOps0 : List (HloOp τ sig (Elt F))), op.bufs ⊆ bufs := by
  refine List.forall_iff_forall_mem.mp ?_
  simp only [List.Forall]
  exact ⟨by show ({Proc.devRef .tc main_c} : Finset (DevRef τ sig)) ⊆ bufs; decide, by show ({Proc.devRef .tc main_c_0} : Finset (DevRef τ sig)) ⊆ bufs; decide,
    by show ({Proc.devRef .tc main_c_1} : Finset (DevRef τ sig)) ⊆ bufs; decide⟩

def host : Pipeline.HostSeg (Name := ℕ) (U := UU) (pcfgs (F := F)) defs₀ 𝒱₀ L lv :=
  Pipeline.HostSeg.ofOps _ _ _ _ _ bufs hostOps0 ops_sub (List.forall_iff_forall_mem.mp hostOps0_fresh) (V₀ m) (Rides m)

def segs : List (Pipeline.Seg (pcfgs (F := F)) adm (pdats m) () defs₀ 𝒱₀ L lv) := [.host (host m), .region (reg m)]

theorem main_eq (c : Dev nD) : main (F := F) c = Pipeline.Seg.run (segs m) :=
  main_segs adm (pdats m) () 𝒱₀ L lv (host m) (reg m) rfl c

theorem reg_pre (c : Dev nD) : iprop(StableHlo.held (c : Thread nD τ) bufs (V₁ m c) ∗ Rides m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) ∅ (V₁ m c) ∗ emp) ∗ Tk m c ∗ ∃ Wd, owes (c : Thread nD τ) (0 + O₀ c) Wd)
  rw [zero_add, ← bufs_arr, show (StableHlo.held (c.tc : Thread nD τ) ∅ (V₁ m c) : sProp 𝕄) = BI.emp from bigSep_empty]
  unfold Rides
  iintro ⟨Hh, Hp, HT, HO⟩
  isplitl [Hh]; · iexact Hh
  isplitl [Hp]; · iexact Hp
  isplitr
  · isplitr <;> iempintro
  isplitl [HT]; · iexact HT
  iexact HO

theorem reg_post (c : Dev nD) : (reg m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) ∅ (V₂ m c) ∗ emp) ∗ Yk (F := F) c ∗ ∃ Wd, owes (c : Thread nD τ) (0 : CellTallies nD τ sig Unit) Wd) ⊢ _
  rw [← bufs_arr]
  unfold Yk
  iintro ⟨Hh, -, -, Hb, HO⟩
  isplitl [Hh Hb]
  · isplitl [Hh]; · iexact Hh
    iexact Hb
  iexact HO

/-! ## The tokens -/

/-- The duties: three at each barrier, one at each copy's end. -/
abbrev Duty := Fin 3 ⊕ KK
def dutyAt : Duty → SemLoc sig × ℕ × Fin 3
  | .inl k => (.reg barS, 0, k)
  | .inr k => (osem k, 0, 0)
theorem dutyAt_inj : Function.Injective dutyAt := by
  rintro (a | a) (b | b) h
  · exact congrArg Sum.inl (congrArg (fun t : SemLoc sig × ℕ × Fin 3 => t.2.2) h)
  · exact absurd (congrArg Prod.fst h).symm (osem_ne_bar b)
  · exact absurd (congrArg Prod.fst h) (osem_ne_bar a)
  · exact congrArg Sum.inr (osem_inj (congrArg Prod.fst h))

def allToks : Finset (GSem nD τ sig × ℕ × Fin 3) :=
  Finset.univ.map ⟨fun cd : Dev nD × Duty => (((cd.1 : Thread nD τ), (dutyAt cd.2).1), (dutyAt cd.2).2), fun _ _ h =>
    Prod.ext (congrArg (fun t : GSem nD τ sig × ℕ × Fin 3 => t.1.1.1) h)
      (dutyAt_inj (Prod.ext (congrArg (fun t : GSem nD τ sig × ℕ × Fin 3 => t.1.2) h) (congrArg (fun t : GSem nD τ sig × ℕ × Fin 3 => t.2) h)))⟩

theorem disjoint_cells : Disjoint barCells scCells := by
  rw [Finset.disjoint_left]
  intro g h1 h2
  obtain ⟨c, -, rfl⟩ := Finset.mem_map.mp h1
  obtain ⟨ck, -, h⟩ := Finset.mem_map.mp h2
  exact osem_ne_bar ck.2 (congrArg Prod.snd h)

def bnE (k : Fin 3) : Dev nD ≃ Dev nD := ⟨bn k, nb k, nb_bn k, bn_nb k⟩
def tgE (j : J) : Dev nD ≃ Dev nD := ⟨tg j, sg j, sg_tg j, tg_sg j⟩

/-- Every token, dealt to the device that pays. -/
theorem deal_toks : (bigSep allToks fun x => (dutyTok ER x.1 x.2.1 x.2.2 : sProp 𝕄)) ⊢ bigSep Finset.univ fun c : Dev nD => toks (F := F) c := by
  unfold allToks
  rw [bigSep_map, bigSep_univ_prod]
  have h (c : Dev nD) : (bigSep Finset.univ fun d : Duty => (dutyTok ER ((c : Thread nD τ), (dutyAt d).1) (dutyAt d).2.1 (dutyAt d).2.2 : sProp 𝕄))
      = iprop((dutyTok ER (barCell c) 0 0 ∗ dutyTok ER (barCell c) 0 1 ∗ dutyTok ER (barCell c) 0 2)
        ∗ (bigSep Finset.univ fun j : J => (dutyTok ER (ccell 0 c j) 0 0 : sProp 𝕄))
        ∗ (bigSep Finset.univ fun j : J => (dutyTok ER (ccell 1 c j) 0 0 : sProp 𝕄))) := by
    rw [bigSep_univ_sum, bigSep_univ_prod, BI.bigSep_fin_two,
      show (Finset.univ : Finset (Fin 3)) = {0, 1, 2} from by decide, bigSep_insert (by decide), bigSep_insert (by decide), bigSep_singleton]
    rfl
  refine (Entails.of_eq (bigSep_congr fun c _ => h c)).trans ?_
  unfold toks
  rw [bigSep_sep', bigSep_sep', bigSep_sep', bigSep_sep', bigSep_sep', bigSep_sep', bigSep_sep', bigSep_sep']
  rw [bigSep_univ_equiv (bnE 0) (fun c : Dev nD => (dutyTok ER (barCell c) 0 0 : sProp 𝕄)),
    bigSep_univ_equiv (bnE 1) (fun c : Dev nD => (dutyTok ER (barCell c) 0 1 : sProp 𝕄)),
    bigSep_univ_equiv (bnE 2) (fun c : Dev nD => (dutyTok ER (barCell c) 0 2 : sProp 𝕄)),
    bigSep_univ_comm (fun (c : Dev nD) (j : J) => (dutyTok ER (ccell 1 c j) 0 0 : sProp 𝕄)),
    bigSep_congr (fun (j : J) _ => bigSep_univ_equiv (tgE j) (fun c : Dev nD => (dutyTok ER (ccell 1 c j) 0 0 : sProp 𝕄))),
    bigSep_univ_comm (fun (j : J) (c : Dev nD) => (dutyTok ER (ccell 1 (tgE j c) j) 0 0 : sProp 𝕄))]
  exact BI.Entails.refl _

/-! ## The credits -/

theorem sum_cell (e : Dev nD ≃ Dev nD) (sm : SemLoc sig) (n : ℕ) (c : Dev nD) :
    ∑ d : Dev nD, (tallyAt ((e d : Thread nD τ), sm) () n : CellTallies nD τ sig Unit) ((c : Thread nD τ), sm) () = n := by
  rw [Finset.sum_eq_single (e.symm c)]
  · rw [e.apply_symm_apply, tallyAt_apply]; exact if_pos ⟨rfl, rfl⟩
  · intro d _ hd
    rw [tallyAt_apply]
    refine if_neg fun h => hd ?_
    have := congrArg (fun g : GSem nD τ sig => g.1.1) h.1
    exact (e.symm_apply_eq.mpr this).symm
  · intro h; exact absurd (Finset.mem_univ _) h

theorem tally_other {g g' : GSem nD τ sig} (n : ℕ) (h : g ≠ g') : (tallyAt g () n : CellTallies nD τ sig Unit) g' () = 0 := by
  rw [tallyAt_apply]; exact if_neg fun hh => h hh.1.symm

theorem ccell_ne {i : Fin 2} {c d : Dev nD} {j j' : J} (h : j' ≠ j) : ccell i d j' ≠ ccell i c j := fun e =>
  h (congrArg Prod.snd (osem_inj (a₁ := (i, j')) (a₂ := (i, j)) (congrArg Prod.snd e)))
theorem ccell_ne_bar {i : Fin 2} {c d : Dev nD} {j : J} : ccell i d j ≠ barCell c := fun e => osem_ne_bar (i, j) (congrArg Prod.snd e)

theorem dO_at (d c : Dev nD) (j : J) :
    dO d 0 (ccell 1 c j) () = (tallyAt ((tgE j d : Thread nD τ), .dma (csem 1 j)) () (amt j) : CellTallies nD τ sig Unit) (ccell 1 c j) () := by
  unfold dO
  rw [Finset.sum_apply, Finsupp.finset_sum_apply, Finset.sum_eq_single j]
  · rfl
  · intro j' _ hj'
    exact tally_other _ (ccell_ne hj')
  · intro h; exact absurd (Finset.mem_filter.mpr ⟨Finset.mem_univ j, Nat.zero_le (num j)⟩) h
theorem dO_bar (d c : Dev nD) : dO d 0 (barCell c) () = 0 := by
  unfold dO
  rw [Finset.sum_apply, Finsupp.finset_sum_apply]
  exact Finset.sum_eq_zero fun j _ => tally_other _ ccell_ne_bar

theorem O₀_apply (d : Dev nD) (g : GSem nD τ sig) : O₀ d g () = dO d 0 g () + (tallyAt (barCell (bnE 2 d)) () 1 : CellTallies nD τ sig Unit) g ()
    + (tallyAt (barCell (bnE 1 d)) () 1 : CellTallies nD τ sig Unit) g () + (tallyAt (barCell (bnE 0 d)) () 1 : CellTallies nD τ sig Unit) g () := rfl

theorem credit_bar (c : Dev nD) :
    tallyOn (barCell c) (launchCredit (Pipeline.owing O₀) 0 (barCell c)) = (tallyAt (barCell c) () 3 : CellTallies nD τ sig Unit) := by
  unfold tallyAt
  refine congrArg _ (Finsupp.ext fun u => ?_)
  cases u
  rw [Pipeline.launchCredit_owing, Finsupp.single_eq_same]
  simp only [O₀_apply, dO_bar, Finset.sum_add_distrib, sum_cell, Finset.sum_const_zero]
theorem credit_copy (c : Dev nD) (j : J) :
    tallyOn (ccell 1 c j) (launchCredit (Pipeline.owing O₀) 0 (ccell 1 c j)) = (tallyAt (ccell 1 c j) () (amt j) : CellTallies nD τ sig Unit) := by
  unfold tallyAt
  refine congrArg _ (Finsupp.ext fun u => ?_)
  cases u
  rw [Pipeline.launchCredit_owing, Finsupp.single_eq_same]
  have h (d e : Dev nD) : (tallyAt (barCell e) () 1 : CellTallies nD τ sig Unit) (ccell 1 c j) () = 0 := tally_other _ ccell_ne_bar.symm
  simp only [O₀_apply, dO_at, Finset.sum_add_distrib, sum_cell]
  rw [Finset.sum_eq_zero fun d _ => h d _, Finset.sum_eq_zero fun d _ => h d _, Finset.sum_eq_zero fun d _ => h d _]
  rfl

def arrE : J ↪ SemLoc sig := ⟨fun j => osem (1, j), fun _ _ h => congrArg Prod.snd (osem_inj h)⟩

theorem deal_creds (c : Dev nD) : (Pipeline.launchCred O₀ c : sProp 𝕄) ⊢ creds (F := F) c := by
  unfold Pipeline.launchCred creds
  rw [bigSep_univ_at _ (SemLoc.reg barS), credit_bar]
  refine sep_mono_right ?_
  refine (bigSep_subset (t := Finset.univ.map arrE) fun sm h => ?_).trans ?_
  · obtain ⟨j, -, rfl⟩ := Finset.mem_map.mp h
    exact Finset.mem_erase.mpr ⟨osem_ne_bar (1, j), Finset.mem_univ _⟩
  · rw [bigSep_map]
    exact Entails.of_eq (bigSep_congr fun j _ => congrArg cred (credit_copy c j))

/-! ## The launch -/

def u₀ : UU :=
  (initOf (Pipeline.cells (Pipeline.pin (pcfgs (F := F)) adm) cellOf_inj) (Pipeline.launchToks (Pipeline.pin (pcfgs (F := F)) adm) cellOf_inj),
    launchOf barCells scCells allToks)

/-- The protocol's launch element, kept on one device until every device is at hand. -/
def G (c : Dev nD) : sProp 𝕄 := if c = 0 then BI.own (ER (launchOf barCells scCells allToks)) else iprop(emp)
theorem G_all : bigSep Finset.univ (G (F := F)) = BI.own (ER (launchOf barCells scCells allToks)) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G
  rw [if_pos rfl]
  exact BI.equiv_iff.mp sep_emp

abbrev T₀ (c : Dev nD) : sProp 𝕄 := iprop(StableHlo.held (c : Thread nD τ) bufs (V₀ m c) ∗ Rides m c)
abbrev Tₙ (c : Dev nD) : sProp 𝕄 := iprop(StableHlo.held (c : Thread nD τ) bufs (V₂ m c) ∗ semVal (barCell c) 0)

/-- What a device holds at the launch besides the protocol's share. -/
def Plain (c : Dev nD) : sProp 𝕄 :=
  iprop(StableHlo.held (c : Thread nD τ) bufs (V₀ m c) ∗ creds (F := F) c ∗ owes (c : Thread nD τ) (O₀ c) ∅ ∗ ∃ r, prngReg c r)

theorem T₀_intro (κ : GSem nD τ sig → ℕ) (c : Dev nD) : iprop(records (Xm m) (Wm m) κ ∗ (linear (F := F) c ∗ Plain m c)) ⊢ T₀ m c := by
  unfold Plain T₀ Rides Tk
  iintro ⟨#HR, Hl, Hh, Hc, HO, Hp⟩
  isplitl [Hh]; · iexact Hh
  isplitl [Hp]; · iexact Hp
  isplitl [Hl Hc]
  · iexists κ
    isplitr; · iexact HR
    isplitl [Hl]; · iexact Hl
    iexact Hc
  iexists ∅
  iexact HO

theorem sems_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem bars_eq (Φ : GSem nD τ sig → sProp 𝕄) : bigSep barCells Φ = bigSep Finset.univ fun c : Dev nD => Φ (barCell c) :=
  bigSep_map (s := Finset.univ) barEmb (Φ := Φ)
theorem opens_eq : bigSep scCells (fun g => (openTok ER g : sProp 𝕄)) = bigSep Finset.univ fun c : Dev nD => opens (F := F) c := by
  unfold scCells
  rw [bigSep_map, bigSep_univ_prod]
  rfl

/-- What the launch gives one device. -/
abbrev Given (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G (F := F) c)

theorem given_plain (c : Dev nD) : Given m ρ c ⊢ iprop(Plain m c ∗ (semVal (barCell c) 0 ∗ G (F := F) c)) := by
  unfold Given
  rw [show unscopedBufs c (fun b => m ((c : Thread nD τ).loc b)) = StableHlo.held (c : Thread nD τ) bufs (V₀ m c) from unscoped_held c (V₀ m c), sems_bar]
  unfold Plain
  iintro ⟨Hh, Hs, HO, Hc, Hp, HG⟩
  isplitl [Hh HO Hc Hp]
  · isplitl [Hh]; · iexact Hh
    isplitl [Hc]; · iapply (deal_creds (F := F) c) $$ Hc
    isplitl [HO]; · iexact HO
    iexists (ρ c); iexact Hp
  isplitl [Hs]; · iexact Hs
  iexact HG

theorem init : iprop((bigSep Finset.univ fun c : Dev nD => Given m ρ c) ∗ levAts L lv) ⊢ (|={Set.univ}=> bigSep Finset.univ (T₀ m) : sProp 𝕄) := by
  iintro ⟨H, -⟩
  ihave H1 := (show (bigSep Finset.univ fun c : Dev nD => Given m ρ c) ⊢ bigSep Finset.univ fun c : Dev nD => iprop(Plain m c ∗ (semVal (barCell c) 0 ∗ G (F := F) c))
    from bigSep_mono fun c _ => given_plain m ρ c) $$ H
  ihave H2 := (pair_off (F := F)) $$ H1
  icases H2 with ⟨HP, H3⟩
  ihave H4 := (pair_off (F := F)) $$ H3
  icases H4 with ⟨Hv, HG⟩
  imod (Rounds.fund_launch ER (Rd (Xm m) (Wm m)) disjoint_cells (fun g _ h => h) allToks) $$ [Hv HG] with ⟨%κ, -, #Hinv, #Hr, Hat, Hop, Htok⟩
  · isplitl [Hv]
    · iapply (Entails.of_eq (bars_eq (F := F) fun g => (semVal g 0 : sProp 𝕄)).symm) $$ Hv
    · iapply (Entails.of_eq (G_all (F := F))) $$ HG
  imodintro
  iapply (bigSep_with_persistent (R := records (Xm m) (Wm m) κ) (Φ := fun c => iprop(linear (F := F) c ∗ Plain m c)) fun c _ => T₀_intro m κ c)
  isplitr
  · unfold records
    isplitr; · iexact Hinv
    iexact Hr
  iapply pair_up
  isplitr [HP]
  · unfold linear
    iapply pair_up
    isplitl [Hat]; · iapply (Entails.of_eq (bars_eq (F := F) fun g => (atPos ER g 0 ∅ 0 : sProp 𝕄))) $$ Hat
    iapply pair_up
    isplitl [Hop]; · iapply (Entails.of_eq (opens_eq (F := F))) $$ Hop
    iapply (deal_toks (F := F)) $$ Htok
  · iexact HP

/-! ## The run -/

theorem unscoped_eq : ∀ sm : SemLoc sig, sm.isScoped .tc = false → sm = .reg barS := by decide

theorem held_end (c : Dev nD) : (StableHlo.held (c : Thread nD τ) bufs (V₂ m c) : sProp 𝕄)
    ⊢ iprop(((c : Thread nD τ).loc main_arg0 ↦{fullShare} Xm m c) ∗ ((c : Thread nD τ).loc main_arg1 ↦{fullShare} Wm m c)
      ∗ ((c : Thread nD τ).loc main_v1 ↦{fullShare} Om m c)) := by
  have h : (StableHlo.held (c : Thread nD τ) {Proc.devRef .tc main_arg0, Proc.devRef .tc main_arg1, Proc.devRef .tc main_v1} (V₂ m c) : sProp 𝕄)
      = iprop(((c : Thread nD τ).loc main_arg0 ↦{fullShare} Xm m c) ∗ ((c : Thread nD τ).loc main_arg1 ↦{fullShare} Wm m c)
      ∗ ((c : Thread nD τ).loc main_v1 ↦{fullShare} Om m c)) := by
    unfold StableHlo.held
    rw [bigSep_insert (by decide), bigSep_insert (by decide), bigSep_singleton, ← V₂_x, ← V₂_w, ← V₂_out]
    rfl
  rw [← h]
  exact bigSep_subset (by decide)

set_option backward.isDefEq.respectTransparency.types false in
/-- From any memory with the counters at zero, every fair run of the program on all devices ends; the arguments are
    unchanged, the result is the protocol's, and every counter is back at zero. -/
theorem run_main : θ_run defs (onTc (τ := τ) (main (F := F))) (s₀ m ρ)
    (fun r => (∀ c : Dev nD, r.2.mem ((c : Thread nD τ).loc main_arg0) = Xm m c ∧ r.2.mem ((c : Thread nD τ).loc main_arg1) = Wm m c
        ∧ r.2.mem ((c : Thread nD τ).loc main_v1) = Om m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = Xm m c ∧ s.mem ((c : Thread nD τ).loc main_arg1) = Wm m c
      ∧ s.mem ((c : Thread nD τ).loc main_v1) = Om m c) ∧ s.sem (barCell c) = 0)
    (hfin := fun c s' => by
      dsimp only [Tₙ]
      iintro ⟨⟨Hh, Hb⟩, HSI⟩
      ihave He := (held_end m c) $$ Hh
      icases He with ⟨Hx, Hw, Ho⟩
      icombine HSI Hx gives %hx
      icombine HSI Hw gives %hw
      icombine HSI Ho gives %ho
      icombine HSI Hb gives %hb
      imodintro
      isplitr
      · ipureintro
        exact ⟨⟨Buf.eq_of_forall_mem_univ hx, Buf.eq_of_forall_mem_univ hw, Buf.eq_of_forall_mem_univ ho⟩, by simpa using hb⟩
      iexact HSI)
    (hQ := fun s h hs => ⟨fun c => (h c).1,
      sem_eq_zero hs fun c sm hsm => by
        obtain rfl := unscoped_eq sm hsm
        exact (h c).2⟩)

end Cert.Proof.Ring
-- ==== Proof.Frames.lean ====
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

/-! # The frames

The run, read at the arguments and the counters. -/
@[expose] public section

noncomputable section

namespace Cert.Proof

open Idealize.ShloMosaic Idealize.SL.Sem

theorem frame_ideal : Cert.quiescent_KernelIdeal := fun m ρ _ =>
  (θ_run Cert.KernelIdeal.defs _ _).mono (fun _ h => ⟨fun c => ⟨(h.1 c).1, (h.1 c).2.1⟩, h.2⟩) (Ring.run_main (F := Ideal) m ρ)

/-- The frame, stated of the idealized text at the bits. -/
def BitsFrame : Prop :=
  ∀ (m : (ℓ : Loc Cert.KernelIdeal.nD Cert.KernelIdeal.τ Cert.KernelIdeal.sig) → Buf (Elt Bits) ℓ) (ρ : Dev Cert.KernelIdeal.nD → PrngReg), True →
    θ_run (Cert.KernelIdeal.defs (F := Bits)) (onTc (τ := Cert.KernelIdeal.τ) (Cert.KernelIdeal.main (F := Bits))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0)

/-- The same run at the bits. -/
theorem frame_bits : BitsFrame := fun m ρ _ =>
  (θ_run Cert.KernelIdeal.defs _ _).mono (fun _ h => ⟨fun c => ⟨(h.1 c).1, (h.1 c).2.1⟩, h.2⟩) (Ring.run_main (F := Bits) m ρ)

/-- The two programs have the same text, so the two statements are one. -/
theorem same_text : BitsFrame = Cert.quiescent_Kernel := by chain_rfl

theorem frame_kernel : Cert.quiescent_Kernel := same_text.mp frame_bits

theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩) (Cert.ReferenceIdeal.Value.run (F := Ideal) m ρ)

end Cert.Proof
-- ==== Proof.Terms.lean ====
module

public import proofs.«01_k».proof.Proof.Vals
public import Idealize.ShloMosaic.Lib.MatmulPlain
public import Idealize.ShloMosaic.Lib.IdealHost

/-! # The running sums over the extended reals

A device's product, at an entry, is a sum over its 128 columns of activations. What a ring carries after `n`
hops is the sum of the products of the last `n + 1` devices it went through. -/
@[expose] public section

noncomputable section

namespace Cert.Proof.Ring

open Idealize.ShloMosaic Idealize.ShloMosaic.ValueIdx Idealize.SL.Sem Cert.KernelIdeal Cert.KernelIdeal.Gen

attribute [local irreducible] look16 look32 nextW prevW wordOf

/-- Indices of two coordinates are equal when their coordinates are. -/
theorem idx2_ext {d : Fin 2 → ℕ} {i j : (⟨2, d⟩ : Shape).Idx} (h0 : (i 0).val = (j 0).val) (h1 : (i 1).val = (j 1).val) : i = j := by
  funext a
  apply Fin.ext
  match a with
  | ⟨0, _⟩ => exact h0
  | ⟨1, _⟩ => exact h1

/-- A row of the activations at a column, and a column of the weights at a row. -/
def rowAt (R : ℕ) (k : Fin 128) : S4096x128.Idx := ix2 ⟨R % 4096, Nat.mod_lt _ (by decide)⟩ k
def colAt (k : Fin 128) (C : ℕ) : S128x2048.Idx := ix2 k ⟨C % 2048, Nat.mod_lt _ (by decide)⟩

section
variable (X : Dev nD → Vec Ideal S4096x128 .bf16) (W : Dev nD → Vec Ideal S128x2048 .bf16)

/-- A device's product at a row and a column. -/
def term (c : Dev nD) (R C : ℕ) : EReal := ∑ k : Fin 128, (X c (rowAt R k) : EReal) * (W c (colAt k C) : EReal)

theorem epair_le : ∀ q : Fin 16, epair q ≤ 3840 := by decide

theorem rowsX_at (c : Dev nD) (q : Fin 16) (r : Fin 256) (k : Fin 128) :
    rowsX X c q (ix2 r k) = X c (rowAt (epair q + r.val) k) := by
  have hq := epair_le q
  have hr := r.isLt
  refine congrArg (X c) (idx2_ext ?_ ?_)
  · show epair q + 1 * r.val = (epair q + r.val) % 4096
    omega
  · show 0 + 1 * k.val = k.val
    omega

theorem colsW_at (c : Dev nD) (d : Fin 2) (k : Fin 128) (l : Fin 1024) :
    colsW W c d (ix2 k l) = W c (colAt k (1024 * d.val + l.val)) := by
  have hd := d.isLt
  have hl := l.isLt
  refine congrArg (W c) (idx2_ext ?_ ?_)
  · show 0 + 1 * k.val = k.val
    omega
  · show 1024 * d.val + 1 * l.val = (1024 * d.val + l.val) % 2048
    omega

theorem first_at (c : Dev nD) (q : Fin 16) (d : Fin 2) (r : Fin 256) (l : Fin 1024) :
    first2 (rowsX X c q) (colsW W c d) (ix2 r l) = term X W c (epair q + r.val) (1024 * d.val + l.val) := by
  unfold first2
  rw [shapeCast_self]
  refine (Ideal.matmul_plain_apply (φ₁ := .bf16) (φ₂ := .bf16) (M := 256) (K := 128) (N := 1024) none (rowsX X c q) (colsW W c d)
    (constant S256x1024 .f32 0x00000000#32) r l).trans ?_
  have h0 : (constant (F := Ideal) S256x1024 .f32 0x00000000#32) (ix2 r l) = (0 : EReal) := Ideal.ofBits_zero_f32
  rw [h0, zero_add]
  exact Finset.sum_congr rfl fun k _ => by rw [rowsX_at, colsW_at]

theorem prodV_at (c : Dev nD) (q : Fin 16) (r : Fin 256) (l : Fin 2048) :
    prodV (rowsX X c q) (W c) (ix2 r l) = term X W c (epair q + r.val) l.val := by
  unfold prodV
  rw [shapeCast_self, shapeCast_self]
  refine (Ideal.matmul_plain_apply (φ₁ := .bf16) (φ₂ := .bf16) (M := 256) (K := 128) (N := 2048) none (rowsX X c q) (W c)
    (constant S256x2048 .f32 0x00000000#32) r l).trans ?_
  have h0 : (constant (F := Ideal) S256x2048 .f32 0x00000000#32) (ix2 r l) = (0 : EReal) := Ideal.ofBits_zero_f32
  rw [h0, zero_add]
  refine Finset.sum_congr rfl fun k _ => ?_
  rw [rowsX_at]
  refine congrArg (_ * W c ·) (idx2_ext rfl ?_)
  show l.val = l.val % 2048
  have := l.isLt
  omega

theorem prodQ_at (d : Fin 2) (h : ℕ) (c : Dev nD) (r : Fin 256) (l : Fin 1024) :
    prodQ X W d h c (ix2 r l) = term X W c (epair (qAt d h c) + r.val) (1024 * d.val + l.val) := by
  have hd := d.isLt
  have hl := l.isLt
  have hr := r.isLt
  refine Eq.trans ?_ (prodV_at X W c (qAt d h c) r ⟨1024 * d.val + l.val, by omega⟩)
  have hq : (256 * (qAt d h c).val + 1 * r.val) / 256 = (qAt d h c).val := by omega
  refine congr (congrArg (fun q => prodV (rowsX X c q) (W c)) (Fin.ext hq)) (idx2_ext ?_ ?_)
  · show (256 * (qAt d h c).val + 1 * r.val) % 256 = r.val
    omega
  · show 1024 * d.val + 1 * l.val = 1024 * d.val + l.val
    omega

theorem chunkV_at (s : Fin 4) (p : Vec Ideal S256x1024 .bf16) (r l : Fin 256) :
    chunkV s p (ix2 r l) = p (ix2 r ⟨256 * s.val + l.val, by have := s.isLt; have := l.isLt; omega⟩) :=
  congrArg p (idx2_ext (show 0 + r.val = r.val by omega) rfl)

theorem halfV_at (o : Fin 2) (v : Vec Ideal S256x256 .bf16) (r : Fin 128) (l : Fin 256) :
    halfV o v (ix2 r l) = v (ix2 ⟨128 * o.val + r.val, by have := o.isLt; have := r.isLt; omega⟩ l) :=
  congrArg v (idx2_ext rfl (show 0 + l.val = l.val by omega))

/-- The block a direction's chunks at a device are of, after `n` hops. -/
def qOf (d : Fin 2) (n : ℕ) (c : Dev nD) : Fin 16 :=
  ⟨(if d = 0 then (rpos c).val + 31 - n else (rpos c).val + n + 1) % 16, Nat.mod_lt _ (by decide)⟩

theorem qOf_first : ∀ (d : Fin 2) (c : Dev nD), qFirst d c = qOf d 0 c := by decide +kernel
theorem qOf_at : ∀ (d : Fin 2) (n : Fin 15) (c : Dev nD), qAt d n.val c = qOf d (n.val + 1) c := by decide +kernel
theorem qOf_from : ∀ (d : Fin 2) (n : Fin 15) (c : Dev nD), qOf d n.val (from_ d c) = qOf d (n.val + 1) c := by decide +kernel
theorem qOf_last : ∀ (d : Fin 2) (c : Dev nD), qOf d 15 c = rpos c := by decide +kernel

/-- What a ring carries after `n` hops: the products of the devices it went through, added. -/
theorem val_at (d : Fin 2) (s : Fin 4) (r l : Fin 256) : ∀ (n : ℕ), n ≤ 15 → ∀ c : Dev nD,
    val X W d n c s (ix2 r l)
      = ∑ t ∈ Finset.range (n + 1), term X W ((from_ d)^[t] c) (epair (qOf d n c) + r.val) (1024 * d.val + (256 * s.val + l.val))
  | 0, _, c => by
    rw [Finset.sum_range_one]
    show chunkV s (first2 (rowsX X c (qFirst d c)) (colsW W c d)) (ix2 r l) = _
    rw [chunkV_at, first_at, qOf_first]
    rfl
  | n + 1, hn, c => by
    rw [Finset.sum_range_succ']
    show (val X W d n (from_ d c) s (ix2 r l) : EReal) + (chunkV s (prodQ X W d n c) (ix2 r l) : EReal) = _
    rw [chunkV_at, prodQ_at, val_at d s r l n (by omega) (from_ d c), qOf_from d ⟨n, by omega⟩ c, qOf_at d ⟨n, by omega⟩ c]
    rfl

theorem mineV_at (d : Fin 2) (c : Dev nD) (s : Fin 4) (r : Fin 128) (l : Fin 256) :
    mineV X W d c s (ix2 r l)
      = ∑ t ∈ Finset.range 16, term X W ((from_ d)^[t] c) (128 * c.val + r.val) (1024 * d.val + (256 * s.val + l.val)) := by
  unfold mineV
  rw [halfV_at, val_at X W d s _ l 15 (by omega) c, qOf_last]
  have h := epair_rpos c
  have e : epair (rpos c) + (128 * (own2 c).val + r.val) = 128 * c.val + r.val := by
    show epair (rpos c) + (128 * (c.val % 2) + r.val) = _
    omega
  rw [← e]

theorem pairV_at (d : Fin 2) (c : Dev nD) (s : Fin 4) (r : Fin 128) (l : Fin 256) :
    pairV X W d c s (ix2 r l)
      = ∑ t ∈ Finset.range 16, term X W ((from_ d)^[t] (pt c)) (128 * c.val + r.val) (1024 * d.val + (256 * s.val + l.val)) := by
  unfold pairV
  rw [halfV_at, val_at X W d s _ l 15 (by omega) (pt c), qOf_last, rpos_pt]
  have h := epair_rpos c
  have e : epair (rpos c) + (128 * (own2 c).val + r.val) = 128 * c.val + r.val := by
    show epair (rpos c) + (128 * (c.val % 2) + r.val) = _
    omega
  rw [← e]

end

/-- The two rings, each walked from a device or its partner, are all the devices. -/
theorem walks : ∀ (d : Fin 2) (c : Dev nD),
    ((List.finRange 16).map (fun t => (from_ d)^[t.val] c) ++ (List.finRange 16).map (fun t => (from_ d)^[t.val] (pt c))).Perm
      (List.finRange 32) := by decide +kernel

/-- So the sums along the two rings are the sum over all the devices. -/
theorem sum_walks (d : Fin 2) (c : Dev nD) (f : Dev nD → EReal) :
    (∑ t ∈ Finset.range 16, f ((from_ d)^[t] c)) + ∑ t ∈ Finset.range 16, f ((from_ d)^[t] (pt c)) = ∑ e : Fin 32, f e := by
  rw [Finset.sum_range, Finset.sum_range, Fin.sum_univ_def, Fin.sum_univ_def, Fin.sum_univ_def, ← ((walks d c).map f).sum_eq,
    List.map_append, List.sum_append, List.map_map, List.map_map]
  rfl

/-- A sum over 32 blocks of 128 is the sum over the 4096. -/
theorem sum_blocks (f : ℕ → EReal) : (∑ e : Fin 32, ∑ k : Fin 128, f (128 * e.val + k.val)) = ∑ K : Fin 4096, f K.val := by
  rw [← Fintype.sum_prod_type' (fun (e : Fin 32) (k : Fin 128) => f (128 * e.val + k.val))]
  refine Eq.trans (Finset.sum_congr rfl fun p _ => ?_) (Equiv.sum_comp finProdFinEquiv fun K : Fin (32 * 128) => f K.val)
  rw [finProdFinEquiv_apply_val, Nat.add_comm]

end Cert.Proof.Ring
-- ==== Proof.Algebra.lean ====
module

public import proofs.«01_k».proof.Defs
public import proofs.«01_k».proof.Proof.Launch
public import proofs.«01_k».proof.Proof.Terms
public import proofs.«01_k».proof.Proof.Gen.ReferenceIdeal.Run

/-! # The devices' results are the reference's rows

The two rings' sums, added, are a row of the whole product; its activation is the reference's. -/
@[expose] public section

noncomputable section

namespace Cert.Proof

open Idealize.ShloMosaic Idealize.SL.Sem
open Cert.Proof.Ring (term rowAt colAt idx2_ext sum_walks sum_blocks mineV_at pairV_at outB act2 Xm Wm Om run_main)

/-- The exponential is nowhere negative, so the activation's denominator is positive. -/
theorem exp_nonneg : ∀ x : EReal, 0 ≤ Ideal.exp x := fun x => by
  induction x with
  | bot => exact le_refl (0 : EReal)
  | top => exact le_top
  | coe r => rw [Ideal.exp_coe]; exact_mod_cast (Real.exp_pos r).le

/-- A number times its logistic value is the number over one plus the exponential of its negative. -/
theorem silu_eq (y : EReal) : y * Ideal.logistic y = Ideal.div y (1 + Ideal.exp (-y)) := by
  have hz : (1 : EReal) + Ideal.exp (-y) ≠ 0 := by
    have h : (0 : EReal) < 1 + Ideal.exp (-y) :=
      lt_of_lt_of_le zero_lt_one (by simpa using add_le_add_right (exp_nonneg (-y)) 1)
    exact h.ne'
  rw [Ideal.logistic, Ideal.div, Ideal.div, if_neg hz, if_neg hz, one_mul]

section
variable (x : Vec Ideal Cert.ReferenceIdeal.S4096x4096 .bf16) (w : Vec Ideal Cert.ReferenceIdeal.S4096x2048 .bf16)

/-- What the reference computes. -/
abbrev refV : FVec Ideal Cert.ReferenceIdeal.S4096x2048 .f32 :=
  Host.divf (Host.dotGeneral Cert.ReferenceIdeal.dot_S4096x4096_S4096x2048_S4096x2048_1_0_0_1_n_n none
      (extf .f32 x Cert.ReferenceIdeal.Gen.bitsLt_bf16_f32) (extf .f32 w Cert.ReferenceIdeal.Gen.bitsLt_bf16_f32))
    (addf (broadcastInDim Cert.ReferenceIdeal.S4096x2048 ![] Cert.ReferenceIdeal.Gen.bcast_S_S4096x2048 (constant Cert.ReferenceIdeal.S_ .f32 0x3F800000#32))
      (Host.exp (Host.negf (Host.dotGeneral Cert.ReferenceIdeal.dot_S4096x4096_S4096x2048_S4096x2048_1_0_0_1_n_n none
        (extf .f32 x Cert.ReferenceIdeal.Gen.bitsLt_bf16_f32) (extf .f32 w Cert.ReferenceIdeal.Gen.bitsLt_bf16_f32)))))

/-- The whole product at a row and a column. -/
def whole (R : Fin 4096) (C : Fin 2048) : EReal := ∑ K : Fin 4096, (x (ValueIdx.ix2 R K) : EReal) * (w (ValueIdx.ix2 K C) : EReal)

theorem dot_at (R : Fin 4096) (C : Fin 2048) :
    (Host.dotGeneral Cert.ReferenceIdeal.dot_S4096x4096_S4096x2048_S4096x2048_1_0_0_1_n_n none
      (extf .f32 x Cert.ReferenceIdeal.Gen.bitsLt_bf16_f32) (extf .f32 w Cert.ReferenceIdeal.Gen.bitsLt_bf16_f32)
        : FVec Ideal Cert.ReferenceIdeal.S4096x2048 .f32) (ValueIdx.ix2 R C) = whole x w R C := by
  refine (Ideal.matmul_plain_apply (φ₁ := .f32) (φ₂ := .f32) (M := 4096) (K := 4096) (N := 2048) none x w (fun _ => (0 : EReal)) R C).trans ?_
  rw [zero_add]
  rfl

theorem ref_at (R : Fin 4096) (C : Fin 2048) :
    refV x w (ValueIdx.ix2 R C) = Ideal.div (whole x w R C) (1 + Ideal.exp (-(whole x w R C))) := by
  have h1 : ((constant (F := Ideal) Cert.ReferenceIdeal.S_ .f32 0x3F800000#32) ValueIdx.ix0 : EReal) = 1 := Ideal.ofBits_one_f32
  have h := dot_at x w R C
  rw [← h, ← h1]
  rfl

variable (X : Dev Cert.KernelIdeal.nD → Vec Ideal Cert.KernelIdeal.S4096x128 .bf16)
  (W : Dev Cert.KernelIdeal.nD → Vec Ideal Cert.KernelIdeal.S128x2048 .bf16)
  (hX : ∀ c, X c = Layout.block ⟨2, ![4096, 128]⟩ ⟨2, ![4096, 4096]⟩ 1 32 c x)
  (hW : ∀ c, W c = Layout.block ⟨2, ![128, 2048]⟩ ⟨2, ![4096, 2048]⟩ 0 32 c w)

include hX hW in
/-- The devices' products, added, are the whole product. -/
theorem terms_eq (R : Fin 4096) (C : Fin 2048) : (∑ e : Fin 32, term X W e R.val C.val) = whole x w R C := by
  have hs := sum_blocks (fun K => (x (ValueIdx.ix2 R ⟨K % 4096, Nat.mod_lt _ (by decide)⟩) : EReal) * (w (ValueIdx.ix2 ⟨K % 4096, Nat.mod_lt _ (by decide)⟩ C) : EReal))
  unfold whole
  refine Eq.trans (Finset.sum_congr rfl fun e _ => Finset.sum_congr rfl fun k _ => ?_) (hs.trans (Finset.sum_congr rfl fun K _ => ?_))
  · have he := e.isLt
    have hk := k.isLt
    have hR := R.isLt
    have hC := C.isLt
    rw [hX e, hW e]
    refine congr (congrArg (fun a b => (a : EReal) * b) (congrArg x (idx2_ext ?_ ?_))) (congrArg w (idx2_ext ?_ ?_))
    · show R.val % 4096 = R.val
      omega
    · show e.val * 128 + k.val = (128 * e.val + k.val) % 4096
      omega
    · show e.val * 128 + k.val = (128 * e.val + k.val) % 4096
      omega
    · show C.val % 2048 = C.val
      omega
  · have hK : (⟨K.val % 4096, Nat.mod_lt _ (by decide)⟩ : Fin 4096) = K := Fin.ext (Nat.mod_eq_of_lt K.isLt)
    rw [hK]

/-- The activation of two numbers that make up `y`. -/
theorem act_at (a b : Vec Ideal Cert.KernelIdeal.S128x256 .bf16) (i : Cert.KernelIdeal.S128x256.Idx) (y : EReal)
    (h : (a i : EReal) + (b i : EReal) = y) : act2 a b i = y * Ideal.logistic y := by
  subst h
  rfl

include hX hW in
/-- A device's result is its block of rows of the reference's. -/
theorem out_eq (c : Dev Cert.KernelIdeal.nD) :
    outB X W c = Layout.block ⟨2, ![128, 2048]⟩ ⟨2, ![4096, 2048]⟩ 0 32 c (refV x w) := by
  funext i
  have hc : c.val < 32 := c.isLt
  have h0 : (i 0).val < 128 := (i 0).isLt
  have h1 : (i 1).val < 2048 := (i 1).isLt
  have hr : Layout.block ⟨2, ![128, 2048]⟩ ⟨2, ![4096, 2048]⟩ 0 32 c (refV x w) (by decide) i
      = refV x w (ValueIdx.ix2 ⟨128 * c.val + (i 0).val, by omega⟩ ⟨(i 1).val, h1⟩) := by
    refine congrArg (refV x w) (idx2_ext ?_ rfl)
    show c.val * 128 + (i 0).val = 128 * c.val + (i 0).val
    omega
  rw [hr, ref_at, ← silu_eq]
  unfold outB
  refine act_at _ _ _ _ ?_
  have hi : (fun a => match a with | 0 => ⟨(i 0).val, (i 0).isLt⟩ | 1 => ⟨(i 1).val % 256, Nat.mod_lt _ (by decide)⟩ : Cert.KernelIdeal.S128x256.Idx)
      = ValueIdx.ix2 ⟨(i 0).val, h0⟩ ⟨(i 1).val % 256, Nat.mod_lt _ (by decide)⟩ := idx2_ext rfl rfl
  rw [← terms_eq x w X W hX hW, ← sum_walks ⟨(i 1).val / 1024, by omega⟩ c]
  have hC : 1024 * ((i 1).val / 1024) + (256 * ((i 1).val % 1024 / 256) + (i 1).val % 256) = (i 1).val := by omega
  refine congr (congrArg (fun p q => (p : EReal) + q) ?_) ?_
  · refine (congrArg (Ring.mineV X W _ c _) hi).trans ((mineV_at X W _ c _ _ _).trans ?_)
    simp only [hC]
  · refine (congrArg (Ring.pairV X W _ c _) hi).trans ((pairV_at X W _ c _ _ _).trans ?_)
    simp only [hC]

end

theorem algebraic : Cert.algebraic_KernelIdeal_ReferenceIdeal := fun m ρ m' ρ' _ hb =>
  ⟨refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨((h.1 c).2.2).trans (out_eq _ _ (Xm m) (Wm m) (fun e => (hb e).1) (fun e => (hb e).2) c), (h.1 c).1, (h.1 c).2.1⟩)
      (run_main (F := Ideal) m ρ),
    (θ_run Cert.ReferenceIdeal.defs _ _).mono (fun _ h => h 0) (Cert.ReferenceIdeal.Value.run (F := Ideal) m' ρ')⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, algebraic⟩

end Cert.Proof

end
